-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_qk [hPre_finite_qk : Cert.Pre_finite_qk.Facts] (m : (ℓ : Loc Cert.SbIdeal.nD Cert.SbIdeal.τ Cert.SbIdeal.sig) → Buf (Elt Ideal) ℓ) : Prop :=
  ∀ c : Dev Cert.SbIdeal.nD,
    (Cert.Pre_finite_qk.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4)) (m ((c.tc : Thread Cert.SbIdeal.nD Cert.SbIdeal.τ).loc Cert.SbIdeal.main_arg5)) (m ((c.tc : Thread Cert.SbIdeal.nD Cert.SbIdeal.τ).loc Cert.SbIdeal.main_arg6))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_qk [hPre_finite_qk : Cert.Pre_finite_qk.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_qk.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3)) (m ((c.tc : Thread Cert.SbRefIdeal.nD Cert.SbRefIdeal.τ).loc Cert.SbRefIdeal.main_arg4)) (m ((c.tc : Thread Cert.SbRefIdeal.nD Cert.SbRefIdeal.τ).loc Cert.SbRefIdeal.main_arg5)) (m ((c.tc : Thread Cert.SbRefIdeal.nD Cert.SbRefIdeal.τ).loc Cert.SbRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3)
      ∧ r.2.mem ((c.tc : Thread Cert.Sb.nD Cert.Sb.τ).loc Cert.Sb.main_arg4) = m ((c.tc : Thread Cert.Sb.nD Cert.Sb.τ).loc Cert.Sb.main_arg4)
      ∧ r.2.mem ((c.tc : Thread Cert.Sb.nD Cert.Sb.τ).loc Cert.Sb.main_arg5) = m ((c.tc : Thread Cert.Sb.nD Cert.Sb.τ).loc Cert.Sb.main_arg5)
      ∧ r.2.mem ((c.tc : Thread Cert.Sb.nD Cert.Sb.τ).loc Cert.Sb.main_arg6) = m ((c.tc : Thread Cert.Sb.nD Cert.Sb.τ).loc Cert.Sb.main_arg6))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
      ∧ r.2.mem ((c.tc : Thread Cert.SbIdeal.nD Cert.SbIdeal.τ).loc Cert.SbIdeal.main_arg5) = m ((c.tc : Thread Cert.SbIdeal.nD Cert.SbIdeal.τ).loc Cert.SbIdeal.main_arg5)
      ∧ r.2.mem ((c.tc : Thread Cert.SbIdeal.nD Cert.SbIdeal.τ).loc Cert.SbIdeal.main_arg6) = m ((c.tc : Thread Cert.SbIdeal.nD Cert.SbIdeal.τ).loc Cert.SbIdeal.main_arg6))
      ∧ r.2.sem = fun _ => 0)

def quiescent_SbIdeal_pre_finite_qk [hSbIdeal : Cert.SbIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_qk m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
      ∧ r.2.mem ((c.tc : Thread Cert.SbIdeal.nD Cert.SbIdeal.τ).loc Cert.SbIdeal.main_arg5) = m ((c.tc : Thread Cert.SbIdeal.nD Cert.SbIdeal.τ).loc Cert.SbIdeal.main_arg5)
      ∧ r.2.mem ((c.tc : Thread Cert.SbIdeal.nD Cert.SbIdeal.τ).loc Cert.SbIdeal.main_arg6) = m ((c.tc : Thread Cert.SbIdeal.nD Cert.SbIdeal.τ).loc Cert.SbIdeal.main_arg6))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4)
      ∧ r.2.mem ((c.tc : Thread Cert.SbRefIdeal.nD Cert.SbRefIdeal.τ).loc Cert.SbRefIdeal.main_arg5) = m ((c.tc : Thread Cert.SbRefIdeal.nD Cert.SbRefIdeal.τ).loc Cert.SbRefIdeal.main_arg5)
      ∧ r.2.mem ((c.tc : Thread Cert.SbRefIdeal.nD Cert.SbRefIdeal.τ).loc Cert.SbRefIdeal.main_arg6) = m ((c.tc : Thread Cert.SbRefIdeal.nD Cert.SbRefIdeal.τ).loc Cert.SbRefIdeal.main_arg6))
      ∧ r.2.sem = fun _ => 0)

def quiescent_SbRefIdeal_pre_finite_qk [hSbRefIdeal : Cert.SbRefIdeal.Facts] [hPre_finite_qk : Cert.Pre_finite_qk.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_qk m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4)
      ∧ r.2.mem ((c.tc : Thread Cert.SbRefIdeal.nD Cert.SbRefIdeal.τ).loc Cert.SbRefIdeal.main_arg5) = m ((c.tc : Thread Cert.SbRefIdeal.nD Cert.SbRefIdeal.τ).loc Cert.SbRefIdeal.main_arg5)
      ∧ r.2.mem ((c.tc : Thread Cert.SbRefIdeal.nD Cert.SbRefIdeal.τ).loc Cert.SbRefIdeal.main_arg6) = m ((c.tc : Thread Cert.SbRefIdeal.nD Cert.SbRefIdeal.τ).loc Cert.SbRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def preserves_Sb_SbIdeal : Prop :=
  IdealRules.named_const.Statement Cert.SbIdeal.κ "inv_sqrt_d" .f32 0x3DB504F3#32 (((Real.sqrt 128)⁻¹ : ℝ) : EReal)
  ∧ IdealRules.named_const.Statement Cert.SbIdeal.κ "neg_log2e_inv_sqrt_d" .f32 0xBE0293EE#32 ((-((Real.sqrt 128)⁻¹ * (Real.log 2)⁻¹) : ℝ) : EReal)

def algebraic_SbIdeal_SbRefIdeal_pre_finite_qk [hSbIdeal : Cert.SbIdeal.Facts] [hSbRefIdeal : Cert.SbRefIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_qk m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)
      ∧ m' ((c.tc : Thread Cert.SbRefIdeal.nD Cert.SbRefIdeal.τ).loc Cert.SbRefIdeal.main_arg4) = m ((c.tc : Thread Cert.SbIdeal.nD Cert.SbIdeal.τ).loc Cert.SbIdeal.main_arg4)
      ∧ m' ((c.tc : Thread Cert.SbRefIdeal.nD Cert.SbRefIdeal.τ).loc Cert.SbRefIdeal.main_arg5) = m ((c.tc : Thread Cert.SbIdeal.nD Cert.SbIdeal.τ).loc Cert.SbIdeal.main_arg5)
      ∧ m' ((c.tc : Thread Cert.SbRefIdeal.nD Cert.SbRefIdeal.τ).loc Cert.SbRefIdeal.main_arg6) = m ((c.tc : Thread Cert.SbIdeal.nD Cert.SbIdeal.τ).loc Cert.SbIdeal.main_arg6)) →
    ∃ (v0 : (c : Dev Cert.SbIdeal.nD) → Buf (Elt Ideal) ((c.tc : Thread Cert.SbIdeal.nD Cert.SbIdeal.τ).loc Cert.SbIdeal.main_v11_0)) (v1 : (c : Dev Cert.SbIdeal.nD) → Buf (Elt Ideal) ((c.tc : Thread Cert.SbIdeal.nD Cert.SbIdeal.τ).loc Cert.SbIdeal.main_v11_1)) (v2 : (c : Dev Cert.SbIdeal.nD) → Buf (Elt Ideal) ((c.tc : Thread Cert.SbIdeal.nD Cert.SbIdeal.τ).loc Cert.SbIdeal.main_v11_2)) (v3 : (c : Dev Cert.SbIdeal.nD) → Buf (Elt Ideal) ((c.tc : Thread Cert.SbIdeal.nD Cert.SbIdeal.τ).loc Cert.SbIdeal.main_v11_3)) (v4 : (c : Dev Cert.SbIdeal.nD) → Buf (Elt Ideal) ((c.tc : Thread Cert.SbIdeal.nD Cert.SbIdeal.τ).loc Cert.SbIdeal.main_v11_4)) (v5 : (c : Dev Cert.SbIdeal.nD) → Buf (Elt Ideal) ((c.tc : Thread Cert.SbIdeal.nD Cert.SbIdeal.τ).loc Cert.SbIdeal.main_v11_5)) (v6 : (c : Dev Cert.SbIdeal.nD) → Buf (Elt Ideal) ((c.tc : Thread Cert.SbIdeal.nD Cert.SbIdeal.τ).loc Cert.SbIdeal.main_v11_6)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v11_0) = v0 c
          ∧ r.2.mem ((c.tc : Thread Cert.SbIdeal.nD Cert.SbIdeal.τ).loc Cert.SbIdeal.main_v11_1) = v1 c
          ∧ r.2.mem ((c.tc : Thread Cert.SbIdeal.nD Cert.SbIdeal.τ).loc Cert.SbIdeal.main_v11_2) = v2 c
          ∧ r.2.mem ((c.tc : Thread Cert.SbIdeal.nD Cert.SbIdeal.τ).loc Cert.SbIdeal.main_v11_3) = v3 c
          ∧ r.2.mem ((c.tc : Thread Cert.SbIdeal.nD Cert.SbIdeal.τ).loc Cert.SbIdeal.main_v11_4) = v4 c
          ∧ r.2.mem ((c.tc : Thread Cert.SbIdeal.nD Cert.SbIdeal.τ).loc Cert.SbIdeal.main_v11_5) = v5 c
          ∧ r.2.mem ((c.tc : Thread Cert.SbIdeal.nD Cert.SbIdeal.τ).loc Cert.SbIdeal.main_v11_6) = v6 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
          ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
          ∧ r.2.mem ((c.tc : Thread Cert.SbIdeal.nD Cert.SbIdeal.τ).loc Cert.SbIdeal.main_arg5) = m ((c.tc : Thread Cert.SbIdeal.nD Cert.SbIdeal.τ).loc Cert.SbIdeal.main_arg5)
          ∧ r.2.mem ((c.tc : Thread Cert.SbIdeal.nD Cert.SbIdeal.τ).loc Cert.SbIdeal.main_arg6) = m ((c.tc : Thread Cert.SbIdeal.nD Cert.SbIdeal.τ).loc Cert.SbIdeal.main_arg6))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v34) = v0 c
          ∧ r.2.mem ((c.tc : Thread Cert.SbRefIdeal.nD Cert.SbRefIdeal.τ).loc Cert.SbRefIdeal.main_v35) = v1 c
          ∧ r.2.mem ((c.tc : Thread Cert.SbRefIdeal.nD Cert.SbRefIdeal.τ).loc Cert.SbRefIdeal.main_v36) = v2 c
          ∧ r.2.mem ((c.tc : Thread Cert.SbRefIdeal.nD Cert.SbRefIdeal.τ).loc Cert.SbRefIdeal.main_v37) = v3 c
          ∧ r.2.mem ((c.tc : Thread Cert.SbRefIdeal.nD Cert.SbRefIdeal.τ).loc Cert.SbRefIdeal.main_v38) = v4 c
          ∧ r.2.mem ((c.tc : Thread Cert.SbRefIdeal.nD Cert.SbRefIdeal.τ).loc Cert.SbRefIdeal.main_v39) = v5 c
          ∧ r.2.mem ((c.tc : Thread Cert.SbRefIdeal.nD Cert.SbRefIdeal.τ).loc Cert.SbRefIdeal.main_v40) = v6 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3)
          ∧ r.2.mem ((c.tc : Thread Cert.SbRefIdeal.nD Cert.SbRefIdeal.τ).loc Cert.SbRefIdeal.main_arg4) = m' ((c.tc : Thread Cert.SbRefIdeal.nD Cert.SbRefIdeal.τ).loc Cert.SbRefIdeal.main_arg4)
          ∧ r.2.mem ((c.tc : Thread Cert.SbRefIdeal.nD Cert.SbRefIdeal.τ).loc Cert.SbRefIdeal.main_arg5) = m' ((c.tc : Thread Cert.SbRefIdeal.nD Cert.SbRefIdeal.τ).loc Cert.SbRefIdeal.main_arg5)
          ∧ r.2.mem ((c.tc : Thread Cert.SbRefIdeal.nD Cert.SbRefIdeal.τ).loc Cert.SbRefIdeal.main_arg6) = m' ((c.tc : Thread Cert.SbRefIdeal.nD Cert.SbRefIdeal.τ).loc Cert.SbRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v16) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v3_0)) (v1 : (c : Dev Cert.KvIdeal.nD) → Buf (Elt Ideal) ((c.tc : Thread Cert.KvIdeal.nD Cert.KvIdeal.τ).loc Cert.KvIdeal.main_v3_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3_0) = v0 c
          ∧ r.2.mem ((c.tc : Thread Cert.KvIdeal.nD Cert.KvIdeal.τ).loc Cert.KvIdeal.main_v3_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v14) = v0 c
          ∧ r.2.mem ((c.tc : Thread Cert.KvRefIdeal.nD Cert.KvRefIdeal.τ).loc Cert.KvRefIdeal.main_v16) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v85) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_Ssd_SsdIdeal : Prop :=
  True

def Claim : Prop :=
  ∃ (hSb : Cert.Sb.Facts) (hSbIdeal : Cert.SbIdeal.Facts) (hSbRefIdeal : Cert.SbRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hKv : Cert.Kv.Facts) (hKvIdeal : Cert.KvIdeal.Facts) (hKvRefIdeal : Cert.KvRefIdeal.Facts) (hMix : Cert.Mix.Facts) (hMixIdeal : Cert.MixIdeal.Facts) (hMixRefIdeal : Cert.MixRefIdeal.Facts) (hSsd : Cert.Ssd.Facts) (hSsdIdeal : Cert.SsdIdeal.Facts) (hPre_finite_qk : Cert.Pre_finite_qk.Facts),
    quiescent_Sb (hSb := hSb)
    ∧ quiescent_SbIdeal (hSbIdeal := hSbIdeal)
    ∧ quiescent_SbIdeal_pre_finite_qk (hSbIdeal := hSbIdeal) (hPre_finite_qk := hPre_finite_qk)
    ∧ quiescent_SbRefIdeal (hSbRefIdeal := hSbRefIdeal)
    ∧ quiescent_SbRefIdeal_pre_finite_qk (hSbRefIdeal := hSbRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Kv (hKv := hKv)
    ∧ quiescent_KvIdeal (hKvIdeal := hKvIdeal)
    ∧ quiescent_KvRefIdeal (hKvRefIdeal := hKvRefIdeal)
    ∧ quiescent_Mix (hMix := hMix)
    ∧ quiescent_MixIdeal (hMixIdeal := hMixIdeal)
    ∧ quiescent_MixRefIdeal (hMixRefIdeal := hMixRefIdeal)
    ∧ quiescent_Ssd (hSsd := hSsd)
    ∧ quiescent_SsdIdeal (hSsdIdeal := hSsdIdeal)
    ∧ preserves_Sb_SbIdeal
    ∧ algebraic_SbIdeal_SbRefIdeal_pre_finite_qk (hSbIdeal := hSbIdeal) (hSbRefIdeal := hSbRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Kv_KvIdeal
    ∧ algebraic_KvIdeal_KvRefIdeal (hKvIdeal := hKvIdeal) (hKvRefIdeal := hKvRefIdeal)
    ∧ preserves_Mix_MixIdeal
    ∧ algebraic_MixIdeal_MixRefIdeal (hMixIdeal := hMixIdeal) (hMixRefIdeal := hMixRefIdeal)
    ∧ preserves_Ssd_SsdIdeal
-- ==== Pre_finite_qk.lean ====
abbrev S8x2048x6144 : Shape := ⟨3, ![8, 2048, 6144]⟩
abbrev S2048x5504 : Shape := ⟨2, ![2048, 5504]⟩
abbrev S5504x2048 : Shape := ⟨2, ![5504, 2048]⟩
abbrev S2048x2048 : Shape := ⟨2, ![2048, 2048]⟩
abbrev S2048x512 : Shape := ⟨2, ![2048, 512]⟩
abbrev S512x2048 : Shape := ⟨2, ![512, 2048]⟩
abbrev S8x2048x2048 : Shape := ⟨3, ![8, 2048, 2048]⟩
abbrev S_ : Shape := ⟨0, ![]⟩

class Facts : Prop where
  slices_S8x2048x6144_S8x2048x2048_0_0_0 : S8x2048x6144.Slices ![0, 0, 0] S8x2048x2048
  bcast_S_S8x2048x2048 : S_.BroadcastsInDim S8x2048x2048 (![] : Fin 0 → Fin S8x2048x2048.rank)

variable [Facts]

def fn {F : FTy → Type} [FloatOps F] (main_arg0 : FVec F S8x2048x6144 .f32) (main_arg1 : FVec F S2048x5504 .f32) (main_arg2 : FVec F S2048x5504 .f32) (main_arg3 : FVec F S5504x2048 .f32) (main_arg4 : FVec F S2048x2048 .f32) (main_arg5 : FVec F S2048x512 .f32) (main_arg6 : FVec F S512x2048 .f32) : IVec S8x2048x2048 1 :=
  let main_v0 : FVec F S8x2048x2048 .f32 := (extractStridedSlice S8x2048x2048 ![0, 0, 0] · slices_S8x2048x6144_S8x2048x2048_0_0_0) main_arg0
  let main_v1 : FVec F S8x2048x2048 .f32 := Host.absf main_v0
  let main_cst : FVec F S_ .f32 := constant S_ .f32 0x7F800000#32
  let main_v2 : FVec F S8x2048x2048 .f32 := broadcastInDim S8x2048x2048 ![] bcast_S_S8x2048x2048 main_cst
  let main_v3 : IVec S8x2048x2048 1 := cmpf .olt main_v1 main_v2
  main_v3
-- ==== Sb.lean ====
abbrev S8x2048x6144 : Shape := ⟨3, ![8, 2048, 6144]⟩
abbrev S2048x5504 : Shape := ⟨2, ![2048, 5504]⟩
abbrev S5504x2048 : Shape := ⟨2, ![5504, 2048]⟩
abbrev S2048x2048 : Shape := ⟨2, ![2048, 2048]⟩
abbrev S2048x512 : Shape := ⟨2, ![2048, 512]⟩
abbrev S512x2048 : Shape := ⟨2, ![512, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S8x2048x1024 : Shape := ⟨3, ![8, 2048, 1024]⟩
abbrev S1x2048x128 : Shape := ⟨3, ![1, 2048, 128]⟩
abbrev S32x5504 : Shape := ⟨2, ![32, 5504]⟩
abbrev S128x2048 : Shape := ⟨2, ![128, 2048]⟩
abbrev S32x2048 : Shape := ⟨2, ![32, 2048]⟩
abbrev S32x512 : Shape := ⟨2, ![32, 512]⟩
abbrev S16x2048 : Shape := ⟨2, ![16, 2048]⟩
abbrev S2048x128 : Shape := ⟨2, ![2048, 128]⟩
abbrev S512x128 : Shape := ⟨2, ![512, 128]⟩
abbrev S512x512 : Shape := ⟨2, ![512, 512]⟩
abbrev S384x128 : Shape := ⟨2, ![384, 128]⟩
abbrev S256x128 : Shape := ⟨2, ![256, 128]⟩
abbrev S384x256 : Shape := ⟨2, ![384, 256]⟩
abbrev S512x256 : Shape := ⟨2, ![512, 256]⟩
abbrev S1x512x128 : Shape := ⟨3, ![1, 512, 128]⟩

abbrev nBuf : Space → Nat
  | .hbm => 26
  | .vmem => 38
  | .smem => 0
  | _ => 0

abbrev bufTy : (tb : Table) → Fin (tcTables nBuf tb) → BufTy
  | .hbm, ⟨0, _⟩ => ⟨S8x2048x6144, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S2048x2048, .f32⟩
  | .hbm, ⟨5, _⟩ => ⟨S2048x512, .f32⟩
  | .hbm, ⟨6, _⟩ => ⟨S512x2048, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x256, .i1⟩
  | .hbm, ⟨17, _⟩ => ⟨S256x256, .i1⟩
  | .hbm, ⟨18, _⟩ => ⟨S256x256, .bf16⟩
  | .hbm, ⟨19, _⟩ => ⟨S8x2048x1024, .f32⟩
  | .hbm, ⟨20, _⟩ => ⟨S2048x5504, .bf16⟩
  | .hbm, ⟨21, _⟩ => ⟨S2048x5504, .bf16⟩
  | .hbm, ⟨22, _⟩ => ⟨S5504x2048, .bf16⟩
  | .hbm, ⟨23, _⟩ => ⟨S2048x2048, .bf16⟩
  | .hbm, ⟨24, _⟩ => ⟨S2048x512, .bf16⟩
  | .hbm, ⟨25, _⟩ => ⟨S512x2048, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S256x256, .bf16⟩
  | .local _ .vmem, ⟨7, _⟩ => ⟨S32x5504, .f32⟩
  | .local _ .vmem, ⟨8, _⟩ => ⟨S32x5504, .f32⟩
  | .local _ .vmem, ⟨9, _⟩ => ⟨S32x5504, .f32⟩
  | .local _ .vmem, ⟨10, _⟩ => ⟨S32x5504, .f32⟩
  | .local _ .vmem, ⟨11, _⟩ => ⟨S128x2048, .f32⟩
  | .local _ .vmem, ⟨12, _⟩ => ⟨S128x2048, .f32⟩
  | .local _ .vmem, ⟨13, _⟩ => ⟨S32x2048, .f32⟩
  | .local _ .vmem, ⟨14, _⟩ => ⟨S32x2048, .f32⟩
  | .local _ .vmem, ⟨15, _⟩ => ⟨S32x512, .f32⟩
  | .local _ .vmem, ⟨16, _⟩ => ⟨S32x512, .f32⟩
  | .local _ .vmem, ⟨17, _⟩ => ⟨S16x2048, .f32⟩
  | .local _ .vmem, ⟨18, _⟩ => ⟨S16x2048, .f32⟩
  | .local _ .vmem, ⟨19, _⟩ => ⟨S1x2048x128, .f32⟩
  | .local _ .vmem, ⟨20, _⟩ => ⟨S1x2048x128, .f32⟩
  | .local _ .vmem, ⟨21, _⟩ => ⟨S32x5504, .bf16⟩
  | .local _ .vmem, ⟨22, _⟩ => ⟨S32x5504, .bf16⟩
  | .local _ .vmem, ⟨23, _⟩ => ⟨S32x5504, .bf16⟩
  | .local _ .vmem, ⟨24, _⟩ => ⟨S32x5504, .bf16⟩
  | .local _ .vmem, ⟨25, _⟩ => ⟨S128x2048, .bf16⟩
  | .local _ .vmem, ⟨26, _⟩ => ⟨S128x2048, .bf16⟩
  | .local _ .vmem, ⟨27, _⟩ => ⟨S32x2048, .bf16⟩
  | .local _ .vmem, ⟨28, _⟩ => ⟨S32x2048, .bf16⟩
  | .local _ .vmem, ⟨29, _⟩ => ⟨S32x512, .bf16⟩
  | .local _ .vmem, ⟨30, _⟩ => ⟨S32x512, .bf16⟩
  | .local _ .vmem, ⟨31, _⟩ => ⟨S16x2048, .bf16⟩
  | .local _ .vmem, ⟨32, _⟩ => ⟨S16x2048, .bf16⟩
  | .local _ .vmem, ⟨33, _⟩ => ⟨S2048x128, .bf16⟩
  | .local _ .vmem, ⟨34, _⟩ => ⟨S2048x128, .bf16⟩
  | .local _ .vmem, ⟨35, _⟩ => ⟨S2048x128, .bf16⟩
  | .local _ .vmem, ⟨36, _⟩ => ⟨S512x128, .f32⟩
  | .local _ .vmem, ⟨37, _⟩ => ⟨S512x128, .f32⟩
  | _, _ => ⟨S8x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x5504 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x5504 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x5504 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S16x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== SbIdeal.lean ====
variable {F : FTy → Type} [FloatOps F] [Named F]
def κ : String → Option EReal := fun
  | "inv_sqrt_d" => some (((Real.sqrt 128)⁻¹ : ℝ) : EReal)
  | "neg_log2e_inv_sqrt_d" => some ((-((Real.sqrt 128)⁻¹ * (Real.log 2)⁻¹) : ℝ) : EReal)
  | _ => none
-- ==== SbRefIdeal.lean ====
abbrev S8x2048x6144 : Shape := ⟨3, ![8, 2048, 6144]⟩
abbrev S2048x5504 : Shape := ⟨2, ![2048, 5504]⟩
abbrev S5504x2048 : Shape := ⟨2, ![5504, 2048]⟩
abbrev S2048x2048 : Shape := ⟨2, ![2048, 2048]⟩
abbrev S2048x512 : Shape := ⟨2, ![2048, 512]⟩
abbrev S512x2048 : Shape := ⟨2, ![512, 2048]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x1x2048x2048 : Shape := ⟨4, ![1, 1, 2048, 2048]⟩
abbrev S8x8x2048x2047 : Shape := ⟨4, ![8, 8, 2048, 2047]⟩
abbrev S8x8x2048x1 : Shape := ⟨4, ![8, 8, 2048, 1]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x6144, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S2048x2048, .f32⟩
  | .hbm, ⟨5, _⟩ => ⟨S2048x512, .f32⟩
  | .hbm, ⟨6, _⟩ => ⟨S512x2048, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x8x128, .f32⟩
  | .hbm, ⟨11, _⟩ => ⟨S8x8x2048x128, .f32⟩
  | .hbm, ⟨12, _⟩ => ⟨S8x2048x8x128, .f32⟩
  | .hbm, ⟨13, _⟩ => ⟨S8x8x2048x128, .f32⟩
  | .hbm, ⟨14, _⟩ => ⟨S8x2048x8x128, .f32⟩
  | .hbm, ⟨15, _⟩ => ⟨S8x8x2048x128, .f32⟩
  | .hbm, ⟨16, _⟩ => ⟨S8x8x2048x2048, .f32⟩
  | .hbm, ⟨17, _⟩ => ⟨S_, .f32⟩
  | .hbm, ⟨18, _⟩ => ⟨S_, .f32⟩
  | .hbm, ⟨19, _⟩ => ⟨S8x8x2048x2048, .f32⟩
  | .hbm, ⟨20, _⟩ => ⟨S8x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S1x1x2048x2048, .i1⟩
  | .hbm, ⟨28, _⟩ => ⟨S8x8x2048x2048, .f32⟩
  | .hbm, ⟨29, _⟩ => ⟨S8x8x2048x2048, .f32⟩
  | .hbm, ⟨30, _⟩ => ⟨S_, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .i1⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .f32⟩
  | .hbm, ⟨40, _⟩ => ⟨S8x8x2048x2048, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S8x8x2048x2048, .f32⟩
  | .hbm, ⟨45, _⟩ => ⟨S_, .f32⟩
  | .hbm, ⟨46, _⟩ => ⟨S_, .f32⟩
  | .hbm, ⟨47, _⟩ => ⟨S8x8x2048x2048, .i1⟩
  | .hbm, ⟨48, _⟩ => ⟨S8x8x2048x2048, .f32⟩
  | .hbm, ⟨49, _⟩ => ⟨S8x8x2048x2048, .f32⟩
  | .hbm, ⟨50, _⟩ => ⟨S_, .f32⟩
  | .hbm, ⟨51, _⟩ => ⟨S_, .f32⟩
  | .hbm, ⟨52, _⟩ => ⟨S8x8x2048x2048, .f32⟩
  | .hbm, ⟨53, _⟩ => ⟨S8x8x2048x2047, .f32⟩
  | .hbm, ⟨54, _⟩ => ⟨S8x8x2048x1, .f32⟩
  | .hbm, ⟨55, _⟩ => ⟨S_, .f32⟩
  | .hbm, ⟨56, _⟩ => ⟨S8x8x2048x1, .f32⟩
  | .hbm, ⟨57, _⟩ => ⟨S8x8x2048x2048, .f32⟩
  | .hbm, ⟨58, _⟩ => ⟨S8x8x2048x2048, .f32⟩
  | .hbm, ⟨59, _⟩ => ⟨S_, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S8x8x2048x2048, .f32⟩
  | .hbm, ⟨64, _⟩ => ⟨S8x8x2048x2048, .i1⟩
  | .hbm, ⟨65, _⟩ => ⟨S8x8x2048x2048, .f32⟩
  | .hbm, ⟨66, _⟩ => ⟨S8x8x2048x2048, .f32⟩
  | .hbm, ⟨67, _⟩ => ⟨S8x8x2048x2048, .f32⟩
  | .hbm, ⟨68, _⟩ => ⟨S8x8x2048x2048, .f32⟩
  | .hbm, ⟨69, _⟩ => ⟨S8x8x2048x2048, .f32⟩
  | .hbm, ⟨70, _⟩ => ⟨S8x8x2048x2048, .f32⟩
  | .hbm, ⟨71, _⟩ => ⟨S8x8x2048x2048, .f32⟩
  | .hbm, ⟨72, _⟩ => ⟨S8x8x2048x2048, .f32⟩
  | .hbm, ⟨73, _⟩ => ⟨S8x8x2048x2048, .f32⟩
  | .hbm, ⟨74, _⟩ => ⟨S8x8x2048x2048, .f32⟩
  | .hbm, ⟨75, _⟩ => ⟨S_, .f32⟩
  | .hbm, ⟨76, _⟩ => ⟨S_, .f32⟩
  | .hbm, ⟨77, _⟩ => ⟨S8x8x2048x2048, .i1⟩
  | .hbm, ⟨78, _⟩ => ⟨S8x8x2048x2048, .f32⟩
  | .hbm, ⟨79, _⟩ => ⟨S8x8x2048x2048, .f32⟩
  | .hbm, ⟨80, _⟩ => ⟨S8x8x2048x2048, .f32⟩
  | .hbm, ⟨81, _⟩ => ⟨S8x8x2048x128, .f32⟩
  | .hbm, ⟨82, _⟩ => ⟨S8x2048x8x128, .f32⟩
  | .hbm, ⟨83, _⟩ => ⟨S8x2048x1024, .f32⟩
  | .hbm, ⟨84, _⟩ => ⟨S2048x5504, .bf16⟩
  | .hbm, ⟨85, _⟩ => ⟨S2048x5504, .bf16⟩
  | .hbm, ⟨86, _⟩ => ⟨S5504x2048, .bf16⟩
  | .hbm, ⟨87, _⟩ => ⟨S2048x2048, .bf16⟩
  | .hbm, ⟨88, _⟩ => ⟨S2048x512, .bf16⟩
  | .hbm, ⟨89, _⟩ => ⟨S512x2048, .bf16⟩
  | _, _ => ⟨S8x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v21 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v22 : Ref sig .tc := ⟨.hbm, 49, rfl⟩
abbrev main_call2_cst : Ref sig .tc := ⟨.hbm, 50, rfl⟩
abbrev main_call2_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_1 : Ref sig .tc := ⟨.hbm, 55, rfl⟩
abbrev main_v26 : Ref sig .tc := ⟨.hbm, 56, rfl⟩
abbrev main_v27 : Ref sig .tc := ⟨.hbm, 57, rfl⟩
abbrev main_call3_v0 : Ref sig .tc := ⟨.hbm, 58, rfl⟩
abbrev main_call3_call0_cst : Ref sig .tc := ⟨.hbm, 59, rfl⟩
abbrev main_call3_call0_v0 : Ref sig .tc := ⟨.hbm, 60, rfl⟩
abbrev main_call3_call0_v1 : Ref sig .tc := ⟨.hbm, 61, rfl⟩
abbrev main_call3_call0_v2 : Ref sig .tc := ⟨.hbm, 62, rfl⟩
abbrev main_call3_call0_v3 : Ref sig .tc := ⟨.hbm, 63, rfl⟩
abbrev main_call3_call0_v4 : Ref sig .tc := ⟨.hbm, 64, rfl⟩
abbrev main_call3_call0_v5 : Ref sig .tc := ⟨.hbm, 65, rfl⟩
abbrev main_call3_call0_v6 : Ref sig .tc := ⟨.hbm, 66, rfl⟩
abbrev main_call3_call0_v7 : Ref sig .tc := ⟨.hbm, 67, rfl⟩
abbrev main_call3_call0_v8 : Ref sig .tc := ⟨.hbm, 68, rfl⟩
abbrev main_call3_call0_v9 : Ref sig .tc := ⟨.hbm, 69, rfl⟩
abbrev main_call3_call0_v10 : Ref sig .tc := ⟨.hbm, 70, rfl⟩
abbrev main_call3_call0_v11 : Ref sig .tc := ⟨.hbm, 71, rfl⟩
abbrev main_call3_v1 : Ref sig .tc := ⟨.hbm, 72, rfl⟩
abbrev main_v28 : Ref sig .tc := ⟨.hbm, 73, rfl⟩
abbrev main_v29 : Ref sig .tc := ⟨.hbm, 74, rfl⟩
abbrev main_cst_2 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S2048x384 : Shape := ⟨2, ![2048, 384]⟩
abbrev S384x2048 : Shape := ⟨2, ![384, 2048]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S512x384 : Shape := ⟨2, ![512, 384]⟩

abbrev nBuf : Space → Nat
  | .hbm => 15
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S1x2048, .f32⟩
  | .hbm, ⟨7, _⟩ => ⟨S2048x5504, .bf16⟩
  | .hbm, ⟨8, _⟩ => ⟨S2048x5504, .bf16⟩
  | .hbm, ⟨9, _⟩ => ⟨S5504x2048, .bf16⟩
  | .hbm, ⟨10, _⟩ => ⟨S1x2048, .f32⟩
  | .hbm, ⟨11, _⟩ => ⟨S2048x5504, .bf16⟩
  | .hbm, ⟨12, _⟩ => ⟨S2048x5504, .bf16⟩
  | .hbm, ⟨13, _⟩ => ⟨S5504x2048, .bf16⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .vmem, ⟨13, _⟩ => ⟨S2048x384, .bf16⟩
  | .local _ .vmem, ⟨14, _⟩ => ⟨S2048x384, .bf16⟩
  | .local _ .vmem, ⟨15, _⟩ => ⟨S384x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c0_i32_4 : BitVec 32 := 0#32
  let v10 : BitVec 1 := Scalar.cmpi .eq arg1 c0_i32_4
  let v11 : BitVec 32 := Scalar.extui v10
  let c0_i32_5 : BitVec 32 := 0#32
  let v12 : BitVec 1 := Scalar.cmpi .ne v11 c0_i32_5
  v12

def k0_cond4 (i : grid0.Coords) : BitVec 1 :=
  let arg1 : BitVec 32 := BitVec.ofNat 32 (i 1).val
  let c0_i32_6 : BitVec 32 := 0#32
  let v13 : BitVec 1 := Scalar.cmpi .sgt arg1 c0_i32_6
  let c10_i32_7 : BitVec 32 := 10#32
  let v14 : BitVec 1 := Scalar.cmpi .slt arg1 c10_i32_7
  let v15 : BitVec 1 := Scalar.andi v13 v14
  let v16 : BitVec 32 := Scalar.extui v15
  let c0_i32_8 : BitVec 32 := 0#32
  let v17 : BitVec 1 := Scalar.cmpi .ne v16 c0_i32_8
  v17

def k0_cond5 (i : grid0.Coords) : BitVec 1 :=
  let arg1 : BitVec 32 := BitVec.ofNat 32 (i 1).val
  let c10_i32_9 : BitVec 32 := 10#32
  let v18 : BitVec 1 := Scalar.cmpi .eq arg1 c10_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S_, .f32⟩
  | .hbm, ⟨26, _⟩ => ⟨S16384x5504, .f32⟩
  | .hbm, ⟨27, _⟩ => ⟨S16384x5504, .f32⟩
  | .hbm, ⟨28, _⟩ => ⟨S_, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proj.lean ====
abbrev S16384x2048 : Shape := ⟨2, ![16384, 2048]⟩
abbrev S2048 : Shape := ⟨1, ![2048]⟩
abbrev S2048x6160 : Shape := ⟨2, ![2048, 6160]⟩
abbrev S1x2048 : Shape := ⟨2, ![1, 2048]⟩
abbrev S6160x2048 : Shape := ⟨2, ![6160, 2048]⟩
abbrev S16384x6144 : Shape := ⟨2, ![16384, 6144]⟩
abbrev S16384x128 : Shape := ⟨2, ![16384, 128]⟩
abbrev S1024x2048 : Shape := ⟨2, ![1024, 2048]⟩
abbrev S1536x2048 : Shape := ⟨2, ![1536, 2048]⟩
abbrev S16x2048 : Shape := ⟨2, ![16, 2048]⟩
abbrev S1024x1536 : Shape := ⟨2, ![1024, 1536]⟩
abbrev S1024x128 : Shape := ⟨2, ![1024, 128]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6160, .f32⟩
  | .hbm, ⟨3, _⟩ => ⟨S1x2048, .f32⟩
  | .hbm, ⟨4, _⟩ => ⟨S6160x2048, .f32⟩
  | .hbm, ⟨5, _⟩ => ⟨S6160x2048, .bf16⟩
  | .hbm, ⟨6, _⟩ => ⟨S16384x6144, .f32⟩
  | .hbm, ⟨7, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1536x2048, .bf16⟩
  | .local _ .vmem, ⟨4, _⟩ => ⟨S1536x2048, .bf16⟩
  | .local _ .vmem, ⟨5, _⟩ => ⟨S16x2048, .bf16⟩
  | .local _ .vmem, ⟨6, _⟩ => ⟨S1024x1536, .f32⟩
  | .local _ .vmem, ⟨7, _⟩ => ⟨S1024x1536, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S128x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c384_i32 : BitVec 32 := 384#32
  let c0_i32 : BitVec 32 := 0#32
  let c0_i32_0 : BitVec 32 := 0#32
  ![c384_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S16384x2048 : Shape := ⟨2, ![16384, 2048]⟩
abbrev S2048 : Shape := ⟨1, ![2048]⟩
abbrev S2048x6160 : Shape := ⟨2, ![2048, 6160]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6160 : Shape := ⟨2, ![16384, 6160]⟩
abbrev S16384x6144 : Shape := ⟨2, ![16384, 6144]⟩
abbrev S16384x16 : Shape := ⟨2, ![16384, 16]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6160, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6160, .f32⟩
  | .hbm, ⟨20, _⟩ => ⟨S16384x6144, .f32⟩
  | .hbm, ⟨21, _⟩ => ⟨S16384x16, .f32⟩
  | .hbm, ⟨22, _⟩ => ⟨S_, .i32⟩
  | .hbm, ⟨23, _⟩ => ⟨S_, .f32⟩
  | .hbm, ⟨24, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kv.lean ====
abbrev S8x256x2048 : Shape := ⟨3, ![8, 256, 2048]⟩
abbrev S2048 : Shape := ⟨1, ![2048]⟩
abbrev S2048x1024 : Shape := ⟨2, ![2048, 1024]⟩
abbrev S2048x6160 : Shape := ⟨2, ![2048, 6160]⟩
abbrev S1x2048 : Shape := ⟨2, ![1, 2048]⟩
abbrev S6160x2048 : Shape := ⟨2, ![6160, 2048]⟩
abbrev S8x256x1024 : Shape := ⟨3, ![8, 256, 1024]⟩
abbrev S1x256x2048 : Shape := ⟨3, ![1, 256, 2048]⟩
abbrev S880x2048 : Shape := ⟨2, ![880, 2048]⟩
abbrev S1x256x1024 : Shape := ⟨3, ![1, 256, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x1024, .f32⟩
  | .hbm, ⟨3, _⟩ => ⟨S2048x6160, .f32⟩
  | .hbm, ⟨4, _⟩ => ⟨S1x2048, .f32⟩
  | .hbm, ⟨5, _⟩ => ⟨S2048x1024, .bf16⟩
  | .hbm, ⟨6, _⟩ => ⟨S6160x2048, .f32⟩
  | .hbm, ⟨7, _⟩ => ⟨S8x256x1024, .bf16⟩
  | .hbm, ⟨8, _⟩ => ⟨S6160x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x1024, .bf16⟩
  | .local _ .vmem, ⟨4, _⟩ => ⟨S880x2048, .f32⟩
  | .local _ .vmem, ⟨5, _⟩ => ⟨S880x2048, .f32⟩
  | .local _ .vmem, ⟨6, _⟩ => ⟨S1x256x1024, .bf16⟩
  | .local _ .vmem, ⟨7, _⟩ => ⟨S1x256x1024, .bf16⟩
  | .local _ .vmem, ⟨8, _⟩ => ⟨S880x2048, .bf16⟩
  | .local _ .vmem, ⟨9, _⟩ => ⟨S880x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![v0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S880x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S880x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KvRefIdeal.lean ====
abbrev S8x256x2048 : Shape := ⟨3, ![8, 256, 2048]⟩
abbrev S2048 : Shape := ⟨1, ![2048]⟩
abbrev S2048x1024 : Shape := ⟨2, ![2048, 1024]⟩
abbrev S2048x6160 : Shape := ⟨2, ![2048, 6160]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x256x1024 : Shape := ⟨3, ![8, 256, 1024]⟩
abbrev S6160x2048 : Shape := ⟨2, ![6160, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S2048x1024, .f32⟩
  | .hbm, ⟨3, _⟩ => ⟨S2048x6160, .f32⟩
  | .hbm, ⟨4, _⟩ => ⟨S8x256x2048, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x2048, .f32⟩
  | .hbm, ⟨16, _⟩ => ⟨S8x256x2048, .f32⟩
  | .hbm, ⟨17, _⟩ => ⟨S1x1x2048, .f32⟩
  | .hbm, ⟨18, _⟩ => ⟨S8x256x2048, .f32⟩
  | .hbm, ⟨19, _⟩ => ⟨S8x256x2048, .f32⟩
  | .hbm, ⟨20, _⟩ => ⟨S8x256x1024, .f32⟩
  | .hbm, ⟨21, _⟩ => ⟨S8x256x1024, .bf16⟩
  | .hbm, ⟨22, _⟩ => ⟨S6160x2048, .f32⟩
  | .hbm, ⟨23, _⟩ => ⟨S6160x2048, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Mix.lean ====
abbrev S16384x1024 : Shape := ⟨2, ![16384, 1024]⟩
abbrev S16384x2048 : Shape := ⟨2, ![16384, 2048]⟩
abbrev S8x256x1024 : Shape := ⟨3, ![8, 256, 1024]⟩
abbrev S1024 : Shape := ⟨1, ![1024]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S1x1024 : Shape := ⟨2, ![1, 1024]⟩
abbrev S1x2048 : Shape := ⟨2, ![1, 2048]⟩
abbrev S512x1024 : Shape := ⟨2, ![512, 1024]⟩
abbrev S1x256x1024 : Shape := ⟨3, ![1, 256, 1024]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 16
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x2048, .f32⟩
  | .hbm, ⟨3, _⟩ => ⟨S8x256x1024, .bf16⟩
  | .hbm, ⟨4, _⟩ => ⟨S1024, .f32⟩
  | .hbm, ⟨5, _⟩ => ⟨S2048x2048, .bf16⟩
  | .hbm, ⟨6, _⟩ => ⟨S2048, .f32⟩
  | .hbm, ⟨7, _⟩ => ⟨S2048, .f32⟩
  | .hbm, ⟨8, _⟩ => ⟨S2048x512, .bf16⟩
  | .hbm, ⟨9, _⟩ => ⟨S512x2048, .bf16⟩
  | .hbm, ⟨10, _⟩ => ⟨S2048, .f32⟩
  | .hbm, ⟨11, _⟩ => ⟨S1x1024, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x256x1024, .bf16⟩
  | .local _ .vmem, ⟨7, _⟩ => ⟨S1x256x1024, .bf16⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S1x2048, .f32⟩
  | .local _ .vmem, ⟨12, _⟩ => ⟨S1x2048, .f32⟩
  | .local _ .vmem, ⟨13, _⟩ => ⟨S2048x512, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S16384x1024 : Shape := ⟨2, ![16384, 1024]⟩
abbrev S16384x2048 : Shape := ⟨2, ![16384, 2048]⟩
abbrev S8x256x1024 : Shape := ⟨3, ![8, 256, 1024]⟩
abbrev S1024 : Shape := ⟨1, ![1024]⟩
abbrev S2048x2048 : Shape := ⟨2, ![2048, 2048]⟩
abbrev S2048 : Shape := ⟨1, ![2048]⟩
abbrev S2048x512 : Shape := ⟨2, ![2048, 512]⟩
abbrev S512x2048 : Shape := ⟨2, ![512, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x2048 : Shape := ⟨2, ![1, 2048]⟩
abbrev S16384x512 : Shape := ⟨2, ![16384, 512]⟩
abbrev S8x2048x4x128 : Shape := ⟨4, ![8, 2048, 4, 128]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x2048, .f32⟩
  | .hbm, ⟨3, _⟩ => ⟨S8x256x1024, .bf16⟩
  | .hbm, ⟨4, _⟩ => ⟨S1024, .f32⟩
  | .hbm, ⟨5, _⟩ => ⟨S2048x2048, .bf16⟩
  | .hbm, ⟨6, _⟩ => ⟨S2048, .f32⟩
  | .hbm, ⟨7, _⟩ => ⟨S2048, .f32⟩
  | .hbm, ⟨8, _⟩ => ⟨S2048x512, .bf16⟩
  | .hbm, ⟨9, _⟩ => ⟨S512x2048, .bf16⟩
  | .hbm, ⟨10, _⟩ => ⟨S2048, .f32⟩
  | .hbm, ⟨11, _⟩ => ⟨S16384x1024, .f32⟩
  | .hbm, ⟨12, _⟩ => ⟨S8x256x1024, .f32⟩
  | .hbm, ⟨13, _⟩ => ⟨S2048x2048, .f32⟩
  | .hbm, ⟨14, _⟩ => ⟨S2048x512, .f32⟩
  | .hbm, ⟨15, _⟩ => ⟨S512x2048, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S1x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S1x2048, .f32⟩
  | .hbm, ⟨65, _⟩ => ⟨S16384x2048, .f32⟩
  | .hbm, ⟨66, _⟩ => ⟨S16384x2048, .f32⟩
  | .hbm, ⟨67, _⟩ => ⟨S16384x512, .f32⟩
  | .hbm, ⟨68, _⟩ => ⟨S8x2048x4x128, .f32⟩
  | .hbm, ⟨69, _⟩ => ⟨S8x256x2x4x128, .f32⟩
  | .hbm, ⟨70, _⟩ => ⟨S8x256x1x4x128, .f32⟩
  | .hbm, ⟨71, _⟩ => ⟨S8x256x1x4x128, .f32⟩
  | .hbm, ⟨72, _⟩ => ⟨S8x256x4x128, .f32⟩
  | .hbm, ⟨73, _⟩ => ⟨S8x256x4x128, .f32⟩
  | .hbm, ⟨74, _⟩ => ⟨S8x4x2048x256, .f32⟩
  | .hbm, ⟨75, _⟩ => ⟨S_, .f32⟩
  | .hbm, ⟨76, _⟩ => ⟨S8x4x2048x256, .f32⟩
  | .hbm, ⟨77, _⟩ => ⟨S8x4x2048x256, .f32⟩
  | .hbm, ⟨78, _⟩ => ⟨S_, .f32⟩
  | .hbm, ⟨79, _⟩ => ⟨S8x4x2048, .f32⟩
  | .hbm, ⟨80, _⟩ => ⟨S_, .f32⟩
  | .hbm, ⟨81, _⟩ => ⟨S8x4x2048, .f32⟩
  | .hbm, ⟨82, _⟩ => ⟨S8x4x2048, .f32⟩
  | .hbm, ⟨83, _⟩ => ⟨S8x4x2048x1, .f32⟩
  | .hbm, ⟨84, _⟩ => ⟨S8x4x2048x256, .f32⟩
  | .hbm, ⟨85, _⟩ => ⟨S8x4x2048x256, .f32⟩
  | .hbm, ⟨86, _⟩ => ⟨S8x4x2048x256, .f32⟩
  | .hbm, ⟨87, _⟩ => ⟨S_, .f32⟩
  | .hbm, ⟨88, _⟩ => ⟨S8x4x2048, .f32⟩
  | .hbm, ⟨89, _⟩ => ⟨S8x4x2048x1, .f32⟩
  | .hbm, ⟨90, _⟩ => ⟨S8x4x2048x256, .f32⟩
  | .hbm, ⟨91, _⟩ => ⟨S8x4x2048x256, .f32⟩
  | .hbm, ⟨92, _⟩ => ⟨S8x4x128x2048, .f32⟩
  | .hbm, ⟨93, _⟩ => ⟨S8x2048x4x128, .f32⟩
  | .hbm, ⟨94, _⟩ => ⟨S16384x512, .f32⟩
  | .hbm, ⟨95, _⟩ => ⟨S16384x2048, .f32⟩
  | .hbm, ⟨96, _⟩ => ⟨S16384x2048, .f32⟩
  | .hbm, ⟨97, _⟩ => ⟨S_, .f32⟩
  | .hbm, ⟨98, _⟩ => ⟨S16384, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S16384x1, .f32⟩
  | .hbm, ⟨107, _⟩ => ⟨S16384x2048, .f32⟩
  | .hbm, ⟨108, _⟩ => ⟨S16384x2048, .f32⟩
  | .hbm, ⟨109, _⟩ => ⟨S1x2048, .f32⟩
  | .hbm, ⟨110, _⟩ => ⟨S16384x2048, .f32⟩
  | .hbm, ⟨111, _⟩ => ⟨S16384x2048, .f32⟩
  | .hbm, ⟨112, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Ssd.lean ====
abbrev S8x2048x6144 : Shape := ⟨3, ![8, 2048, 6144]⟩
abbrev S8x2048x128 : Shape := ⟨3, ![8, 2048, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S_ : Shape := ⟨0, ![]⟩
abbrev S128x128 : Shape := ⟨2, ![128, 128]⟩
abbrev S1x1024 : Shape := ⟨2, ![1, 1024]⟩
abbrev S128 : Shape := ⟨1, ![128]⟩
abbrev S128x1 : Shape := ⟨2, ![128, 1]⟩
abbrev S128x1024 : Shape := ⟨2, ![128, 1024]⟩
abbrev S256x1024 : Shape := ⟨2, ![256, 1024]⟩
abbrev S1x2048 : Shape := ⟨2, ![1, 2048]⟩
abbrev S1x128 : Shape := ⟨2, ![1, 128]⟩
abbrev S16x64 : Shape := ⟨2, ![16, 64]⟩
abbrev S8x2048x1024 : Shape := ⟨3, ![8, 2048, 1024]⟩
abbrev S1x256x1024 : Shape := ⟨3, ![1, 256, 1024]⟩
abbrev S1x256x2048 : Shape := ⟨3, ![1, 256, 2048]⟩
abbrev S1x256x128 : Shape := ⟨3, ![1, 256, 128]⟩
abbrev S16x136x128 : Shape := ⟨3, ![16, 136, 128]⟩
abbrev S4x128x256 : Shape := ⟨3, ![4, 128, 256]⟩
abbrev S16x8x128 : Shape := ⟨3, ![16, 8, 128]⟩
abbrev S1x256 : Shape := ⟨2, ![1, 256]⟩
abbrev S1x128x128 : Shape := ⟨3, ![1, 128, 128]⟩
abbrev S1x8x128 : Shape := ⟨3, ![1, 8, 128]⟩
abbrev S8x128 : Shape := ⟨2, ![8, 128]⟩
abbrev S128x512 : Shape := ⟨2, ![128, 512]⟩
abbrev S128x256 : Shape := ⟨2, ![128, 256]⟩
abbrev S1x128x256 : Shape := ⟨3, ![1, 128, 256]⟩
abbrev S1x128x1024 : Shape := ⟨3, ![1, 128, 1024]⟩

abbrev nBuf : Space → Nat
  | .hbm => 60
  | .vmem => 18
  | .smem => 0
  | _ => 0

abbrev bufTy : (tb : Table) → Fin (tcTables nBuf tb) → BufTy
  | .hbm, ⟨0, _⟩ => ⟨S8x2048x6144, .f32⟩
  | .hbm, ⟨1, _⟩ => ⟨S8x2048x128, .f32⟩
  | .hbm, ⟨2, _⟩ => ⟨S4x2048, .f32⟩
  | .hbm, ⟨3, _⟩ => ⟨S2048, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S_, .bf16⟩
  | .hbm, ⟨9, _⟩ => ⟨S128x128, .bf16⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .bf16⟩
  | .hbm, ⟨17, _⟩ => ⟨S128x128, .bf16⟩
  | .hbm, ⟨18, _⟩ => ⟨S128x128, .bf16⟩
  | .hbm, ⟨19, _⟩ => ⟨S1024, .i32⟩
  | .hbm, ⟨20, _⟩ => ⟨S1x1024, .i32⟩
  | .hbm, ⟨21, _⟩ => ⟨S_, .i32⟩
  | .hbm, ⟨22, _⟩ => ⟨S_, .i32⟩
  | .hbm, ⟨23, _⟩ => ⟨S1x1024, .i32⟩
  | .hbm, ⟨24, _⟩ => ⟨S1x1024, .i32⟩
  | .hbm, ⟨25, _⟩ => ⟨S1x1024, .i32⟩
  | .hbm, ⟨26, _⟩ => ⟨S_, .i32⟩
  | .hbm, ⟨27, _⟩ => ⟨S1x1024, .i32⟩
  | .hbm, ⟨28, _⟩ => ⟨S1x1024, .i1⟩
  | .hbm, ⟨29, _⟩ => ⟨S1x1024, .i32⟩
  | .hbm, ⟨30, _⟩ => ⟨S1x1024, .i32⟩
  | .hbm, ⟨31, _⟩ => ⟨S_, .i32⟩
  | .hbm, ⟨32, _⟩ => ⟨S1x1024, .i32⟩
  | .hbm, ⟨33, _⟩ => ⟨S1x1024, .i1⟩
  | .hbm, ⟨34, _⟩ => ⟨S1x1024, .i1⟩
  | .hbm, ⟨35, _⟩ => ⟨S_, .i32⟩
  | .hbm, ⟨36, _⟩ => ⟨S1x1024, .i32⟩
  | .hbm, ⟨37, _⟩ => ⟨S1x1024, .i32⟩
  | .hbm, ⟨38, _⟩ => ⟨S1x1024, .i32⟩
  | .hbm, ⟨39, _⟩ => ⟨S128, .i32⟩
  | .hbm, ⟨40, _⟩ => ⟨S128x1, .i32⟩
  | .hbm, ⟨41, _⟩ => ⟨S128x1024, .i32⟩
  | .hbm, ⟨42, _⟩ => ⟨S128x1024, .i32⟩
  | .hbm, ⟨43, _⟩ => ⟨S128x1024, .i1⟩
  | .hbm, ⟨44, _⟩ => ⟨S128x1024, .bf16⟩
  | .hbm, ⟨45, _⟩ => ⟨S256x1024, .bf16⟩
  | .hbm, ⟨46, _⟩ => ⟨S1x2048, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S16x64, .f32⟩
  | .hbm, ⟨56, _⟩ => ⟨S1024, .f32⟩
  | .hbm, ⟨57, _⟩ => ⟨S1x1024, .f32⟩
  | .hbm, ⟨58, _⟩ => ⟨S1x1024, .f32⟩
  | .hbm, ⟨59, _⟩ => ⟨S8x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x2048, .f32⟩
  | .local _ .vmem, ⟨3, _⟩ => ⟨S1x256x2048, .f32⟩
  | .local _ .vmem, ⟨4, _⟩ => ⟨S1x256x128, .f32⟩
  | .local _ .vmem, ⟨5, _⟩ => ⟨S1x256x128, .f32⟩
  | .local _ .vmem, ⟨6, _⟩ => ⟨S4x2048, .f32⟩
  | .local _ .vmem, ⟨7, _⟩ => ⟨S1x2048, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x128, .bf16⟩
  | .local _ .vmem, ⟨13, _⟩ => ⟨S256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S16x136x128, .f32⟩
  | .local _ .vmem, ⟨17, _⟩ => ⟨S4x128x256, .f32⟩
  | _, _ => ⟨S8x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_0 : Ref sig .tc := ⟨.hbm, 47, rfl⟩
abbrev main_call2_v0 : Ref sig .tc := ⟨.hbm, 48, rfl⟩
abbrev main_v13 : Ref sig .tc := ⟨.hbm, 49, rfl⟩
abbrev main_v14 : Ref sig .tc := ⟨.hbm, 50, rfl⟩
abbrev main_c_1 : Ref sig .tc := ⟨.hbm, 51, rfl⟩
abbrev main_call3_v0 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.SbVocab.lean ====
/- The stick-breaking kernel's body in words of its own: the scores of a strip of 128 key columns and their two
   log-sigmoids, the strip's suffix sums by one product, the weights and the running sum of log-keeps, and from these a
   whole chunk of 512 keys — on the diagonal, or left of it — as what it leaves in the running-sum scratch and in the
   accumulator. `SbWords` shows that the printed body is these. -/
module

public import proofs.«01_k».proof.Proof.Gen.SbIdeal.Frame.RunA

@[expose] public section

set_option maxRecDepth 16384

noncomputable section

namespace Cert.SbIdeal.Stick

open Idealize.ShloMosaic Cert.SbIdeal.Facts₀ Cert.SbIdeal.Facts

variable {F : FTy → Type} [FloatOps F] [Named F]

/-- The shape of `n` rows and `m` columns. -/
abbrev Rows (n m : ℕ) : Shape := ⟨2, ![n, m]⟩

/-- The shape relations that a strip of `n` query rows and 128 key columns takes. -/
structure StripEv (n : ℕ) : Prop where
  dot : DotDims.WF (Rows n 256) (Rows 256 256) (Rows n 256) [1] [0] [0] [1] [] []
  cat : Shape.Concatenates [Rows n 128, Rows n 128] (Rows n 256) 1
  left : (Rows n 256).Slices ![0, 0] (Rows n 128)
  right : (Rows n 256).Slices ![0, 128] (Rows n 128)
  same : (Rows n 128).ShapeCasts (Rows n 128)
  cols : (Rows n 128).Iotas .tc 32 [1]
  rows : (Rows n 128).Iotas .tc 32 [0]

/-- The product of a strip's `n` rows with the 256 by 256 matrix of the suffix sums. -/
def stripDot {n : ℕ} (h : StripEv n) : DotDims (Rows n 256) (Rows 256 256) (Rows n 256) where
  lhsContracting := [1]
  rhsContracting := [0]
  lhsNonContracting := [0]
  rhsNonContracting := [1]
  lhsBatch := []
  rhsBatch := []
  wf := h.dot

/-- The scaled scores. -/
def scoreOf {n : ℕ} (d : FVec F (Rows n 128) .f32) : FVec F (Rows n 128) .f32 :=
  mulf d (broadcast (Rows n 128) (Named.named κ "inv_sqrt_d" 0x3DB504F3#32))

/-- The log-sigmoid of the scores. -/
def logBeta {n : ℕ} (d : FVec F (Rows n 128) .f32) : FVec F (Rows n 128) .f32 :=
  subf (minimumf (scoreOf d) (broadcast (Rows n 128) (Scalar.ofBits .f32 0x00000000#32)))
    (log (addf (broadcast (Rows n 128) (Scalar.ofBits .f32 0x3F800000#32))
      (exp2 (mulf (absf d) (broadcast (Rows n 128) (Named.named κ "neg_log2e_inv_sqrt_d" 0xBE0293EE#32))))))

/-- The log-sigmoid of the scores' opposites. -/
def logKeep {n : ℕ} (d : FVec F (Rows n 128) .f32) : FVec F (Rows n 128) .f32 := subf (logBeta d) (scoreOf d)

/-- The strip on the diagonal: which columns come before the row. -/
def before {n : ℕ} (h : StripEv n) : IVec (Rows n 128) 1 :=
  cmpi .slt (iota .tc (Rows n 128) 32 [1] h.cols) (iota .tc (Rows n 128) 32 [0] h.rows)

/-- The log-keeps of the strip on the diagonal: zero from the row's own column on. -/
def logKeepDiag {n : ℕ} (h : StripEv n) (d : FVec F (Rows n 128) .f32) : FVec F (Rows n 128) .f32 :=
  select (before h) (logKeep d) (broadcast (Rows n 128) (Scalar.ofBits .f32 0x00000000#32))

/-- The log-keeps and what their cast dropped, side by side, against the matrix: the suffix sums, then the totals. -/
def sums {n : ℕ} (h : StripEv n) (lk : FVec F (Rows n 128) .f32) (w : FVec F (Rows 256 256) .bf16) :
    FVec F (Rows n 256) .f32 :=
  matmul (stripDot h) none
    (concatenate (Rows n 256) 1
      [⟨Rows n 128, truncf .bf16 lk bitsLt_bf16_f32⟩,
       ⟨Rows n 128, truncf .bf16 (subf lk (extf .f32 (truncf .bf16 lk bitsLt_bf16_f32) bitsLt_bf16_f32)) bitsLt_bf16_f32⟩]
      h.cat)
    w (constant (Rows n 256) .f32 0x00000000#32)

/-- The strip's weights, at the running sum `r` of the columns after it. -/
def weightOf {n : ℕ} (h : StripEv n) (lb lk r : FVec F (Rows n 128) .f32) (w : FVec F (Rows 256 256) .bf16) :
    FVec F (Rows n 128) .f32 :=
  exp (addf (addf lb (extractStridedSlice (Rows n 128) ![0, 0] (sums h lk w) h.left)) r)

/-- The running sum after the strip. -/
def runNext {n : ℕ} (h : StripEv n) (lk r : FVec F (Rows n 128) .f32) (w : FVec F (Rows 256 256) .bf16) :
    FVec F (Rows n 128) .f32 :=
  shapeCast (Rows n 128) (addf r (extractStridedSlice (Rows n 128) ![0, 128] (sums h lk w) h.right)) h.same

/-- What a strip of `n` rows from row `o` on the diagonal of a chunk takes besides. -/
structure DiagEv (n o : ℕ) : Prop extends StripEv n where
  slice : (Rows 512 512).Slices ![o, o] (Rows n 128)
  inb : ∀ a, (![o, 0] : Fin 2 → ℕ) a + (Rows n 128).size a ≤ (Rows 512 128).size a

/-- What a strip of a chunk left of the diagonal takes besides. -/
structure FullEv (o : ℕ) : Prop extends StripEv 512 where
  slice : (Rows 512 512).Slices ![0, o] (Rows 512 128)
  inb : ∀ a, (![0, 0] : Fin 2 → ℕ) a + (Rows 512 128).size a ≤ (Rows 512 128).size a

/-- A list of what was stored over a 512 by 128 scratch, the newest first. -/
abbrev Stores (F : FTy → Type) [FloatOps F] := List (View.Piece (Elt F) (Rows 512 128) .f32)

variable (v : View sig .tc .vmem (Rows 512 128) .f32)

/-- The running sum as the strip of rows from `o` loads it. -/
def runAt {n o : ℕ} (h : DiagEv n o) (L : Stores F) : FVec F (Rows n 128) .f32 :=
  v.readCov L (Rect.unit (s := Rows 512 128) ![o, 0] (Rows n 128).size h.inb).toLoadRect

/-- A diagonal strip's stores to the running sum. -/
def runDiag {n o : ℕ} (h : DiagEv n o) (d : FVec F (Rows 512 512) .f32) (w : FVec F (Rows 256 256) .bf16) (L : Stores F) :
    Stores F :=
  ⟨Rect.unit (s := Rows 512 128) ![o, 0] (Rows n 128).size h.inb,
    runNext h.toStripEv (logKeepDiag h.toStripEv (extractStridedSlice (Rows n 128) ![o, o] d h.slice)) (runAt v h L) w⟩ :: L

/-- A diagonal strip's weights, zero from the row's own column on. -/
def weightDiag {n o : ℕ} (h : DiagEv n o) (d : FVec F (Rows 512 512) .f32) (w : FVec F (Rows 256 256) .bf16) (L : Stores F) :
    FVec F (Rows n 128) .bf16 :=
  truncf .bf16 (select (before h.toStripEv)
    (weightOf h.toStripEv (logBeta (extractStridedSlice (Rows n 128) ![o, o] d h.slice))
      (logKeepDiag h.toStripEv (extractStridedSlice (Rows n 128) ![o, o] d h.slice)) (runAt v h L) w)
    (broadcast (Rows n 128) (Scalar.ofBits .f32 0x00000000#32))) bitsLt_bf16_f32

/-- … under `m` rows of zeros. -/
def weightBelow {n m : ℕ} (h : Shape.Concatenates [Rows m 128, Rows n 128] (Rows 512 128) 0) (a : FVec F (Rows n 128) .bf16) :
    FVec F (Rows 512 128) .bf16 :=
  concatenate (Rows 512 128) 0 [⟨Rows m 128, broadcast (Rows m 128) (Scalar.ofBits .bf16 0x0000#16)⟩, ⟨Rows n 128, a⟩] h

/-- The running sum as a strip of all rows loads it. -/
def runAll (h : ∀ a, (![0, 0] : Fin 2 → ℕ) a + (Rows 512 128).size a ≤ (Rows 512 128).size a) (L : Stores F) :
    FVec F (Rows 512 128) .f32 :=
  v.readCov L (Rect.unit (s := Rows 512 128) ![0, 0] (Rows 512 128).size h).toLoadRect

/-- The stores to the running sum of a strip left of the diagonal. -/
def runFull {o : ℕ} (h : FullEv o) (d : FVec F (Rows 512 512) .f32) (w : FVec F (Rows 256 256) .bf16) (L : Stores F) :
    Stores F :=
  ⟨Rect.unit (s := Rows 512 128) ![0, 0] (Rows 512 128).size h.inb,
    runNext h.toStripEv (logKeep (extractStridedSlice (Rows 512 128) ![0, o] d h.slice)) (runAll v h.inb L) w⟩ :: L

/-- Its weights. -/
def weightFull {o : ℕ} (h : FullEv o) (d : FVec F (Rows 512 512) .f32) (w : FVec F (Rows 256 256) .bf16) (L : Stores F) :
    FVec F (Rows 512 128) .bf16 :=
  truncf .bf16 (weightOf h.toStripEv (logBeta (extractStridedSlice (Rows 512 128) ![0, o] d h.slice))
    (logKeep (extractStridedSlice (Rows 512 128) ![0, o] d h.slice)) (runAll v h.inb L) w) bitsLt_bf16_f32

/-- The chunk's weights against its values, added to the accumulator. -/
def accNext (va : View sig .tc .vmem (Rows 512 128) .f32) (a0 a1 a2 a3 : FVec F (Rows 512 128) .bf16)
    (x : FVec F (Rows 512 128) .bf16) (A : Stores F) : Stores F :=
  ⟨Rect.unit (s := Rows 512 128) ![0, 0] (Rows 512 128).size inb_S512x128_S512x128_0_0,
    shapeCast (Rows 512 128) (addf (runAll va inb_S512x128_S512x128_0_0 A)
      (matmul dot_S512x512_S512x128_S512x128_1_0_0_1_n_n none
        (concatenate (Rows 512 512) 1 [⟨Rows 512 128, a0⟩, ⟨Rows 512 128, a1⟩, ⟨Rows 512 128, a2⟩, ⟨Rows 512 128, a3⟩]
          concatenates_S512x128_S512x128_S512x128_S512x128_S512x512_d1)
        x (constant (Rows 512 128) .f32 0x00000000#32))) shapeCasts_S512x128_S512x128⟩ :: A

/-- The four strips of a diagonal chunk. -/
theorem diag0 : DiagEv 512 0 where
  dot := dot_S512x256_S256x256_S512x256_1_0_0_1_n_n_wf
  cat := concatenates_S512x128_S512x128_S512x256_d1
  left := slices_S512x256_o0_0_S512x128
  right := slices_S512x256_o0_128_S512x128
  same := shapeCasts_S512x128_S512x128
  cols := iota_S512x128_d1_w32
  rows := iota_S512x128_d0_w32
  slice := slices_S512x512_o0_0_S512x128
  inb := inb_S512x128_S512x128_0_0

theorem diag1 : DiagEv 384 128 where
  dot := dot_S384x256_S256x256_S384x256_1_0_0_1_n_n_wf
  cat := concatenates_S384x128_S384x128_S384x256_d1
  left := slices_S384x256_o0_0_S384x128
  right := slices_S384x256_o0_128_S384x128
  same := shapeCasts_S384x128_S384x128
  cols := iota_S384x128_d1_w32
  rows := iota_S384x128_d0_w32
  slice := slices_S512x512_o128_128_S384x128
  inb := inb_S512x128_S384x128_128_0

theorem diag2 : DiagEv 256 256 where
  dot := dot_S256x256_S256x256_S256x256_1_0_0_1_n_n_wf
  cat := concatenates_S256x128_S256x128_S256x256_d1
  left := slices_S256x256_o0_0_S256x128
  right := slices_S256x256_o0_128_S256x128
  same := shapeCasts_S256x128_S256x128
  cols := iota_S256x128_d1_w32
  rows := iota_S256x128_d0_w32
  slice := slices_S512x512_o256_256_S256x128
  inb := inb_S512x128_S256x128_256_0

theorem diag3 : DiagEv 128 384 where
  dot := dot_S128x256_S256x256_S128x256_1_0_0_1_n_n_wf
  cat := concatenates_S128x128_S128x128_S128x256_d1
  left := slices_S128x256_o0_0_S128x128
  right := slices_S128x256_o0_128_S128x128
  same := shapeCasts_S128x128_S128x128
  cols := iota_S128x128_d1_w32
  rows := iota_S128x128_d0_w32
  slice := slices_S512x512_o384_384_S128x128
  inb := inb_S512x128_S128x128_384_0

/-- The four strips of a chunk left of the diagonal. -/
theorem full0 : FullEv 0 := { diag0.toStripEv with slice := slices_S512x512_o0_0_S512x128, inb := inb_S512x128_S512x128_0_0 }
theorem full1 : FullEv 128 := { diag0.toStripEv with slice := slices_S512x512_o0_128_S512x128, inb := inb_S512x128_S512x128_0_0 }
theorem full2 : FullEv 256 := { diag0.toStripEv with slice := slices_S512x512_o0_256_S512x128, inb := inb_S512x128_S512x128_0_0 }
theorem full3 : FullEv 384 := { diag0.toStripEv with slice := slices_S512x512_o0_384_S512x128, inb := inb_S512x128_S512x128_0_0 }

variable (d : FVec F (Rows 512 512) .f32) (w : FVec F (Rows 256 256) .bf16) (x : FVec F (Rows 512 128) .bf16)
  (va : View sig .tc .vmem (Rows 512 128) .f32) (L A : Stores F)

/-- The running sum's stores over the strips of a diagonal chunk, from the right: after one, two, three, four. -/
def diagA : Stores F := runDiag v diag3 d w L
def diagB : Stores F := runDiag v diag2 d w (diagA v d w L)
def diagC : Stores F := runDiag v diag1 d w (diagB v d w L)
def diagD : Stores F := runDiag v diag0 d w (diagC v d w L)

/-- The accumulator's stores over a diagonal chunk. -/
def accDiag : Stores F :=
  accNext va (weightDiag v diag0 d w (diagC v d w L))
    (weightBelow concatenates_S128x128_S384x128_S512x128_d0 (weightDiag v diag1 d w (diagB v d w L)))
    (weightBelow concatenates_S256x128_S256x128_S512x128_d0 (weightDiag v diag2 d w (diagA v d w L)))
    (weightBelow concatenates_S384x128_S128x128_S512x128_d0 (weightDiag v diag3 d w L)) x A

/-- The running sum's stores over the strips of a chunk left of the diagonal. -/
def fullA : Stores F := runFull v full3 d w L
def fullB : Stores F := runFull v full2 d w (fullA v d w L)
def fullC : Stores F := runFull v full1 d w (fullB v d w L)
def fullD : Stores F := runFull v full0 d w (fullC v d w L)

/-- The accumulator's stores over a chunk left of the diagonal. -/
def accFull : Stores F :=
  accNext va (weightFull v full0 d w (fullC v d w L)) (weightFull v full1 d w (fullB v d w L))
    (weightFull v full2 d w (fullA v d w L)) (weightFull v full3 d w L) x A

/-- A fill of zeros. -/
def zeroed : Stores F :=
  ⟨Rect.unit (s := Rows 512 128) ![0, 0] (Rows 512 128).size inb_S512x128_S512x128_0_0,
    shapeCast (Rows 512 128) (broadcast (Rows 512 128) (Scalar.ofBits .f32 0x00000000#32)) shapeCasts_S512x128_S512x128⟩ :: L

/-- The scores of 512 query rows against 512 key rows, unscaled. -/
def scores (vq vk : View sig .tc .vmem (Rows 2048 128) .bf16) (Q K : List (View.Piece (Elt F) (Rows 2048 128) .bf16)) (q k : ℕ)
    (hq : ∀ a, (![q, 0] : Fin 2 → ℕ) a + (Rows 512 128).size a ≤ (Rows 2048 128).size a)
    (hk : ∀ a, (![k, 0] : Fin 2 → ℕ) a + (Rows 512 128).size a ≤ (Rows 2048 128).size a) : FVec F (Rows 512 512) .f32 :=
  matmul dot_S512x128_S512x128_S512x512_1_1_0_0_n_n none
    (vq.readCov Q (Rect.unit (s := Rows 2048 128) ![q, 0] (Rows 512 128).size hq).toLoadRect)
    (vk.readCov K (Rect.unit (s := Rows 2048 128) ![k, 0] (Rows 512 128).size hk).toLoadRect)
    (constant (Rows 512 512) .f32 0x00000000#32)

/-- The values of 512 key rows. -/
def values (vv : View sig .tc .vmem (Rows 2048 128) .bf16) (X : List (View.Piece (Elt F) (Rows 2048 128) .bf16)) (k : ℕ)
    (hk : ∀ a, (![k, 0] : Fin 2 → ℕ) a + (Rows 512 128).size a ≤ (Rows 2048 128).size a) : FVec F (Rows 512 128) .bf16 :=
  vv.readCov X (Rect.unit (s := Rows 2048 128) ![k, 0] (Rows 512 128).size hk).toLoadRect

/-- The four blocks of 512 rows lie in the 2048. -/
theorem in0 : ∀ a, (![0, 0] : Fin 2 → ℕ) a + (Rows 512 128).size a ≤ (Rows 2048 128).size a := inb_S2048x128_S512x128_0_0
theorem in1 : ∀ a, (![512, 0] : Fin 2 → ℕ) a + (Rows 512 128).size a ≤ (Rows 2048 128).size a := inb_S2048x128_S512x128_512_0
theorem in2 : ∀ a, (![1024, 0] : Fin 2 → ℕ) a + (Rows 512 128).size a ≤ (Rows 2048 128).size a := inb_S2048x128_S512x128_1024_0
theorem in3 : ∀ a, (![1536, 0] : Fin 2 → ℕ) a + (Rows 512 128).size a ≤ (Rows 2048 128).size a := inb_S2048x128_S512x128_1536_0

/-- A block of 512 output rows: the accumulator, read back. -/
def outBlock (va : View sig .tc .vmem (Rows 512 128) .f32) (A : Stores F) : FVec F S1x512x128 .f32 :=
  shapeCast S1x512x128 (runAll va inb_S512x128_S512x128_0_0 A) shapeCasts_S512x128_S1x512x128

/-- The output block's four stores. -/
def outStores (b0 b1 b2 b3 : FVec F S1x512x128 .f32) : List (View.Piece (Elt F) S1x2048x128 .f32) :=
  [⟨Rect.unit (s := S1x2048x128) ![0, 1536, 0] S1x512x128.size inb_S1x2048x128_S1x512x128_0_1536_0, b3⟩,
   ⟨Rect.unit (s := S1x2048x128) ![0, 1024, 0] S1x512x128.size inb_S1x2048x128_S1x512x128_0_1024_0, b2⟩,
   ⟨Rect.unit (s := S1x2048x128) ![0, 512, 0] S1x512x128.size inb_S1x2048x128_S1x512x128_0_512_0, b1⟩,
   ⟨Rect.unit (s := S1x2048x128) ![0, 0, 0] S1x512x128.size inb_S1x2048x128_S1x512x128_0_0_0, b0⟩]

end Cert.SbIdeal.Stick

end
-- ==== Proof.SbMath.lean ====
/- The real mathematics of the stick-breaking attention of one head: the log-sigmoid in the two forms the kernel and the
   reference compute it in, the log-keeps summed from a column to the end of the row, and how such a sum and a weight
   are put together from a block of 128 columns and the sum over the columns after the block. -/
module

public import Idealize.ShloMosaic.Init
public import Mathlib.Analysis.SpecialFunctions.Log.Basic
public import Mathlib.Analysis.SpecialFunctions.Pow.Real

@[expose] public section

noncomputable section

namespace Cert.Stick

/-- The log-sigmoid, `log (1 / (1 + exp (-x)))`. -/
def ls (x : ℝ) : ℝ := -Real.log (1 + Real.exp (-x))

/-- The stable form: the smaller of `x` and zero, less the logarithm of one plus the exponential of minus the size. -/
theorem ls_eq_min (x : ℝ) : min x 0 - Real.log (1 + Real.exp (-|x|)) = ls x := by
  unfold ls
  rcases le_total 0 x with h | h
  · rw [min_eq_right h, abs_of_nonneg h]; ring
  · rw [min_eq_left h, abs_of_nonpos h, neg_neg]
    have e : 1 + Real.exp (-x) = Real.exp (-x) * (1 + Real.exp x) := by
      rw [mul_add, mul_one, ← Real.exp_add]; simp [add_comm]
    rw [e, Real.log_mul (Real.exp_pos _).ne' (by positivity), Real.log_exp]
    ring

/-- The other branch's log-sigmoid: subtracting the score turns `log σ(x)` into `log σ(-x)`. -/
theorem ls_sub (x : ℝ) : ls x - x = ls (-x) := by
  have e : 1 + Real.exp x = Real.exp x * (1 + Real.exp (-x)) := by
    rw [mul_add, mul_one, ← Real.exp_add]; simp [add_comm]
  unfold ls
  rw [neg_neg, e, Real.log_mul (Real.exp_pos _).ne' (by positivity), Real.log_exp]
  ring

/-- Two to a multiple of `-(1/√128)(1/log 2)` is an exponential at the scaled score. -/
theorem two_rpow (d : ℝ) :
    (2 : ℝ) ^ (|d| * -((Real.sqrt 128)⁻¹ * (Real.log 2)⁻¹)) = Real.exp (-|d * (Real.sqrt 128)⁻¹|) := by
  have h2 : Real.log 2 ≠ 0 := (Real.log_pos (by norm_num)).ne'
  rw [Real.rpow_def_of_pos (by norm_num), abs_mul, abs_of_nonneg (a := (Real.sqrt 128)⁻¹) (by positivity)]
  congr 1
  field_simp

/-- What row `t` keeps at column `j`, in logarithm: zero from the diagonal on. -/
def keep (z : ℕ → ℕ → ℝ) (t j : ℕ) : ℝ := if j < t then ls (-z t j) else 0

/-- The log-keeps of row `t` from column `s` to the end of the row, 2048 columns. -/
def tailFrom (z : ℕ → ℕ → ℝ) (t s : ℕ) : ℝ := ∑ j ∈ Finset.Ico s 2048, keep z t j

/-- The weight of column `s` in row `t`. -/
def weight (z : ℕ → ℕ → ℝ) (t s : ℕ) : ℝ := if s < t then Real.exp (ls (z t s) + tailFrom z t (s + 1)) else 0

/-- Nothing is kept from the row's own column on. -/
theorem tailFrom_of_le (z : ℕ → ℕ → ℝ) (t s : ℕ) (h : t ≤ s) : tailFrom z t s = 0 :=
  Finset.sum_eq_zero fun j hj => by
    rw [Finset.mem_Ico] at hj
    exact if_neg (by omega)

/-- From a place inside a block of 128 columns: the rest of the block, then the columns after it. -/
theorem tailFrom_inside (z : ℕ → ℕ → ℝ) (t s x : ℕ) (hs : s + 128 ≤ 2048) (hx : x ≤ 128) :
    tailFrom z t (s + x) = (∑ y : Fin 128, if x ≤ y.val then keep z t (s + y.val) else 0) + tailFrom z t (s + 128) := by
  unfold tailFrom
  rw [← Finset.sum_Ico_consecutive _ (show s + x ≤ s + 128 by omega) hs]
  congr 1
  rw [Fin.sum_univ_eq_sum_range (fun y => if x ≤ y then keep z t (s + y) else 0) 128, ← Finset.sum_filter]
  have : (Finset.range 128).filter (x ≤ ·) = Finset.Ico x 128 := by
    ext y; simp only [Finset.mem_filter, Finset.mem_range, Finset.mem_Ico]; omega
  rw [this, add_comm s x, add_comm s 128, ← Finset.sum_Ico_add' (fun y => keep z t y) x 128 s]
  exact Finset.sum_congr rfl fun y _ => by rw [add_comm]

/-- From the start of a block of 128 columns: the block, then the columns after it. -/
theorem tailFrom_block (z : ℕ → ℕ → ℝ) (t s : ℕ) (hs : s + 128 ≤ 2048) :
    tailFrom z t s = (∑ y : Fin 128, keep z t (s + y.val)) + tailFrom z t (s + 128) := by
  have h := tailFrom_inside z t s 0 hs (by omega)
  simpa using h

end Cert.Stick

end
-- ==== Proof.SbStrip.lean ====
/- One strip of the stick-breaking kernel over the extended reals: where the scores are the real numbers
   `D t s`, its log-sigmoids, suffix sums, weights and the next running sum are those of `SbMath`. -/
module

public import proofs.«01_k».proof.Proof.SbVocab
public import proofs.«01_k».proof.Proof.SbMath
public import Idealize.ShloMosaic.Lib.Pointwise
public import Idealize.ShloMosaic.Lib.Pointwise.IndexVar
public import Idealize.ShloMosaic.Lib.WordCmp

@[expose] public section

set_option maxRecDepth 16384

noncomputable section

namespace Cert.SbIdeal.Stick

open Idealize.ShloMosaic Cert.SbIdeal.Facts₀ Cert.SbIdeal.Facts Cert.Stick

/-- The scaled score of query `t` and key `s`. -/
def zOf (D : ℕ → ℕ → ℝ) (t s : ℕ) : ℝ := D t s * (√128)⁻¹

theorem named_scale : (Named.named (F := Ideal) κ "inv_sqrt_d" (φ := .f32) 0x3DB504F3#32 : EReal) = (((√128)⁻¹ : ℝ) : EReal) :=
  IdealRules.named_const.ideal_named_scalar _ _ _ _ rfl

theorem named_log2 : (Named.named (F := Ideal) κ "neg_log2e_inv_sqrt_d" (φ := .f32) 0xBE0293EE#32 : EReal)
    = ((-((√128)⁻¹ * (Real.log 2)⁻¹) : ℝ) : EReal) :=
  IdealRules.named_const.ideal_named_scalar _ _ _ _ rfl

variable {n : ℕ}

theorem scoreOf_apply (d : FVec Ideal (Rows n 128) .f32) (y : (Rows n 128).Idx) (x : ℝ) (h : d y = (x : EReal)) :
    scoreOf d y = ((x * (√128)⁻¹ : ℝ) : EReal) := by
  unfold scoreOf
  pointwise
  rw [h, named_scale, EReal.coe_mul]

theorem logBeta_apply (d : FVec Ideal (Rows n 128) .f32) (y : (Rows n 128).Idx) (x : ℝ) (h : d y = (x : EReal)) :
    logBeta d y = ((ls (x * (√128)⁻¹) : ℝ) : EReal) := by
  unfold logBeta
  pointwise
  rw [scoreOf_apply d y x h, named_log2, h, ← ls_eq_min, ← two_rpow]
  have habs : FloatOps.absf (F := Ideal) (φ := .f32) ((x : ℝ) : EReal) = ((|x| : ℝ) : EReal) := by
    show max (x : EReal) (-(x : EReal)) = _
    rw [← EReal.coe_neg, ← EReal.coe_strictMono.monotone.map_max]; rfl
  rw [habs, ← EReal.coe_mul]
  show min _ _ - Ideal.log (1 + Ideal.exp2 _) = _
  rw [Ideal.exp2_coe, ← EReal.coe_one, ← EReal.coe_add, Ideal.log_coe, if_neg, EReal.coe_sub, EReal.coe_strictMono.monotone.map_min, EReal.coe_zero]
  · rfl
  · have : 0 < Real.rpow 2 (|x| * -((√128)⁻¹ * (Real.log 2)⁻¹)) := Real.rpow_pos_of_pos (by norm_num) _
    linarith

theorem logKeep_apply (d : FVec Ideal (Rows n 128) .f32) (y : (Rows n 128).Idx) (x : ℝ) (h : d y = (x : EReal)) :
    logKeep d y = ((ls (-(x * (√128)⁻¹)) : ℝ) : EReal) := by
  unfold logKeep
  pointwise
  rw [scoreOf_apply d y x h, logBeta_apply d y x h, ← ls_sub, EReal.coe_sub]

theorem before_apply (h : StripEv n) (i : Fin n) (j : Fin 128) (hn : n ≤ 512) :
    before h (ix2 i j) = BitVec.ofBool (decide (j.val < i.val)) := by
  unfold before
  pointwise
  rw [WordCmp.cmpi_slt_ofNat (by omega) (by omega)]

/-- The matrix of the suffix sums: below the diagonal of both left halves, and everywhere on the right. -/
def IsSuffix (w : FVec Ideal (Rows 256 256) .bf16) : Prop :=
  ∀ a b : Fin 256, w (ix2 a b) = if b.val < 128 then (if b.val < a.val % 128 then 1 else 0) else 1

/-- A real sum's value is the sum of the values. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_sum_ite {p : Fin 128 → Prop} [DecidablePred p] (l : Fin 128 → ℝ) :
    (∑ y : Fin 128, (l y : EReal) * (if p y then 1 else 0)) = ((∑ y : Fin 128, if p y then l y else 0 : ℝ) : EReal) := by
  rw [coe_sum]
  refine Finset.sum_congr rfl fun y _ => ?_
  split <;> simp

/-- A row of log-keeps against the matrix: what the cast dropped is zero. -/
theorem sums_row (h : StripEv n) (lk : FVec Ideal (Rows n 128) .f32) (w : FVec Ideal (Rows 256 256) .bf16) (i : Fin n)
    (j : Fin 256) (l : Fin 128 → ℝ) (hl : ∀ y, lk (ix2 i y) = (l y : EReal)) :
    sums h lk w (ix2 i j) = ∑ y : Fin 128, (l y : EReal) * w (ix2 ⟨y.val, by omega⟩ j) := by
  unfold sums
  show Ideal.matmul (stripDot h) _ _ _ _ = _
  rw [Ideal.matmul_apply₁ _ rfl rfl]
  pointwise
  simp only [hl, ← EReal.coe_sub, sub_self, EReal.coe_zero, zero_mul, Finset.sum_const_zero, add_zero]

theorem sums_left (h : StripEv n) (lk : FVec Ideal (Rows n 128) .f32) (w : FVec Ideal (Rows 256 256) .bf16)
    (hw : IsSuffix w) (i : Fin n) (j : Fin 256) (hj : j.val < 128) (l : Fin 128 → ℝ) (hl : ∀ y, lk (ix2 i y) = (l y : EReal)) :
    sums h lk w (ix2 i j) = ((∑ y : Fin 128, if j.val + 1 ≤ y.val then l y else 0 : ℝ) : EReal) := by
  rw [sums_row h lk w i j l hl, ← coe_sum_ite]
  refine Finset.sum_congr rfl fun y _ => ?_
  rw [hw, if_pos hj]
  simp only [Nat.mod_eq_of_lt y.isLt, Nat.succ_le_iff]

theorem sums_right (h : StripEv n) (lk : FVec Ideal (Rows n 128) .f32) (w : FVec Ideal (Rows 256 256) .bf16)
    (hw : IsSuffix w) (i : Fin n) (j : Fin 256) (hj : 128 ≤ j.val) (l : Fin 128 → ℝ) (hl : ∀ y, lk (ix2 i y) = (l y : EReal)) :
    sums h lk w (ix2 i j) = ((∑ y : Fin 128, l y : ℝ) : EReal) := by
  rw [sums_row h lk w i j l hl, coe_sum]
  refine Finset.sum_congr rfl fun y _ => ?_
  rw [hw, if_neg (by omega), mul_one]

variable (z : ℕ → ℕ → ℝ)

/-- The running sum after a strip of keys from `s`: the log-keeps of all keys from `s` on. -/
theorem runNext_apply (h : StripEv n) (lk r : FVec Ideal (Rows n 128) .f32) (w : FVec Ideal (Rows 256 256) .bf16)
    (hw : IsSuffix w) (i : Fin n) (j : Fin 128) (t s : ℕ) (hs : s + 128 ≤ 2048)
    (hl : ∀ y : Fin 128, lk (ix2 i y) = ((keep z t (s + y.val) : ℝ) : EReal))
    (hr : r (ix2 i j) = ((tailFrom z t (s + 128) : ℝ) : EReal)) :
    runNext h lk r w (ix2 i j) = ((tailFrom z t s : ℝ) : EReal) := by
  unfold runNext
  rw [shapeCast_self]
  pointwise
  rw [hr, sums_right h lk w hw i _ (by simp) _ hl, ← EReal.coe_add, tailFrom_block z t s hs, add_comm]

/-- The strip's weights. -/
theorem weightOf_apply (h : StripEv n) (lb lk r : FVec Ideal (Rows n 128) .f32) (w : FVec Ideal (Rows 256 256) .bf16)
    (hw : IsSuffix w) (i : Fin n) (j : Fin 128) (t s : ℕ) (hs : s + 128 ≤ 2048)
    (hb : lb (ix2 i j) = ((ls (z t (s + j.val)) : ℝ) : EReal))
    (hl : ∀ y : Fin 128, lk (ix2 i y) = ((keep z t (s + y.val) : ℝ) : EReal))
    (hr : r (ix2 i j) = ((tailFrom z t (s + 128) : ℝ) : EReal)) :
    weightOf h lb lk r w (ix2 i j)
      = ((Real.exp (ls (z t (s + j.val)) + tailFrom z t (s + j.val + 1)) : ℝ) : EReal) := by
  unfold weightOf
  pointwise
  rw [hr, hb, sums_left h lk w hw i _ (by simp) _ hl, ← EReal.coe_add, ← EReal.coe_add, add_assoc (s) ,
    tailFrom_inside z t s (j.val + 1) hs (by omega), add_assoc]
  rfl

variable {o : ℕ} (D : ℕ → ℕ → ℝ) (d : FVec Ideal (Rows 512 512) .f32) (w : FVec Ideal (Rows 256 256) .bf16)

/-- The chunk's scores of the query rows from `q` and the key rows from `k`. -/
def IsScores (D : ℕ → ℕ → ℝ) (d : FVec Ideal (Rows 512 512) .f32) (q k : ℕ) : Prop :=
  ∀ i j : Fin 512, d (ix2 i j) = ((D (q + i.val) (k + j.val) : ℝ) : EReal)

/-- A strip's slice of the scores on the diagonal. -/
theorem slice_diag (h : DiagEv n o) (q k : ℕ) (hd : IsScores D d q k) (i : Fin n) (j : Fin 128) :
    extractStridedSlice (Rows n 128) ![o, o] d h.slice (ix2 i j)
      = ((D (q + o + i.val) (k + o + j.val) : ℝ) : EReal) := by
  pointwise
  rw [hd]
  simp only [Nat.add_assoc]

/-- … and left of it. -/
theorem slice_full (h : FullEv o) (q k : ℕ) (hd : IsScores D d q k) (i : Fin 512) (j : Fin 128) :
    extractStridedSlice (Rows 512 128) ![0, o] d h.slice (ix2 i j)
      = ((D (q + i.val) (k + o + j.val) : ℝ) : EReal) := by
  pointwise
  rw [hd]
  simp only [Nat.add_assoc, Nat.zero_add]

theorem logKeepDiag_apply (h : StripEv n) (hn : n ≤ 512) (x : FVec Ideal (Rows n 128) .f32) (b : ℕ) (i : Fin n) (j : Fin 128)
    (hx : x (ix2 i j) = ((D (b + i.val) (b + j.val) : ℝ) : EReal)) :
    logKeepDiag h x (ix2 i j) = ((keep (zOf D) (b + i.val) (b + j.val) : ℝ) : EReal) := by
  unfold logKeepDiag
  pointwise
  rw [before_apply h i j hn, logKeep_apply x _ _ hx]
  unfold keep zOf
  by_cases hlt : j.val < i.val <;> simp [hlt, Scalar.select]

end Cert.SbIdeal.Stick

end
-- ==== Proof.SbChunk.lean ====
/- What a chunk of the stick-breaking kernel leaves in its two scratches over the extended reals. -/
module

public import proofs.«01_k».proof.Proof.SbStrip
public import Idealize.ShloMosaic.Lib.Pipeline.ValueKit
public import Idealize.ShloMosaic.Lib.Pointwise.IndexBridge

@[expose] public section

set_option maxRecDepth 16384

noncomputable section

namespace Cert.SbIdeal.Stick

open Idealize.ShloMosaic Cert.SbIdeal.Facts₀ Cert.SbIdeal.Facts Cert.Stick

/-- Element `(i, j)` of a rectangle of unit stride at `(a, b)` is element `(a + i, b + j)` of the whole. -/
theorem unit_emb2 {R C n m a b : ℕ} (h : ∀ x, (![a, b] : Fin 2 → ℕ) x + (Rows n m).size x ≤ (Rows R C).size x) (i : Fin n)
    (j : Fin m) (i' : Fin R) (j' : Fin C) (hi : i'.val = a + i.val) (hj : j'.val = b + j.val) :
    (Rect.unit (s := Rows R C) ![a, b] (Rows n m).size h).emb (ix2 i j) = ix2 i' j' := by
  funext x
  refine Fin.ext ?_
  match x with
  | 0 => exact (Rect.idx_unit_val _ _ _ _ _).trans hi.symm
  | 1 => exact (Rect.idx_unit_val _ _ _ _ _).trans hj.symm

theorem readCov2 {R C n m a b : ℕ} {φ : EltTy} (v : View sig .tc .vmem (Rows R C) φ)
    (L : List (View.Piece (Elt Ideal) (Rows R C) φ))
    (h : ∀ x, (![a, b] : Fin 2 → ℕ) x + (Rows n m).size x ≤ (Rows R C).size x) (i : Fin n)
    (j : Fin m) (i' : Fin R) (j' : Fin C) (hi : i'.val = a + i.val) (hj : j'.val = b + j.val) :
    v.readCov L (Rect.unit (s := Rows R C) ![a, b] (Rows n m).size h).toLoadRect (ix2 i j) = View.canon L (ix2 i' j') := by
  rw [View.readCov_eq_canon']
  exact congrArg _ (unit_emb2 h i j i' j' hi hj)

/-- Inside the newest store. -/
theorem canon_inside {n o : ℕ} (h : ∀ x, (![o, 0] : Fin 2 → ℕ) x + (Rows n 128).size x ≤ (Rows 512 128).size x)
    (p : FVec Ideal (Rows n 128) .f32) (L : Stores Ideal) (i : Fin 512) (j : Fin 128) (i' : Fin n) (hi : i.val = o + i'.val) :
    View.canon ((⟨Rect.unit (s := Rows 512 128) ![o, 0] (Rows n 128).size h, p⟩ : View.Piece (Elt Ideal) (Rows 512 128) .f32) :: L)
      (ix2 i j) = p (ix2 i' j) := by
  rw [← unit_emb2 h i' j i j hi (by simp)]
  exact View.canon_cons_emb (Rect.unit (s := Rows 512 128) ![o, 0] (Rows n 128).size h) p L _

/-- Above it. -/
theorem canon_above {n o : ℕ} (h : ∀ x, (![o, 0] : Fin 2 → ℕ) x + (Rows n 128).size x ≤ (Rows 512 128).size x)
    (p : FVec Ideal (Rows n 128) .f32) (L : Stores Ideal) (i : Fin 512) (j : Fin 128) (hi : i.val < o) :
    View.canon ((⟨Rect.unit (s := Rows 512 128) ![o, 0] (Rows n 128).size h, p⟩ : View.Piece (Elt Ideal) (Rows 512 128) .f32) :: L)
      (ix2 i j) = View.canon L (ix2 i j) := by
  refine View.canon_cons_of_not_mem _ L fun hm => ?_
  have h0 := (Rect.mem_set_unit (inb := h).mp hm 0).1
  exact absurd hi (not_lt.mpr h0)

/-- The running sum of the queries from `q`, the keys from `b` on taken in. -/
def RunState (z : ℕ → ℕ → ℝ) (L : Stores Ideal) (q b : ℕ) : Prop :=
  ∀ (i : Fin 512) (j : Fin 128), View.canon L (ix2 i j) = ((tailFrom z (q + i.val) b : ℝ) : EReal)

/-- The accumulator of the queries from `q`, the keys from `b` on taken in. -/
def AccState (z : ℕ → ℕ → ℝ) (V : ℕ → Fin 128 → EReal) (A : Stores Ideal) (q b : ℕ) : Prop :=
  ∀ (i : Fin 512) (j : Fin 128), View.canon A (ix2 i j) = ∑ s ∈ Finset.Ico b 2048, ((weight z (q + i.val) s : ℝ) : EReal) * V s j

/-- A strip's weights of the queries from `q` and the keys from `k`. -/
def IsWeights (z : ℕ → ℕ → ℝ) {n : ℕ} (a : FVec Ideal (Rows n 128) .bf16) (q k : ℕ) : Prop :=
  ∀ (i : Fin n) (j : Fin 128), a (ix2 i j) = ((weight z (q + i.val) (k + j.val) : ℝ) : EReal)

variable {D : ℕ → ℕ → ℝ} {d : FVec Ideal (Rows 512 512) .f32} {w : FVec Ideal (Rows 256 256) .bf16}
  {v va : View sig .tc .vmem (Rows 512 128) .f32} {L A : Stores Ideal} {V : ℕ → Fin 128 → EReal}

section Diag

variable {n o q : ℕ}

theorem runAt_apply (h : DiagEv n o) (b : ℕ) (hL : RunState (zOf D) L q b) (hno : o + n = 512) (i : Fin n) (j : Fin 128) :
    runAt v h L (ix2 i j) = ((tailFrom (zOf D) (q + o + i.val) b : ℝ) : EReal) := by
  unfold runAt
  rw [readCov2 v L h.inb i j ⟨o + i.val, by omega⟩ j rfl (by simp), hL, Nat.add_assoc]

theorem runDiag_state (h : DiagEv n o) (hno : o + n = 512) (hq : q + o + 128 ≤ 2048) (hw : IsSuffix w)
    (hd : IsScores D d q q) (hL : RunState (zOf D) L q (q + o + 128)) : RunState (zOf D) (runDiag v h d w L) q (q + o) := by
  intro i j
  by_cases hi : o ≤ i.val
  · unfold runDiag
    rw [canon_inside h.inb _ L i j ⟨i.val - o, by omega⟩ (by simp; omega),
      runNext_apply (zOf D) h.toStripEv _ _ w hw _ j (q + i.val) (q + o) hq]
    · intro y
      rw [logKeepDiag_apply D h.toStripEv (by omega) _ (q + o) _ y (slice_diag D d h q q hd _ y)]
      simp only [show q + o + (i.val - o) = q + i.val by omega]
    · rw [runAt_apply h _ hL hno]
      simp only [show q + o + (i.val - o) = q + i.val by omega]
  · unfold runDiag
    rw [canon_above h.inb _ L i j (by omega), hL, tailFrom_of_le _ _ _ (by omega), tailFrom_of_le _ _ _ (by omega)]

theorem weightDiag_apply (h : DiagEv n o) (hno : o + n = 512) (hq : q + o + 128 ≤ 2048) (hw : IsSuffix w)
    (hd : IsScores D d q q) (hL : RunState (zOf D) L q (q + o + 128)) :
    IsWeights (zOf D) (weightDiag v h d w L) (q + o) (q + o) := by
  intro i j
  unfold weightDiag
  pointwise
  rw [before_apply h.toStripEv i j (by omega),
    weightOf_apply (zOf D) h.toStripEv _ _ _ w hw i j (q + o + i.val) (q + o) hq
      (logBeta_apply _ _ _ (slice_diag D d h q q hd i j))
      (fun y => logKeepDiag_apply D h.toStripEv (by omega) _ (q + o) i y (slice_diag D d h q q hd i y))
      (runAt_apply h _ hL hno i j)]
  unfold weight
  by_cases hlt : j.val < i.val <;> simp [hlt, Scalar.select]

theorem weightBelow_apply {m : ℕ} (hmn : m + n = 512) (h : Shape.Concatenates [Rows m 128, Rows n 128] (Rows 512 128) 0)
    (a : FVec Ideal (Rows n 128) .bf16) (z : ℕ → ℕ → ℝ) (ha : IsWeights z a (q + m) (q + m)) :
    IsWeights z (weightBelow h a) q (q + m) := by
  intro i j
  unfold weightBelow
  pointwise
  split
  · rename_i hi
    unfold weight
    rw [if_neg (by omega), EReal.coe_zero]
  · rename_i hi
    rw [ha]
    simp only [show q + m + (i.val - m) = q + i.val by omega]

end Diag

section Full

variable {o q k : ℕ}

theorem runAll_apply (h : ∀ a, (![0, 0] : Fin 2 → ℕ) a + (Rows 512 128).size a ≤ (Rows 512 128).size a) (i : Fin 512) (j : Fin 128) :
    runAll v h L (ix2 i j) = View.canon L (ix2 i j) := by
  unfold runAll
  rw [readCov2 v L h i j i j (by simp) (by simp)]

theorem keep_full (h : FullEv o) (hk : k + o + 128 ≤ q) (hd : IsScores D d q k) (i : Fin 512) (y : Fin 128) :
    logKeep (extractStridedSlice (Rows 512 128) ![0, o] d h.slice) (ix2 i y)
      = ((keep (zOf D) (q + i.val) (k + o + y.val) : ℝ) : EReal) := by
  rw [logKeep_apply _ _ _ (slice_full D d h q k hd i y)]
  unfold keep zOf
  rw [if_pos (by omega)]

theorem runFull_state (h : FullEv o) (hk : k + o + 128 ≤ q) (hq : q ≤ 2048) (hw : IsSuffix w)
    (hd : IsScores D d q k) (hL : RunState (zOf D) L q (k + o + 128)) : RunState (zOf D) (runFull v h d w L) q (k + o) := by
  intro i j
  unfold runFull
  rw [canon_inside h.inb _ L i j i (by simp),
    runNext_apply (zOf D) h.toStripEv _ _ w hw i j (q + i.val) (k + o) (by omega) (keep_full h hk hd i)]
  rw [runAll_apply, hL]

theorem weightFull_apply (h : FullEv o) (hk : k + o + 128 ≤ q) (hq : q ≤ 2048) (hw : IsSuffix w)
    (hd : IsScores D d q k) (hL : RunState (zOf D) L q (k + o + 128)) :
    IsWeights (zOf D) (weightFull v h d w L) q (k + o) := by
  intro i j
  unfold weightFull
  pointwise
  rw [weightOf_apply (zOf D) h.toStripEv _ _ _ w hw i j (q + i.val) (k + o) (by omega)
      (logBeta_apply _ _ _ (slice_full D d h q k hd i j)) (keep_full h hk hd i) (by rw [runAll_apply, hL])]
  unfold weight
  rw [if_pos (by omega)]

/-- A sum over consecutive keys. -/
theorem sum_block (f : ℕ → EReal) (s m : ℕ) : ∑ x : Fin m, f (s + x.val) = ∑ j ∈ Finset.Ico s (s + m), f j := by
  rw [Fin.sum_univ_eq_sum_range (fun y => f (s + y)) m, Finset.range_eq_Ico, Finset.sum_Ico_add f 0 m s]
  simp [add_comm]

theorem accNext_state {a0 a1 a2 a3 : FVec Ideal (Rows 512 128) .bf16} {x : FVec Ideal (Rows 512 128) .bf16} {z : ℕ → ℕ → ℝ}
    (hk : k + 512 ≤ 2048) (h0 : IsWeights z a0 q k) (h1 : IsWeights z a1 q (k + 128)) (h2 : IsWeights z a2 q (k + 256))
    (h3 : IsWeights z a3 q (k + 384)) (hx : ∀ (p : Fin 512) (j : Fin 128), x (ix2 p j) = V (k + p.val) j)
    (hA : AccState z V A q (k + 512)) : AccState z V (accNext va a0 a1 a2 a3 x A) q k := by
  intro i j
  unfold accNext
  rw [canon_inside _ _ A i j i (by simp), shapeCast_self]
  pointwise
  rw [runAll_apply, hA]
  simp only [h0 _ _, h1 _ _, h2 _ _, h3 _ _, hx]
  rw [← Finset.sum_Ico_consecutive _ (show k ≤ k + 512 by omega) hk,
    ← sum_block (fun s => ((weight z (q + i.val) s : ℝ) : EReal) * V s j) k 512, add_comm]
  refine congrArg (· + _) (Finset.sum_congr rfl fun p _ => ?_)
  refine congrArg (· * _) ?_
  split_ifs with c1 c2 c3
  · rfl
  · rw [show k + 128 + (p.val - 128) = k + p.val by omega]
  · rw [show k + 256 + (p.val - 128 - 128) = k + p.val by omega]
  · rw [show k + 384 + (p.val - 128 - 128 - 128) = k + p.val by omega]

/-- A diagonal chunk takes its 512 keys into the running sum … -/
theorem diagD_state (hq : q + 512 ≤ 2048) (hw : IsSuffix w) (hd : IsScores D d q q) (hL : RunState (zOf D) L q (q + 512)) :
    RunState (zOf D) (diagA v d w L) q (q + 384) ∧ RunState (zOf D) (diagB v d w L) q (q + 256)
      ∧ RunState (zOf D) (diagC v d w L) q (q + 128) ∧ RunState (zOf D) (diagD v d w L) q q := by
  have hA := runDiag_state (v := v) diag3 rfl (by omega) hw hd hL
  have hB := runDiag_state (v := v) diag2 rfl (by omega) hw hd hA
  have hC := runDiag_state (v := v) diag1 rfl (by omega) hw hd hB
  exact ⟨hA, hB, hC, runDiag_state (v := v) diag0 rfl (by omega) hw hd hC⟩

/-- … and into the accumulator. -/
theorem accDiag_state {x : FVec Ideal (Rows 512 128) .bf16} (hq : q + 512 ≤ 2048) (hw : IsSuffix w) (hd : IsScores D d q q)
    (hL : RunState (zOf D) L q (q + 512)) (hx : ∀ (p : Fin 512) (j : Fin 128), x (ix2 p j) = V (q + p.val) j)
    (hA : AccState (zOf D) V A q (q + 512)) : AccState (zOf D) V (accDiag v d w x va L A) q q := by
  obtain ⟨sA, sB, sC, -⟩ := diagD_state (v := v) hq hw hd hL
  refine accNext_state hq (weightDiag_apply diag0 rfl (by omega) hw hd sC) ?_ ?_ ?_ hx hA
  · exact weightBelow_apply (m := 128) rfl _ _ _ (weightDiag_apply diag1 rfl (by omega) hw hd sB)
  · exact weightBelow_apply (m := 256) rfl _ _ _ (weightDiag_apply diag2 rfl (by omega) hw hd sA)
  · exact weightBelow_apply (m := 384) rfl _ _ _ (weightDiag_apply diag3 rfl (by omega) hw hd hL)

/-- A chunk left of the diagonal takes its 512 keys into the running sum … -/
theorem fullD_state (hk : k + 512 ≤ q) (hq : q ≤ 2048) (hw : IsSuffix w) (hd : IsScores D d q k)
    (hL : RunState (zOf D) L q (k + 512)) :
    RunState (zOf D) (fullA v d w L) q (k + 384) ∧ RunState (zOf D) (fullB v d w L) q (k + 256)
      ∧ RunState (zOf D) (fullC v d w L) q (k + 128) ∧ RunState (zOf D) (fullD v d w L) q k := by
  have hA := runFull_state (v := v) full3 (by omega) hq hw hd hL
  have hB := runFull_state (v := v) full2 (by omega) hq hw hd hA
  have hC := runFull_state (v := v) full1 (by omega) hq hw hd hB
  exact ⟨hA, hB, hC, runFull_state (v := v) full0 (by omega) hq hw hd hC⟩

/-- … and into the accumulator. -/
theorem accFull_state {x : FVec Ideal (Rows 512 128) .bf16} (hk : k + 512 ≤ q) (hq : q ≤ 2048) (hw : IsSuffix w)
    (hd : IsScores D d q k) (hL : RunState (zOf D) L q (k + 512))
    (hx : ∀ (p : Fin 512) (j : Fin 128), x (ix2 p j) = V (k + p.val) j)
    (hA : AccState (zOf D) V A q (k + 512)) : AccState (zOf D) V (accFull v d w x va L A) q k := by
  obtain ⟨sA, sB, sC, -⟩ := fullD_state (v := v) hk hq hw hd hL
  exact accNext_state (by omega) (weightFull_apply full0 (by omega) hq hw hd sC)
    (weightFull_apply full1 (by omega) hq hw hd sB) (weightFull_apply full2 (by omega) hq hw hd sA)
    (weightFull_apply full3 (by omega) hq hw hd hL) hx hA

theorem zeroed_apply (i : Fin 512) (j : Fin 128) : View.canon (zeroed L) (ix2 i j) = (0 : EReal) := by
  unfold zeroed
  rw [canon_inside _ _ L i j i (by simp), shapeCast_self]
  pointwise

/-- A fill of zeros starts a block of queries over: no key after them counts. -/
theorem zeroed_run (z : ℕ → ℕ → ℝ) : RunState z (zeroed L) q (q + 512) := by
  intro i j
  rw [zeroed_apply, tailFrom_of_le _ _ _ (by omega), EReal.coe_zero]

theorem zeroed_acc (z : ℕ → ℕ → ℝ) : AccState z V (zeroed L) q (q + 512) := by
  intro i j
  rw [zeroed_apply]
  refine (Finset.sum_eq_zero fun s hs => ?_).symm
  unfold weight
  rw [if_neg (by have := (Finset.mem_Ico.mp hs).1; omega), EReal.coe_zero, zero_mul]

/-- The output block of a block of queries. -/
theorem outBlock_apply {z : ℕ → ℕ → ℝ} (hA : AccState z V A q 0) (i : Fin 512) (j : Fin 128) :
    outBlock va A (ix3 0 i j) = ∑ s ∈ Finset.range 2048, ((weight z (q + i.val) s : ℝ) : EReal) * V s j := by
  unfold outBlock
  pointwise
  rw [runAll_apply, hA, Finset.range_eq_Ico]

end Full

end Cert.SbIdeal.Stick

end
-- ==== Proof.SbWords.lean ====
/- The words of `SbVocab` are the stick-breaking kernel's: what each chunk of the printed body reads back from its two
   scratches, and what it stores to its seven outputs, is one of them. -/
module

public import proofs.«01_k».proof.Proof.SbVocab
public import proofs.«01_k».proof.Proof.Gen.SbIdeal.Frame

@[expose] public section

set_option maxRecDepth 16384

noncomputable section

namespace Cert.SbIdeal.Stick

open Idealize.ShloMosaic Cert.SbIdeal.Gen Cert.SbIdeal.Gen.kernelRun0_A.sl

variable {F : FTy → Type} [FloatOps F] [Named F]

section Blocks

variable (c : Dev nD) (arg2 : Memref sig .tc .vmem S1x2048x128 .f32) (harg2 : arg2.IsWhole)
  (arg3 : Memref sig .tc .vmem S1x2048x128 .f32) (harg3 : arg3.IsWhole)
  (arg4 : Memref sig .tc .vmem S1x2048x128 .f32) (harg4 : arg4.IsWhole)
  (arg5 : Memref sig .tc .vmem S256x256 .bf16) (harg5 : arg5.IsWhole)
  (arg19 : Memref sig .tc .vmem S2048x128 .bf16) (arg20 : Memref sig .tc .vmem S2048x128 .bf16)
  (arg21 : Memref sig .tc .vmem S2048x128 .bf16)
  (arg22 : Memref sig .tc .vmem S512x128 .f32) (arg23 : Memref sig .tc .vmem S512x128 .f32)
  (x0 x1 x2 : FVec F S1x2048x128 .f32) (x3 : FVec F S256x256 .bf16)

theorem run00 : HS4_5 c arg2 harg2 arg3 harg3 arg5 harg5 arg19 arg20 arg23 x0 x1 x3 = diagD arg23.view (scores arg19.view arg20.view (HS0_1 c arg2 harg2 x0) (HS1_1 c arg3 harg3 x1) 0 0 in0 in0)
    (r c arg5 harg5 x3) (HS4_1 (F := F)) := rfl

theorem acc00 : HS3_2 c arg2 harg2 arg3 harg3 arg4 harg4 arg5 harg5 arg19 arg20 arg21 arg22 arg23 x0 x1 x2 x3 = accDiag arg23.view (scores arg19.view arg20.view (HS0_1 c arg2 harg2 x0) (HS1_1 c arg3 harg3 x1) 0 0 in0 in0)
    (r c arg5 harg5 x3) (values arg21.view (HS2_1 c arg4 harg4 x2) 0 in0) arg22.view (HS4_1 (F := F)) (HS4_1 (F := F)) := rfl

theorem run11 : HS4_10 c arg2 harg2 arg3 harg3 arg5 harg5 arg19 arg20 arg23 x0 x1 x3 = diagD arg23.view (scores arg19.view arg20.view (HS0_1 c arg2 harg2 x0) (HS1_1 c arg3 harg3 x1) 512 512 in1 in1)
    (r c arg5 harg5 x3) (HS4_6 c arg2 harg2 arg3 harg3 arg5 harg5 arg19 arg20 arg23 x0 x1 x3) := rfl

theorem acc11 : HS3_4 c arg2 harg2 arg3 harg3 arg4 harg4 arg5 harg5 arg19 arg20 arg21 arg22 arg23 x0 x1 x2 x3 = accDiag arg23.view (scores arg19.view arg20.view (HS0_1 c arg2 harg2 x0) (HS1_1 c arg3 harg3 x1) 512 512 in1 in1)
    (r c arg5 harg5 x3) (values arg21.view (HS2_1 c arg4 harg4 x2) 512 in1) arg22.view (HS4_6 c arg2 harg2 arg3 harg3 arg5 harg5 arg19 arg20 arg23 x0 x1 x3) (HS3_3 c arg2 harg2 arg3 harg3 arg4 harg4 arg5 harg5 arg19 arg20 arg21 arg22 arg23 x0 x1 x2 x3) := rfl

theorem fillA : HS4_6 c arg2 harg2 arg3 harg3 arg5 harg5 arg19 arg20 arg23 x0 x1 x3 = zeroed (HS4_5 c arg2 harg2 arg3 harg3 arg5 harg5 arg19 arg20 arg23 x0 x1 x3) := rfl

theorem fillB : HS3_3 c arg2 harg2 arg3 harg3 arg4 harg4 arg5 harg5 arg19 arg20 arg21 arg22 arg23 x0 x1 x2 x3 = zeroed (HS3_2 c arg2 harg2 arg3 harg3 arg4 harg4 arg5 harg5 arg19 arg20 arg21 arg22 arg23 x0 x1 x2 x3) := rfl

theorem fill0 : HS4_1 (F := F) = zeroed [] := rfl

theorem acc10 : HS3_5 c arg2 harg2 arg3 harg3 arg4 harg4 arg5 harg5 arg19 arg20 arg21 arg22 arg23 x0 x1 x2 x3 = accFull arg23.view (scores arg19.view arg20.view (HS0_1 c arg2 harg2 x0) (HS1_1 c arg3 harg3 x1) 512 0 in1 in0)
    (r c arg5 harg5 x3) (values arg21.view (HS2_1 c arg4 harg4 x2) 0 in0) arg22.view (HS4_10 c arg2 harg2 arg3 harg3 arg5 harg5 arg19 arg20 arg23 x0 x1 x3) (HS3_4 c arg2 harg2 arg3 harg3 arg4 harg4 arg5 harg5 arg19 arg20 arg21 arg22 arg23 x0 x1 x2 x3) := rfl

theorem run10 : HS4_15 c arg2 harg2 arg3 harg3 arg5 harg5 arg19 arg20 arg23 x0 x1 x3 = zeroed (fullD arg23.view (scores arg19.view arg20.view (HS0_1 c arg2 harg2 x0) (HS1_1 c arg3 harg3 x1) 512 0 in1 in0)
    (r c arg5 harg5 x3) (HS4_10 c arg2 harg2 arg3 harg3 arg5 harg5 arg19 arg20 arg23 x0 x1 x3)) := rfl

theorem fillC : HS3_6 c arg2 harg2 arg3 harg3 arg4 harg4 arg5 harg5 arg19 arg20 arg21 arg22 arg23 x0 x1 x2 x3 = zeroed (HS3_5 c arg2 harg2 arg3 harg3 arg4 harg4 arg5 harg5 arg19 arg20 arg21 arg22 arg23 x0 x1 x2 x3) := rfl

theorem run22 : HS4_19 c arg2 harg2 arg3 harg3 arg5 harg5 arg19 arg20 arg23 x0 x1 x3 = diagD arg23.view (scores arg19.view arg20.view (HS0_1 c arg2 harg2 x0) (HS1_1 c arg3 harg3 x1) 1024 1024 in2 in2)
    (r c arg5 harg5 x3) (HS4_15 c arg2 harg2 arg3 harg3 arg5 harg5 arg19 arg20 arg23 x0 x1 x3) := rfl

theorem acc22 : HS3_7 c arg2 harg2 arg3 harg3 arg4 harg4 arg5 harg5 arg19 arg20 arg21 arg22 arg23 x0 x1 x2 x3 = accDiag arg23.view (scores arg19.view arg20.view (HS0_1 c arg2 harg2 x0) (HS1_1 c arg3 harg3 x1) 1024 1024 in2 in2)
    (r c arg5 harg5 x3) (values arg21.view (HS2_1 c arg4 harg4 x2) 1024 in2) arg22.view (HS4_15 c arg2 harg2 arg3 harg3 arg5 harg5 arg19 arg20 arg23 x0 x1 x3) (HS3_6 c arg2 harg2 arg3 harg3 arg4 harg4 arg5 harg5 arg19 arg20 arg21 arg22 arg23 x0 x1 x2 x3) := rfl

theorem run21 : HS4_23 c arg2 harg2 arg3 harg3 arg5 harg5 arg19 arg20 arg23 x0 x1 x3 = fullD arg23.view (scores arg19.view arg20.view (HS0_1 c arg2 harg2 x0) (HS1_1 c arg3 harg3 x1) 1024 512 in2 in1)
    (r c arg5 harg5 x3) (HS4_19 c arg2 harg2 arg3 harg3 arg5 harg5 arg19 arg20 arg23 x0 x1 x3) := rfl

theorem acc21 : HS3_8 c arg2 harg2 arg3 harg3 arg4 harg4 arg5 harg5 arg19 arg20 arg21 arg22 arg23 x0 x1 x2 x3 = accFull arg23.view (scores arg19.view arg20.view (HS0_1 c arg2 harg2 x0) (HS1_1 c arg3 harg3 x1) 1024 512 in2 in1)
    (r c arg5 harg5 x3) (values arg21.view (HS2_1 c arg4 harg4 x2) 512 in1) arg22.view (HS4_19 c arg2 harg2 arg3 harg3 arg5 harg5 arg19 arg20 arg23 x0 x1 x3) (HS3_7 c arg2 harg2 arg3 harg3 arg4 harg4 arg5 harg5 arg19 arg20 arg21 arg22 arg23 x0 x1 x2 x3) := rfl

theorem run20 : HS4_27 c arg2 harg2 arg3 harg3 arg5 harg5 arg19 arg20 arg23 x0 x1 x3 = fullD arg23.view (scores arg19.view arg20.view (HS0_1 c arg2 harg2 x0) (HS1_1 c arg3 harg3 x1) 1024 0 in2 in0)
    (r c arg5 harg5 x3) (HS4_23 c arg2 harg2 arg3 harg3 arg5 harg5 arg19 arg20 arg23 x0 x1 x3) := rfl

theorem acc20 : HS3_9 c arg2 harg2 arg3 harg3 arg4 harg4 arg5 harg5 arg19 arg20 arg21 arg22 arg23 x0 x1 x2 x3 = accFull arg23.view (scores arg19.view arg20.view (HS0_1 c arg2 harg2 x0) (HS1_1 c arg3 harg3 x1) 1024 0 in2 in0)
    (r c arg5 harg5 x3) (values arg21.view (HS2_1 c arg4 harg4 x2) 0 in0) arg22.view (HS4_23 c arg2 harg2 arg3 harg3 arg5 harg5 arg19 arg20 arg23 x0 x1 x3) (HS3_8 c arg2 harg2 arg3 harg3 arg4 harg4 arg5 harg5 arg19 arg20 arg21 arg22 arg23 x0 x1 x2 x3) := rfl

theorem fillD : HS4_28 c arg2 harg2 arg3 harg3 arg5 harg5 arg19 arg20 arg23 x0 x1 x3 = zeroed (HS4_27 c arg2 harg2 arg3 harg3 arg5 harg5 arg19 arg20 arg23 x0 x1 x3) := rfl

theorem fillE : HS3_10 c arg2 harg2 arg3 harg3 arg4 harg4 arg5 harg5 arg19 arg20 arg21 arg22 arg23 x0 x1 x2 x3 = zeroed (HS3_9 c arg2 harg2 arg3 harg3 arg4 harg4 arg5 harg5 arg19 arg20 arg21 arg22 arg23 x0 x1 x2 x3) := rfl

theorem run33 : HS4_32 c arg2 harg2 arg3 harg3 arg5 harg5 arg19 arg20 arg23 x0 x1 x3 = diagD arg23.view (scores arg19.view arg20.view (HS0_1 c arg2 harg2 x0) (HS1_1 c arg3 harg3 x1) 1536 1536 in3 in3)
    (r c arg5 harg5 x3) (HS4_28 c arg2 harg2 arg3 harg3 arg5 harg5 arg19 arg20 arg23 x0 x1 x3) := rfl

theorem acc33 : HS3_11 c arg2 harg2 arg3 harg3 arg4 harg4 arg5 harg5 arg19 arg20 arg21 arg22 arg23 x0 x1 x2 x3 = accDiag arg23.view (scores arg19.view arg20.view (HS0_1 c arg2 harg2 x0) (HS1_1 c arg3 harg3 x1) 1536 1536 in3 in3)
    (r c arg5 harg5 x3) (values arg21.view (HS2_1 c arg4 harg4 x2) 1536 in3) arg22.view (HS4_28 c arg2 harg2 arg3 harg3 arg5 harg5 arg19 arg20 arg23 x0 x1 x3) (HS3_10 c arg2 harg2 arg3 harg3 arg4 harg4 arg5 harg5 arg19 arg20 arg21 arg22 arg23 x0 x1 x2 x3) := rfl

theorem run32 : HS4_36 c arg2 harg2 arg3 harg3 arg5 harg5 arg19 arg20 arg23 x0 x1 x3 = fullD arg23.view (scores arg19.view arg20.view (HS0_1 c arg2 harg2 x0) (HS1_1 c arg3 harg3 x1) 1536 1024 in3 in2)
    (r c arg5 harg5 x3) (HS4_32 c arg2 harg2 arg3 harg3 arg5 harg5 arg19 arg20 arg23 x0 x1 x3) := rfl

theorem acc32 : HS3_12 c arg2 harg2 arg3 harg3 arg4 harg4 arg5 harg5 arg19 arg20 arg21 arg22 arg23 x0 x1 x2 x3 = accFull arg23.view (scores arg19.view arg20.view (HS0_1 c arg2 harg2 x0) (HS1_1 c arg3 harg3 x1) 1536 1024 in3 in2)
    (r c arg5 harg5 x3) (values arg21.view (HS2_1 c arg4 harg4 x2) 1024 in2) arg22.view (HS4_32 c arg2 harg2 arg3 harg3 arg5 harg5 arg19 arg20 arg23 x0 x1 x3) (HS3_11 c arg2 harg2 arg3 harg3 arg4 harg4 arg5 harg5 arg19 arg20 arg21 arg22 arg23 x0 x1 x2 x3) := rfl

theorem run31 : HS4_40 c arg2 harg2 arg3 harg3 arg5 harg5 arg19 arg20 arg23 x0 x1 x3 = fullD arg23.view (scores arg19.view arg20.view (HS0_1 c arg2 harg2 x0) (HS1_1 c arg3 harg3 x1) 1536 512 in3 in1)
    (r c arg5 harg5 x3) (HS4_36 c arg2 harg2 arg3 harg3 arg5 harg5 arg19 arg20 arg23 x0 x1 x3) := rfl

theorem acc31 : HS3_13 c arg2 harg2 arg3 harg3 arg4 harg4 arg5 harg5 arg19 arg20 arg21 arg22 arg23 x0 x1 x2 x3 = accFull arg23.view (scores arg19.view arg20.view (HS0_1 c arg2 harg2 x0) (HS1_1 c arg3 harg3 x1) 1536 512 in3 in1)
    (r c arg5 harg5 x3) (values arg21.view (HS2_1 c arg4 harg4 x2) 512 in1) arg22.view (HS4_36 c arg2 harg2 arg3 harg3 arg5 harg5 arg19 arg20 arg23 x0 x1 x3) (HS3_12 c arg2 harg2 arg3 harg3 arg4 harg4 arg5 harg5 arg19 arg20 arg21 arg22 arg23 x0 x1 x2 x3) := rfl

theorem acc30 : HS3_14 c arg2 harg2 arg3 harg3 arg4 harg4 arg5 harg5 arg19 arg20 arg21 arg22 arg23 x0 x1 x2 x3 = accFull arg23.view (scores arg19.view arg20.view (HS0_1 c arg2 harg2 x0) (HS1_1 c arg3 harg3 x1) 1536 0 in3 in0)
    (r c arg5 harg5 x3) (values arg21.view (HS2_1 c arg4 harg4 x2) 0 in0) arg22.view (HS4_40 c arg2 harg2 arg3 harg3 arg5 harg5 arg19 arg20 arg23 x0 x1 x3) (HS3_13 c arg2 harg2 arg3 harg3 arg4 harg4 arg5 harg5 arg19 arg20 arg21 arg22 arg23 x0 x1 x2 x3) := rfl

end Blocks

theorem out10 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S256x256 .bf16) (harg5 : arg5.IsWhole) (arg6 : Memref sig .tc .vmem S32x5504 .f32) (harg6 : arg6.IsWhole) (arg7 : Memref sig .tc .vmem S32x5504 .f32) (harg7 : arg7.IsWhole) (arg8 : Memref sig .tc .vmem S128x2048 .f32) (harg8 : arg8.IsWhole) (arg9 : Memref sig .tc .vmem S32x2048 .f32) (harg9 : arg9.IsWhole) (arg10 : Memref sig .tc .vmem S32x512 .f32) (harg10 : arg10.IsWhole) (arg11 : Memref sig .tc .vmem S16x2048 .f32) (harg11 : arg11.IsWhole) (arg12 : Memref sig .tc .vmem S1x2048x128 .f32) (harg12 : arg12.IsWhole) (arg13 : Memref sig .tc .vmem S32x5504 .bf16) (harg13 : arg13.IsWhole) (arg14 : Memref sig .tc .vmem S32x5504 .bf16) (harg14 : arg14.IsWhole) (arg15 : Memref sig .tc .vmem S128x2048 .bf16) (harg15 : arg15.IsWhole) (arg16 : Memref sig .tc .vmem S32x2048 .bf16) (harg16 : arg16.IsWhole) (arg17 : Memref sig .tc .vmem S32x512 .bf16) (harg17 : arg17.IsWhole) (arg18 : Memref sig .tc .vmem S16x2048 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S512x128 .f32) (harg22 : arg22.IsWhole) (arg23 : Memref sig .tc .vmem S512x128 .f32) (harg23 : arg23.IsWhole)
    (x0 : Vec F S1x2048x128 .f32) (x1 : Vec F S1x2048x128 .f32) (x2 : Vec F S1x2048x128 .f32) (x3 : Vec F S256x256 .bf16) (x4 : Vec F S32x5504 .f32) (x5 : Vec F S32x5504 .f32) (x6 : Vec F S128x2048 .f32) (x7 : Vec F S32x2048 .f32) (x8 : Vec F S32x512 .f32) (x9 : Vec F S16x2048 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9
      = View.canon (outStores (outBlock arg22.view (HS3_2 c arg2 harg2 arg3 harg3 arg4 harg4 arg5 harg5 arg19 arg20 arg21 arg22 arg23 x0 x1 x2 x3)) (outBlock arg22.view (HS3_5 c arg2 harg2 arg3 harg3 arg4 harg4 arg5 harg5 arg19 arg20 arg21 arg22 arg23 x0 x1 x2 x3))
          (outBlock arg22.view (HS3_9 c arg2 harg2 arg3 harg3 arg4 harg4 arg5 harg5 arg19 arg20 arg21 arg22 arg23 x0 x1 x2 x3)) (outBlock arg22.view (HS3_14 c arg2 harg2 arg3 harg3 arg4 harg4 arg5 harg5 arg19 arg20 arg21 arg22 arg23 x0 x1 x2 x3))) :=
  View.read_writes_junk_eq_canon _ _

theorem out11 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S256x256 .bf16) (harg5 : arg5.IsWhole) (arg6 : Memref sig .tc .vmem S32x5504 .f32) (harg6 : arg6.IsWhole) (arg7 : Memref sig .tc .vmem S32x5504 .f32) (harg7 : arg7.IsWhole) (arg8 : Memref sig .tc .vmem S128x2048 .f32) (harg8 : arg8.IsWhole) (arg9 : Memref sig .tc .vmem S32x2048 .f32) (harg9 : arg9.IsWhole) (arg10 : Memref sig .tc .vmem S32x512 .f32) (harg10 : arg10.IsWhole) (arg11 : Memref sig .tc .vmem S16x2048 .f32) (harg11 : arg11.IsWhole) (arg12 : Memref sig .tc .vmem S1x2048x128 .f32) (harg12 : arg12.IsWhole) (arg13 : Memref sig .tc .vmem S32x5504 .bf16) (harg13 : arg13.IsWhole) (arg14 : Memref sig .tc .vmem S32x5504 .bf16) (harg14 : arg14.IsWhole) (arg15 : Memref sig .tc .vmem S128x2048 .bf16) (harg15 : arg15.IsWhole) (arg16 : Memref sig .tc .vmem S32x2048 .bf16) (harg16 : arg16.IsWhole) (arg17 : Memref sig .tc .vmem S32x512 .bf16) (harg17 : arg17.IsWhole) (arg18 : Memref sig .tc .vmem S16x2048 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S512x128 .f32) (harg22 : arg22.IsWhole) (arg23 : Memref sig .tc .vmem S512x128 .f32) (harg23 : arg23.IsWhole)
    (x0 : Vec F S1x2048x128 .f32) (x1 : Vec F S1x2048x128 .f32) (x2 : Vec F S1x2048x128 .f32) (x3 : Vec F S256x256 .bf16) (x4 : Vec F S32x5504 .f32) (x5 : Vec F S32x5504 .f32) (x6 : Vec F S128x2048 .f32) (x7 : Vec F S32x2048 .f32) (x8 : Vec F S32x512 .f32) (x9 : Vec F S16x2048 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9
      = View.canon [⟨Rect.unit (s := S32x5504) ![0, 0] S32x5504.size inb_S32x5504_S32x5504_0_0,
          truncf .bf16 (arg6.view.readAt (Elt F) (Rect.unit (s := S32x5504) ![0, 0] S32x5504.size inb_S32x5504_S32x5504_0_0).toLoadRect (harg6.unread x4)) bitsLt_bf16_f32⟩] :=
  View.read_writes_junk_eq_canon _ _

theorem out12 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S256x256 .bf16) (harg5 : arg5.IsWhole) (arg6 : Memref sig .tc .vmem S32x5504 .f32) (harg6 : arg6.IsWhole) (arg7 : Memref sig .tc .vmem S32x5504 .f32) (harg7 : arg7.IsWhole) (arg8 : Memref sig .tc .vmem S128x2048 .f32) (harg8 : arg8.IsWhole) (arg9 : Memref sig .tc .vmem S32x2048 .f32) (harg9 : arg9.IsWhole) (arg10 : Memref sig .tc .vmem S32x512 .f32) (harg10 : arg10.IsWhole) (arg11 : Memref sig .tc .vmem S16x2048 .f32) (harg11 : arg11.IsWhole) (arg12 : Memref sig .tc .vmem S1x2048x128 .f32) (harg12 : arg12.IsWhole) (arg13 : Memref sig .tc .vmem S32x5504 .bf16) (harg13 : arg13.IsWhole) (arg14 : Memref sig .tc .vmem S32x5504 .bf16) (harg14 : arg14.IsWhole) (arg15 : Memref sig .tc .vmem S128x2048 .bf16) (harg15 : arg15.IsWhole) (arg16 : Memref sig .tc .vmem S32x2048 .bf16) (harg16 : arg16.IsWhole) (arg17 : Memref sig .tc .vmem S32x512 .bf16) (harg17 : arg17.IsWhole) (arg18 : Memref sig .tc .vmem S16x2048 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S512x128 .f32) (harg22 : arg22.IsWhole) (arg23 : Memref sig .tc .vmem S512x128 .f32) (harg23 : arg23.IsWhole)
    (x0 : Vec F S1x2048x128 .f32) (x1 : Vec F S1x2048x128 .f32) (x2 : Vec F S1x2048x128 .f32) (x3 : Vec F S256x256 .bf16) (x4 : Vec F S32x5504 .f32) (x5 : Vec F S32x5504 .f32) (x6 : Vec F S128x2048 .f32) (x7 : Vec F S32x2048 .f32) (x8 : Vec F S32x512 .f32) (x9 : Vec F S16x2048 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9
      = View.canon [⟨Rect.unit (s := S32x5504) ![0, 0] S32x5504.size inb_S32x5504_S32x5504_0_0,
          truncf .bf16 (arg7.view.readAt (Elt F) (Rect.unit (s := S32x5504) ![0, 0] S32x5504.size inb_S32x5504_S32x5504_0_0).toLoadRect (harg7.unread x5)) bitsLt_bf16_f32⟩] :=
  View.read_writes_junk_eq_canon _ _

theorem out13 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S256x256 .bf16) (harg5 : arg5.IsWhole) (arg6 : Memref sig .tc .vmem S32x5504 .f32) (harg6 : arg6.IsWhole) (arg7 : Memref sig .tc .vmem S32x5504 .f32) (harg7 : arg7.IsWhole) (arg8 : Memref sig .tc .vmem S128x2048 .f32) (harg8 : arg8.IsWhole) (arg9 : Memref sig .tc .vmem S32x2048 .f32) (harg9 : arg9.IsWhole) (arg10 : Memref sig .tc .vmem S32x512 .f32) (harg10 : arg10.IsWhole) (arg11 : Memref sig .tc .vmem S16x2048 .f32) (harg11 : arg11.IsWhole) (arg12 : Memref sig .tc .vmem S1x2048x128 .f32) (harg12 : arg12.IsWhole) (arg13 : Memref sig .tc .vmem S32x5504 .bf16) (harg13 : arg13.IsWhole) (arg14 : Memref sig .tc .vmem S32x5504 .bf16) (harg14 : arg14.IsWhole) (arg15 : Memref sig .tc .vmem S128x2048 .bf16) (harg15 : arg15.IsWhole) (arg16 : Memref sig .tc .vmem S32x2048 .bf16) (harg16 : arg16.IsWhole) (arg17 : Memref sig .tc .vmem S32x512 .bf16) (harg17 : arg17.IsWhole) (arg18 : Memref sig .tc .vmem S16x2048 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S512x128 .f32) (harg22 : arg22.IsWhole) (arg23 : Memref sig .tc .vmem S512x128 .f32) (harg23 : arg23.IsWhole)
    (x0 : Vec F S1x2048x128 .f32) (x1 : Vec F S1x2048x128 .f32) (x2 : Vec F S1x2048x128 .f32) (x3 : Vec F S256x256 .bf16) (x4 : Vec F S32x5504 .f32) (x5 : Vec F S32x5504 .f32) (x6 : Vec F S128x2048 .f32) (x7 : Vec F S32x2048 .f32) (x8 : Vec F S32x512 .f32) (x9 : Vec F S16x2048 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9
      = View.canon [⟨Rect.unit (s := S128x2048) ![0, 0] S128x2048.size inb_S128x2048_S128x2048_0_0,
          truncf .bf16 (arg8.view.readAt (Elt F) (Rect.unit (s := S128x2048) ![0, 0] S128x2048.size inb_S128x2048_S128x2048_0_0).toLoadRect (harg8.unread x6)) bitsLt_bf16_f32⟩] :=
  View.read_writes_junk_eq_canon _ _

theorem out14 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S256x256 .bf16) (harg5 : arg5.IsWhole) (arg6 : Memref sig .tc .vmem S32x5504 .f32) (harg6 : arg6.IsWhole) (arg7 : Memref sig .tc .vmem S32x5504 .f32) (harg7 : arg7.IsWhole) (arg8 : Memref sig .tc .vmem S128x2048 .f32) (harg8 : arg8.IsWhole) (arg9 : Memref sig .tc .vmem S32x2048 .f32) (harg9 : arg9.IsWhole) (arg10 : Memref sig .tc .vmem S32x512 .f32) (harg10 : arg10.IsWhole) (arg11 : Memref sig .tc .vmem S16x2048 .f32) (harg11 : arg11.IsWhole) (arg12 : Memref sig .tc .vmem S1x2048x128 .f32) (harg12 : arg12.IsWhole) (arg13 : Memref sig .tc .vmem S32x5504 .bf16) (harg13 : arg13.IsWhole) (arg14 : Memref sig .tc .vmem S32x5504 .bf16) (harg14 : arg14.IsWhole) (arg15 : Memref sig .tc .vmem S128x2048 .bf16) (harg15 : arg15.IsWhole) (arg16 : Memref sig .tc .vmem S32x2048 .bf16) (harg16 : arg16.IsWhole) (arg17 : Memref sig .tc .vmem S32x512 .bf16) (harg17 : arg17.IsWhole) (arg18 : Memref sig .tc .vmem S16x2048 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S512x128 .f32) (harg22 : arg22.IsWhole) (arg23 : Memref sig .tc .vmem S512x128 .f32) (harg23 : arg23.IsWhole)
    (x0 : Vec F S1x2048x128 .f32) (x1 : Vec F S1x2048x128 .f32) (x2 : Vec F S1x2048x128 .f32) (x3 : Vec F S256x256 .bf16) (x4 : Vec F S32x5504 .f32) (x5 : Vec F S32x5504 .f32) (x6 : Vec F S128x2048 .f32) (x7 : Vec F S32x2048 .f32) (x8 : Vec F S32x512 .f32) (x9 : Vec F S16x2048 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9
      = View.canon [⟨Rect.unit (s := S32x2048) ![0, 0] S32x2048.size inb_S32x2048_S32x2048_0_0,
          truncf .bf16 (arg9.view.readAt (Elt F) (Rect.unit (s := S32x2048) ![0, 0] S32x2048.size inb_S32x2048_S32x2048_0_0).toLoadRect (harg9.unread x7)) bitsLt_bf16_f32⟩] :=
  View.read_writes_junk_eq_canon _ _

theorem out15 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S256x256 .bf16) (harg5 : arg5.IsWhole) (arg6 : Memref sig .tc .vmem S32x5504 .f32) (harg6 : arg6.IsWhole) (arg7 : Memref sig .tc .vmem S32x5504 .f32) (harg7 : arg7.IsWhole) (arg8 : Memref sig .tc .vmem S128x2048 .f32) (harg8 : arg8.IsWhole) (arg9 : Memref sig .tc .vmem S32x2048 .f32) (harg9 : arg9.IsWhole) (arg10 : Memref sig .tc .vmem S32x512 .f32) (harg10 : arg10.IsWhole) (arg11 : Memref sig .tc .vmem S16x2048 .f32) (harg11 : arg11.IsWhole) (arg12 : Memref sig .tc .vmem S1x2048x128 .f32) (harg12 : arg12.IsWhole) (arg13 : Memref sig .tc .vmem S32x5504 .bf16) (harg13 : arg13.IsWhole) (arg14 : Memref sig .tc .vmem S32x5504 .bf16) (harg14 : arg14.IsWhole) (arg15 : Memref sig .tc .vmem S128x2048 .bf16) (harg15 : arg15.IsWhole) (arg16 : Memref sig .tc .vmem S32x2048 .bf16) (harg16 : arg16.IsWhole) (arg17 : Memref sig .tc .vmem S32x512 .bf16) (harg17 : arg17.IsWhole) (arg18 : Memref sig .tc .vmem S16x2048 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S512x128 .f32) (harg22 : arg22.IsWhole) (arg23 : Memref sig .tc .vmem S512x128 .f32) (harg23 : arg23.IsWhole)
    (x0 : Vec F S1x2048x128 .f32) (x1 : Vec F S1x2048x128 .f32) (x2 : Vec F S1x2048x128 .f32) (x3 : Vec F S256x256 .bf16) (x4 : Vec F S32x5504 .f32) (x5 : Vec F S32x5504 .f32) (x6 : Vec F S128x2048 .f32) (x7 : Vec F S32x2048 .f32) (x8 : Vec F S32x512 .f32) (x9 : Vec F S16x2048 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9
      = View.canon [⟨Rect.unit (s := S32x512) ![0, 0] S32x512.size inb_S32x512_S32x512_0_0,
          truncf .bf16 (arg10.view.readAt (Elt F) (Rect.unit (s := S32x512) ![0, 0] S32x512.size inb_S32x512_S32x512_0_0).toLoadRect (harg10.unread x8)) bitsLt_bf16_f32⟩] :=
  View.read_writes_junk_eq_canon _ _

theorem out16 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S256x256 .bf16) (harg5 : arg5.IsWhole) (arg6 : Memref sig .tc .vmem S32x5504 .f32) (harg6 : arg6.IsWhole) (arg7 : Memref sig .tc .vmem S32x5504 .f32) (harg7 : arg7.IsWhole) (arg8 : Memref sig .tc .vmem S128x2048 .f32) (harg8 : arg8.IsWhole) (arg9 : Memref sig .tc .vmem S32x2048 .f32) (harg9 : arg9.IsWhole) (arg10 : Memref sig .tc .vmem S32x512 .f32) (harg10 : arg10.IsWhole) (arg11 : Memref sig .tc .vmem S16x2048 .f32) (harg11 : arg11.IsWhole) (arg12 : Memref sig .tc .vmem S1x2048x128 .f32) (harg12 : arg12.IsWhole) (arg13 : Memref sig .tc .vmem S32x5504 .bf16) (harg13 : arg13.IsWhole) (arg14 : Memref sig .tc .vmem S32x5504 .bf16) (harg14 : arg14.IsWhole) (arg15 : Memref sig .tc .vmem S128x2048 .bf16) (harg15 : arg15.IsWhole) (arg16 : Memref sig .tc .vmem S32x2048 .bf16) (harg16 : arg16.IsWhole) (arg17 : Memref sig .tc .vmem S32x512 .bf16) (harg17 : arg17.IsWhole) (arg18 : Memref sig .tc .vmem S16x2048 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S512x128 .f32) (harg22 : arg22.IsWhole) (arg23 : Memref sig .tc .vmem S512x128 .f32) (harg23 : arg23.IsWhole)
    (x0 : Vec F S1x2048x128 .f32) (x1 : Vec F S1x2048x128 .f32) (x2 : Vec F S1x2048x128 .f32) (x3 : Vec F S256x256 .bf16) (x4 : Vec F S32x5504 .f32) (x5 : Vec F S32x5504 .f32) (x6 : Vec F S128x2048 .f32) (x7 : Vec F S32x2048 .f32) (x8 : Vec F S32x512 .f32) (x9 : Vec F S16x2048 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9
      = View.canon [⟨Rect.unit (s := S16x2048) ![0, 0] S16x2048.size inb_S16x2048_S16x2048_0_0,
          truncf .bf16 (arg11.view.readAt (Elt F) (Rect.unit (s := S16x2048) ![0, 0] S16x2048.size inb_S16x2048_S16x2048_0_0).toLoadRect (harg11.unread x9)) bitsLt_bf16_f32⟩] :=
  View.read_writes_junk_eq_canon _ _

end Cert.SbIdeal.Stick

end
-- ==== Proof.SbBlock.lean ====
/- What one grid point of the stick-breaking kernel — one head of one batch member — writes over the extended reals. -/
module

public import proofs.«01_k».proof.Proof.SbChunk
public import proofs.«01_k».proof.Proof.SbWords

@[expose] public section

set_option maxRecDepth 16384

noncomputable section

namespace Cert.SbIdeal.Stick

open Idealize.ShloMosaic Cert.SbIdeal.Gen Cert.SbIdeal.Gen.kernelRun0_A.sl Cert.Stick

section Loads

variable (c : Dev nD) (arg2 : Memref sig .tc .vmem S1x2048x128 .f32) (harg2 : arg2.IsWhole)
  (arg3 : Memref sig .tc .vmem S1x2048x128 .f32) (harg3 : arg3.IsWhole)
  (arg4 : Memref sig .tc .vmem S1x2048x128 .f32) (harg4 : arg4.IsWhole)
  (x : FVec Ideal S1x2048x128 .f32) (t : Fin 2048) (j : Fin 128)

/-- A block's load of all of it is the block. -/
theorem load_block (a : Memref sig .tc .vmem S1x2048x128 .f32) (ha : a.IsWhole) :
    a.view.readAt (Elt Ideal) (Rect.unit (s := S1x2048x128) ![0, 0, 0] S1x2048x128.size inb_S1x2048x128_S1x2048x128_0_0_0).toLoadRect
      (ha.unread x) = x := by
  rw [View.readAt_eq_ld, ha.read_unread, View.ld_unit_lit]
  decide

theorem canon_rows (p : FVec Ideal (Rows 2048 128) .bf16)
    (h : ∀ a, (![0, 0] : Fin 2 → ℕ) a + (Rows 2048 128).size a ≤ (Rows 2048 128).size a) :
    View.canon [(⟨Rect.unit (s := Rows 2048 128) ![0, 0] (Rows 2048 128).size h, p⟩ : View.Piece (Elt Ideal) (Rows 2048 128) .bf16)]
      (ix2 t j) = p (ix2 t j) := by
  rw [View.canon_unit_zero (by decide)]

theorem queries_apply : (View.canon (Val := Elt Ideal) (HS0_1 c arg2 harg2 x) (ix2 t j) : EReal) = x (ix3 0 t j) := by
  refine (canon_rows t j _ _).trans ?_
  unfold k0_pay9 v20 v19
  rw [load_block x arg2 harg2]
  pointwise

theorem keys_apply : (View.canon (Val := Elt Ideal) (HS1_1 c arg3 harg3 x) (ix2 t j) : EReal) = x (ix3 0 t j) := by
  refine (canon_rows t j _ _).trans ?_
  unfold k0_pay10
  rw [load_block x arg3 harg3]
  pointwise

theorem vals_apply : (View.canon (Val := Elt Ideal) (HS2_1 c arg4 harg4 x) (ix2 t j) : EReal) = x (ix3 0 t j) := by
  refine (canon_rows t j _ _).trans ?_
  unfold k0_pay11
  rw [load_block x arg4 harg4]
  pointwise

theorem suffix_eq (arg5 : Memref sig .tc .vmem S256x256 .bf16) (harg5 : arg5.IsWhole) (w : FVec Ideal S256x256 .bf16) :
    r c arg5 harg5 w = w := by
  unfold r k0_pay12
  rw [View.readAt_eq_ld, harg5.read_unread, View.ld_unit_lit, shapeCast_self]
  decide

end Loads

section Products

variable {vq vk : View sig .tc .vmem (Rows 2048 128) .bf16} {Q K : List (View.Piece (Elt Ideal) (Rows 2048 128) .bf16)}
  {q k : ℕ} {fq fk : ℕ → Fin 128 → ℝ}

/-- Real queries against real keys. -/
def dots (fq fk : ℕ → Fin 128 → ℝ) (t s : ℕ) : ℝ := ∑ c : Fin 128, fq t c * fk s c

theorem scores_apply (hq : ∀ a, (![q, 0] : Fin 2 → ℕ) a + (Rows 512 128).size a ≤ (Rows 2048 128).size a)
    (hk : ∀ a, (![k, 0] : Fin 2 → ℕ) a + (Rows 512 128).size a ≤ (Rows 2048 128).size a)
    (hq' : q + 512 ≤ 2048) (hk' : k + 512 ≤ 2048)
    (hQ : ∀ (t : Fin 2048) (j : Fin 128), View.canon Q (ix2 t j) = (fq t.val j : EReal))
    (hK : ∀ (t : Fin 2048) (j : Fin 128), View.canon K (ix2 t j) = (fk t.val j : EReal)) :
    IsScores (dots fq fk) (scores vq vk Q K q k hq hk) q k := by
  intro i j
  unfold scores
  pointwise
  unfold dots
  rw [coe_sum]
  refine Finset.sum_congr rfl fun c _ => ?_
  rw [readCov2 vq Q hq i c ⟨q + i.val, by omega⟩ c rfl (by simp), readCov2 vk K hk j c ⟨k + j.val, by omega⟩ c rfl (by simp),
    hQ, hK, EReal.coe_mul]

theorem values_apply {vv : View sig .tc .vmem (Rows 2048 128) .bf16} {X : List (View.Piece (Elt Ideal) (Rows 2048 128) .bf16)}
    {V : ℕ → Fin 128 → EReal} (hk : ∀ a, (![k, 0] : Fin 2 → ℕ) a + (Rows 512 128).size a ≤ (Rows 2048 128).size a)
    (hk' : k + 512 ≤ 2048) (hX : ∀ (t : Fin 2048) (j : Fin 128), View.canon X (ix2 t j) = V t.val j) (p : Fin 512) (j : Fin 128) :
    values vv X k hk (ix2 p j) = V (k + p.val) j := by
  unfold values
  rw [readCov2 vv X hk p j ⟨k + p.val, by omega⟩ j rfl (by simp), hX]

end Products

theorem piece_apply {b : FVec Ideal S1x512x128 .f32} (G : ℕ → Fin 128 → EReal) (o : ℕ)
    (h : ∀ (i : Fin 512) (j : Fin 128), b (ix3 0 i j) = G (o + i.val) j) (x : S1x512x128.Idx) (t : Fin 2048) (j : Fin 128)
    (ht : t.val = o + (x 1).val) (hj : j.val = (x 2).val) : b x = G t.val j := by
  idx_vars x
  obtain rfl : j = x2 := Fin.ext hj
  rw [Fin.fin_one_eq_zero x0, h, ht]

/-- The four stores of a point's output, read at one place. -/
theorem outStores_apply {b0 b1 b2 b3 : FVec Ideal S1x512x128 .f32} (G : ℕ → Fin 128 → EReal)
    (h0 : ∀ (i : Fin 512) (j : Fin 128), b0 (ix3 0 i j) = G (0 + i.val) j)
    (h1 : ∀ (i : Fin 512) (j : Fin 128), b1 (ix3 0 i j) = G (512 + i.val) j)
    (h2 : ∀ (i : Fin 512) (j : Fin 128), b2 (ix3 0 i j) = G (1024 + i.val) j)
    (h3 : ∀ (i : Fin 512) (j : Fin 128), b3 (ix3 0 i j) = G (1536 + i.val) j) (t : Fin 2048) (j : Fin 128) :
    View.canon (outStores b0 b1 b2 b3) (ix3 0 t j) = G t.val j := by
  unfold outStores
  canon_tiles x h
  · exact piece_apply G _ h3 x t j h1 h2
  · exact piece_apply G _ ‹_› x t j h1 h2
  · exact piece_apply G _ ‹_› x t j h1 h2
  · exact piece_apply G _ ‹_› x t j (h1.trans (Nat.zero_add _).symm) h2

section Point

variable (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S256x256 .bf16) (harg5 : arg5.IsWhole) (arg6 : Memref sig .tc .vmem S32x5504 .f32) (harg6 : arg6.IsWhole) (arg7 : Memref sig .tc .vmem S32x5504 .f32) (harg7 : arg7.IsWhole) (arg8 : Memref sig .tc .vmem S128x2048 .f32) (harg8 : arg8.IsWhole) (arg9 : Memref sig .tc .vmem S32x2048 .f32) (harg9 : arg9.IsWhole) (arg10 : Memref sig .tc .vmem S32x512 .f32) (harg10 : arg10.IsWhole) (arg11 : Memref sig .tc .vmem S16x2048 .f32) (harg11 : arg11.IsWhole) (arg12 : Memref sig .tc .vmem S1x2048x128 .f32) (harg12 : arg12.IsWhole) (arg13 : Memref sig .tc .vmem S32x5504 .bf16) (harg13 : arg13.IsWhole) (arg14 : Memref sig .tc .vmem S32x5504 .bf16) (harg14 : arg14.IsWhole) (arg15 : Memref sig .tc .vmem S128x2048 .bf16) (harg15 : arg15.IsWhole) (arg16 : Memref sig .tc .vmem S32x2048 .bf16) (harg16 : arg16.IsWhole) (arg17 : Memref sig .tc .vmem S32x512 .bf16) (harg17 : arg17.IsWhole) (arg18 : Memref sig .tc .vmem S16x2048 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S512x128 .f32) (harg22 : arg22.IsWhole) (arg23 : Memref sig .tc .vmem S512x128 .f32) (harg23 : arg23.IsWhole)
    (x0 : Vec Ideal S1x2048x128 .f32) (x1 : Vec Ideal S1x2048x128 .f32) (x2 : Vec Ideal S1x2048x128 .f32) (x3 : Vec Ideal S256x256 .bf16) (x4 : Vec Ideal S32x5504 .f32) (x5 : Vec Ideal S32x5504 .f32) (x6 : Vec Ideal S128x2048 .f32) (x7 : Vec Ideal S32x2048 .f32) (x8 : Vec Ideal S32x512 .f32) (x9 : Vec Ideal S16x2048 .f32)

variable {fq fk : ℕ → Fin 128 → ℝ} {V : ℕ → Fin 128 → EReal}

/-- One head's attention, as the kernel writes it. -/
theorem out10_apply (hx0 : ∀ (t : Fin 2048) (j : Fin 128), x0 (ix3 0 t j) = (fq t.val j : EReal))
    (hx1 : ∀ (t : Fin 2048) (j : Fin 128), x1 (ix3 0 t j) = (fk t.val j : EReal))
    (hx2 : ∀ (t : Fin 2048) (j : Fin 128), x2 (ix3 0 t j) = V t.val j) (hw : IsSuffix x3) (t : Fin 2048) (j : Fin 128) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 (ix3 0 t j)
      = ∑ s ∈ Finset.range 2048, ((weight (zOf (dots fq fk)) t.val s : ℝ) : EReal) * V s j := by
  have hQ := fun t j => (queries_apply c arg2 harg2 x0 t j).trans (hx0 t j)
  have hK := fun t j => (keys_apply c arg3 harg3 x1 t j).trans (hx1 t j)
  have hX := fun t j => (vals_apply c arg4 harg4 x2 t j).trans (hx2 t j)
  have hw' : IsSuffix (r c arg5 harg5 x3) := by rw [suffix_eq]; exact hw
  have a00 : AccState (zOf (dots fq fk)) V (HS3_2 c arg2 harg2 arg3 harg3 arg4 harg4 arg5 harg5 arg19 arg20 arg21 arg22 arg23 x0 x1 x2 x3) 0 0 := by
    rw [acc00, fill0]
    exact accDiag_state (by omega) hw' (scores_apply in0 in0 (by omega) (by omega) hQ hK) (zeroed_run _) (values_apply in0 (by omega) hX) (zeroed_acc _)
  have r11 : RunState (zOf (dots fq fk)) (HS4_10 c arg2 harg2 arg3 harg3 arg5 harg5 arg19 arg20 arg23 x0 x1 x3) 512 512 := by
    rw [run11, fillA]
    exact (diagD_state (by omega) hw' (scores_apply in1 in1 (by omega) (by omega) hQ hK) (zeroed_run _)).2.2.2
  have a11 : AccState (zOf (dots fq fk)) V (HS3_4 c arg2 harg2 arg3 harg3 arg4 harg4 arg5 harg5 arg19 arg20 arg21 arg22 arg23 x0 x1 x2 x3) 512 512 := by
    rw [acc11, fillA, fillB]
    exact accDiag_state (by omega) hw' (scores_apply in1 in1 (by omega) (by omega) hQ hK) (zeroed_run _) (values_apply in1 (by omega) hX) (zeroed_acc _)
  have a10 : AccState (zOf (dots fq fk)) V (HS3_5 c arg2 harg2 arg3 harg3 arg4 harg4 arg5 harg5 arg19 arg20 arg21 arg22 arg23 x0 x1 x2 x3) 512 0 := by
    rw [acc10]
    exact accFull_state (by omega) (by omega) hw' (scores_apply in1 in0 (by omega) (by omega) hQ hK) r11 (values_apply in0 (by omega) hX) a11
  have r22 : RunState (zOf (dots fq fk)) (HS4_19 c arg2 harg2 arg3 harg3 arg5 harg5 arg19 arg20 arg23 x0 x1 x3) 1024 1024 := by
    rw [run22, run10]
    exact (diagD_state (by omega) hw' (scores_apply in2 in2 (by omega) (by omega) hQ hK) (zeroed_run _)).2.2.2
  have a22 : AccState (zOf (dots fq fk)) V (HS3_7 c arg2 harg2 arg3 harg3 arg4 harg4 arg5 harg5 arg19 arg20 arg21 arg22 arg23 x0 x1 x2 x3) 1024 1024 := by
    rw [acc22, run10, fillC]
    exact accDiag_state (by omega) hw' (scores_apply in2 in2 (by omega) (by omega) hQ hK) (zeroed_run _) (values_apply in2 (by omega) hX) (zeroed_acc _)
  have r21 : RunState (zOf (dots fq fk)) (HS4_23 c arg2 harg2 arg3 harg3 arg5 harg5 arg19 arg20 arg23 x0 x1 x3) 1024 512 := by
    rw [run21]
    exact (fullD_state (by omega) (by omega) hw' (scores_apply in2 in1 (by omega) (by omega) hQ hK) r22).2.2.2
  have a21 : AccState (zOf (dots fq fk)) V (HS3_8 c arg2 harg2 arg3 harg3 arg4 harg4 arg5 harg5 arg19 arg20 arg21 arg22 arg23 x0 x1 x2 x3) 1024 512 := by
    rw [acc21]
    exact accFull_state (by omega) (by omega) hw' (scores_apply in2 in1 (by omega) (by omega) hQ hK) r22 (values_apply in1 (by omega) hX) a22
  have a20 : AccState (zOf (dots fq fk)) V (HS3_9 c arg2 harg2 arg3 harg3 arg4 harg4 arg5 harg5 arg19 arg20 arg21 arg22 arg23 x0 x1 x2 x3) 1024 0 := by
    rw [acc20]
    exact accFull_state (by omega) (by omega) hw' (scores_apply in2 in0 (by omega) (by omega) hQ hK) r21 (values_apply in0 (by omega) hX) a21
  have r33 : RunState (zOf (dots fq fk)) (HS4_32 c arg2 harg2 arg3 harg3 arg5 harg5 arg19 arg20 arg23 x0 x1 x3) 1536 1536 := by
    rw [run33, fillD]
    exact (diagD_state (by omega) hw' (scores_apply in3 in3 (by omega) (by omega) hQ hK) (zeroed_run _)).2.2.2
  have a33 : AccState (zOf (dots fq fk)) V (HS3_11 c arg2 harg2 arg3 harg3 arg4 harg4 arg5 harg5 arg19 arg20 arg21 arg22 arg23 x0 x1 x2 x3) 1536 1536 := by
    rw [acc33, fillD, fillE]
    exact accDiag_state (by omega) hw' (scores_apply in3 in3 (by omega) (by omega) hQ hK) (zeroed_run _) (values_apply in3 (by omega) hX) (zeroed_acc _)
  have r32 : RunState (zOf (dots fq fk)) (HS4_36 c arg2 harg2 arg3 harg3 arg5 harg5 arg19 arg20 arg23 x0 x1 x3) 1536 1024 := by
    rw [run32]
    exact (fullD_state (by omega) (by omega) hw' (scores_apply in3 in2 (by omega) (by omega) hQ hK) r33).2.2.2
  have a32 : AccState (zOf (dots fq fk)) V (HS3_12 c arg2 harg2 arg3 harg3 arg4 harg4 arg5 harg5 arg19 arg20 arg21 arg22 arg23 x0 x1 x2 x3) 1536 1024 := by
    rw [acc32]
    exact accFull_state (by omega) (by omega) hw' (scores_apply in3 in2 (by omega) (by omega) hQ hK) r33 (values_apply in2 (by omega) hX) a33
  have r31 : RunState (zOf (dots fq fk)) (HS4_40 c arg2 harg2 arg3 harg3 arg5 harg5 arg19 arg20 arg23 x0 x1 x3) 1536 512 := by
    rw [run31]
    exact (fullD_state (by omega) (by omega) hw' (scores_apply in3 in1 (by omega) (by omega) hQ hK) r32).2.2.2
  have a31 : AccState (zOf (dots fq fk)) V (HS3_13 c arg2 harg2 arg3 harg3 arg4 harg4 arg5 harg5 arg19 arg20 arg21 arg22 arg23 x0 x1 x2 x3) 1536 512 := by
    rw [acc31]
    exact accFull_state (by omega) (by omega) hw' (scores_apply in3 in1 (by omega) (by omega) hQ hK) r32 (values_apply in1 (by omega) hX) a32
  have a30 : AccState (zOf (dots fq fk)) V (HS3_14 c arg2 harg2 arg3 harg3 arg4 harg4 arg5 harg5 arg19 arg20 arg21 arg22 arg23 x0 x1 x2 x3) 1536 0 := by
    rw [acc30]
    exact accFull_state (by omega) (by omega) hw' (scores_apply in3 in0 (by omega) (by omega) hQ hK) r31 (values_apply in0 (by omega) hX) a31
  rw [out10]
  exact outStores_apply (fun t j => ∑ s ∈ Finset.range 2048, ((weight (zOf (dots fq fk)) t s : ℝ) : EReal) * V s j)
    (outBlock_apply a00) (outBlock_apply a10) (outBlock_apply a20) (outBlock_apply a30) t j

end Point

end Cert.SbIdeal.Stick

end
-- ==== Proof.SbArray.lean ====
/- The stick-breaking kernel's seven results over the extended reals, as whole arrays: every head's attention, and the
   six casts, which change nothing. -/
module

public import proofs.«01_k».proof.Proof.SbBlock
public import proofs.«01_k».proof.Proof.Gen.SbIdeal.Value
public import Idealize.ShloMosaic.Lib.Claim
public import Idealize.ShloMosaic.Lib.StableHlo.ReadAt

@[expose] public section

set_option maxRecDepth 16384

noncomputable section

namespace Cert.SbIdeal.Stick

open Idealize.ShloMosaic Idealize.ShloMosaic.TcCoe Cert.SbIdeal.Gen Cert.Stick

variable (m : (ℓ : Loc nD τ sig) → Buf (Elt Ideal) ℓ) (c : Dev nD)

/-! The six casts: each block of the output is the block of the input, and the blocks cover the array. -/

theorem cast11 : (dats (F := Ideal) m 0 c).arrAt 11 cfg0.N = m ((c : Thread nD τ).loc main_arg1) := by
  refine (dats (F := Ideal) m 0 c).arrAt_eq_of_covers 11 _ (by decide +kernel) fun t hf y => ?_
  blk_simp
  rw [after0_11]
  simp only [outsAt0]
  rw [out11, View.canon_unit_zero (by decide), View.readAt_eq_ld, Memref.IsWhole.read_unread, View.ld_unit_lit (h := by decide)]
  show iblk m c 4 t y = _
  blk_simp [iblk, V_main_arg1]
  rfl

theorem cast12 : (dats (F := Ideal) m 0 c).arrAt 12 cfg0.N = m ((c : Thread nD τ).loc main_arg2) := by
  refine (dats (F := Ideal) m 0 c).arrAt_eq_of_covers 12 _ (by decide +kernel) fun t hf y => ?_
  blk_simp
  rw [after0_12]
  simp only [outsAt0]
  rw [out12, View.canon_unit_zero (by decide), View.readAt_eq_ld, Memref.IsWhole.read_unread, View.ld_unit_lit (h := by decide)]
  show iblk m c 5 t y = _
  blk_simp [iblk, V_main_arg2]
  rfl

theorem cast13 : (dats (F := Ideal) m 0 c).arrAt 13 cfg0.N = m ((c : Thread nD τ).loc main_arg3) := by
  refine (dats (F := Ideal) m 0 c).arrAt_eq_of_covers 13 _ (by decide +kernel) fun t hf y => ?_
  blk_simp
  rw [after0_13]
  simp only [outsAt0]
  rw [out13, View.canon_unit_zero (by decide), View.readAt_eq_ld, Memref.IsWhole.read_unread, View.ld_unit_lit (h := by decide)]
  show iblk m c 6 t y = _
  blk_simp [iblk, V_main_arg3]
  rfl

theorem cast14 : (dats (F := Ideal) m 0 c).arrAt 14 cfg0.N = m ((c : Thread nD τ).loc main_arg4) := by
  refine (dats (F := Ideal) m 0 c).arrAt_eq_of_covers 14 _ (by decide +kernel) fun t hf y => ?_
  blk_simp
  rw [after0_14]
  simp only [outsAt0]
  rw [out14, View.canon_unit_zero (by decide), View.readAt_eq_ld, Memref.IsWhole.read_unread, View.ld_unit_lit (h := by decide)]
  show iblk m c 7 t y = _
  blk_simp [iblk, V_main_arg4]
  rfl

theorem cast15 : (dats (F := Ideal) m 0 c).arrAt 15 cfg0.N = m ((c : Thread nD τ).loc main_arg5) := by
  refine (dats (F := Ideal) m 0 c).arrAt_eq_of_covers 15 _ (by decide +kernel) fun t hf y => ?_
  blk_simp
  rw [after0_15]
  simp only [outsAt0]
  rw [out15, View.canon_unit_zero (by decide), View.readAt_eq_ld, Memref.IsWhole.read_unread, View.ld_unit_lit (h := by decide)]
  show iblk m c 8 t y = _
  blk_simp [iblk, V_main_arg5]
  rfl

theorem cast16 : (dats (F := Ideal) m 0 c).arrAt 16 cfg0.N = m ((c : Thread nD τ).loc main_arg6) := by
  refine (dats (F := Ideal) m 0 c).arrAt_eq_of_covers 16 _ (by decide +kernel) fun t hf y => ?_
  blk_simp
  rw [after0_16]
  simp only [outsAt0]
  rw [out16, View.canon_unit_zero (by decide), View.readAt_eq_ld, Memref.IsWhole.read_unread, View.ld_unit_lit (h := by decide)]
  show iblk m c 9 t y = _
  blk_simp [iblk, V_main_arg6]
  rfl

/-- The kernel's fourth operand is the matrix of suffix sums. -/
theorem suffix_entry : IsSuffix (V m c main_v10) := by
  intro a b
  unfold V
  after_reads_at
  after_reads_at
  have hb : ∀ p : Bool, (FloatOps.uitofp (F := Ideal) .bf16 (BitVec.ofBool p) : EReal) = if p then 1 else 0 := by
    intro p
    cases p
    · show (((BitVec.ofBool false).toNat : ℝ) : EReal) = 0
      simp
    · show (((BitVec.ofBool true).toNat : ℝ) : EReal) = 1
      simp
  have hm := a.isLt
  have hone : (FloatOps.uitofp (F := Ideal) .bf16 (1#1 : BitVec 1) : EReal) = 1 := hb true
  split_ifs with h1 h2 h3 h4 h5
  · rw [WordCmp.cmpi_sgt_ofNat (by omega) (by omega), hb, if_pos (by simp; omega)]
  · rw [WordCmp.cmpi_sgt_ofNat (by omega) (by omega), hb, if_neg (by simp; omega)]
  · exact hone
  · rw [WordCmp.cmpi_sgt_ofNat (by omega) (by omega), hb, if_pos (by simp; omega)]
  · rw [WordCmp.cmpi_sgt_ofNat (by omega) (by omega), hb, if_neg (by simp; omega)]
  · exact hone

/-! ## One head, off the projection -/

/-- Feature `k + j` of row `s` of sequence `b`; nothing outside the array. -/
def col (A : Vec Ideal S8x2048x6144 .f32) (b : Fin 8) (k s : ℕ) (j : Fin 128) : EReal :=
  if h : s < 2048 ∧ k + j.val < 6144 then A (ix3 b ⟨s, h.1⟩ ⟨k + j.val, h.2⟩) else 0

/-- Row `t`, feature `j` of head `h` of sequence `b`. -/
def headOut (A : Vec Ideal S8x2048x6144 .f32) (b : Fin 8) (h t : ℕ) (j : Fin 128) : EReal :=
  ∑ s ∈ Finset.range 2048,
    ((weight (zOf (dots (fun s c => (col A b (128 * h) s c).toReal) (fun s c => (col A b (1024 + 128 * h) s c).toReal))) t s : ℝ) : EReal)
      * col A b (2048 + 128 * h) s j

/-- The layer's attention: head `n / 128` fills the features `n` of its own 128. -/
def stick (A : Vec Ideal S8x2048x6144 .f32) : Vec Ideal S8x2048x1024 .f32 :=
  fun y => headOut A (y 0) ((y 2).val / 128) (y 1).val ⟨(y 2).val % 128, Nat.mod_lt _ (by decide)⟩

/-- Queries and keys are real. -/
def RealQK (A : Vec Ideal S8x2048x6144 .f32) : Prop :=
  ∀ (b : Fin 8) (t : Fin 2048) (k : Fin 6144), k.val < 2048 → ((A (ix3 b t k) : EReal).toReal : EReal) = A (ix3 b t k)

/-- Where the windows of the projection and of the output stand at a grid point. -/
theorem idx : ∀ t : Fin cfg0.N,
    win0_0.index t = ![(grid0.coords t 0).val, 0, (grid0.coords t 1).val]
      ∧ win0_1.index t = ![(grid0.coords t 0).val, 0, 8 + (grid0.coords t 1).val]
      ∧ win0_2.index t = ![(grid0.coords t 0).val, 0, 16 + (grid0.coords t 1).val]
      ∧ win0_10.index t = ![(grid0.coords t 0).val, 0, (grid0.coords t 1).val] := by
  decide +kernel

theorem col_of {A : Vec Ideal S8x2048x6144 .f32} {b : Fin 8} {k s : ℕ} {j : Fin 128} (h : s < 2048 ∧ k + j.val < 6144) :
    col A b k s j = A (ix3 b ⟨s, h.1⟩ ⟨k + j.val, h.2⟩) := dif_pos h

/-- The sequence and the head of a grid point. -/
def seqOf (t : Fin cfg0.N) : Fin 8 := ⟨(grid0.coords t 0).val, (grid0.coords t 0).isLt⟩
def headOf (t : Fin cfg0.N) : ℕ := (grid0.coords t 1).val
theorem headOf_lt (t : Fin cfg0.N) : headOf t < 8 := (grid0.coords t 1).isLt

theorem blk0 (t : Fin cfg0.N) (s : Fin 2048) (j : Fin 128) :
    iblk m c 0 t (ix3 0 s j) = col (m ((c : Thread nD τ).loc main_arg0)) (seqOf t) (128 * headOf t) s.val j := by
  have h1 := headOf_lt t
  refine Eq.trans ?_ (col_of ⟨s.isLt, by omega⟩).symm
  blk_ext [iblk, V_main_arg0, idx t, seqOf, headOf]

theorem blk1 (t : Fin cfg0.N) (s : Fin 2048) (j : Fin 128) :
    iblk m c 1 t (ix3 0 s j) = col (m ((c : Thread nD τ).loc main_arg0)) (seqOf t) (1024 + 128 * headOf t) s.val j := by
  have h1 := headOf_lt t
  refine Eq.trans ?_ (col_of ⟨s.isLt, by omega⟩).symm
  blk_ext [iblk, V_main_arg0, idx t, seqOf, headOf]

theorem blk2 (t : Fin cfg0.N) (s : Fin 2048) (j : Fin 128) :
    iblk m c 2 t (ix3 0 s j) = col (m ((c : Thread nD τ).loc main_arg0)) (seqOf t) (2048 + 128 * headOf t) s.val j := by
  have h1 := headOf_lt t
  refine Eq.trans ?_ (col_of ⟨s.isLt, by omega⟩).symm
  blk_ext [iblk, V_main_arg0, idx t, seqOf, headOf]

/-- The fourth operand is one block, the same at every point. -/
theorem blk3 (t : Fin cfg0.N) : IsSuffix (iblk m c 3 t) := by
  have h : iblk m c 3 t = V m c main_v10 := by
    funext y
    blk_ext [iblk, (by decide +kernel : ∀ t : Fin cfg0.N, win0_3.index t = ![0, 0]) t]
  rw [h]
  exact suffix_entry m c

/-- A real column of queries or keys is its real part. -/
theorem real_col {A : Vec Ideal S8x2048x6144 .f32} (hA : RealQK A) {b : Fin 8} {k s : ℕ} {j : Fin 128} (hs : s < 2048) (hk : k + j.val < 2048) :
    col A b k s j = (((col A b k s j).toReal : ℝ) : EReal) := by
  rw [col_of ⟨hs, by omega⟩]
  exact (hA b _ _ hk).symm

theorem stick_apply (A : Vec Ideal S8x2048x6144 .f32) (b : Fin 8) (t : Fin 2048) (h : ℕ) (hh : h < 8) (j : Fin 128) :
    stick A (ix3 b t ⟨128 * h + j.val, by omega⟩) = headOut A b h t.val j := by
  have e : (128 * h + j.val) / 128 = h := by omega
  have e' : (⟨(128 * h + j.val) % 128, Nat.mod_lt _ (by decide)⟩ : Fin 128) = j := by apply Fin.ext; show (128 * h + j.val) % 128 = j.val; omega
  show headOut A b ((128 * h + j.val) / 128) t.val ⟨(128 * h + j.val) % 128, Nat.mod_lt _ (by decide)⟩ = _
  rw [e, e']

end Cert.SbIdeal.Stick

end
-- ==== Proof.SbHeads.lean ====
/- The kernel's attention over the whole array: each grid point writes one head of one sequence. -/
module

public import proofs.«01_k».proof.Proof.SbArray

@[expose] public section

set_option maxRecDepth 16384

noncomputable section

namespace Cert.SbIdeal.Stick

open Idealize.ShloMosaic Idealize.ShloMosaic.TcCoe Cert.SbIdeal.Gen Cert.Stick

variable (m : (ℓ : Loc nD τ sig) → Buf (Elt Ideal) ℓ) (c : Dev nD)

/-- What a grid point writes to the first output's block. -/
theorem head_at (hA : RealQK (m ((c : Thread nD τ).loc main_arg0))) (t : Fin cfg0.N) (s : Fin 2048) (j : Fin 128) :
    (outsAt0 (F := Ideal) m c t).1 (ix3 0 s j) = headOut (m ((c : Thread nD τ).loc main_arg0)) (seqOf t) (headOf t) s.val j := by
  have h1 := headOf_lt t
  have hx0 := fun (s : Fin 2048) (j : Fin 128) => (blk0 m c t s j).trans (real_col hA s.isLt (by omega))
  have hx1 := fun (s : Fin 2048) (j : Fin 128) => (blk1 m c t s j).trans (real_col hA s.isLt (by omega))

  have h := out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fq := fun s j => (col (m ((c : Thread nD τ).loc main_arg0)) (seqOf t) (128 * headOf t) s j).toReal)
    (fk := fun s j => (col (m ((c : Thread nD τ).loc main_arg0)) (seqOf t) (1024 + 128 * headOf t) s j).toReal)
    (V := fun s j => col (m ((c : Thread nD τ).loc main_arg0)) (seqOf t) (2048 + 128 * headOf t) s j) hx0 hx1 (blk2 m c t) (blk3 m c t) s j
  simp only [outsAt0]
  unfold headOut
  exact h

/-- The first result, on real queries and keys: the layer's attention. -/
theorem arr10 (hA : RealQK (m ((c : Thread nD τ).loc main_arg0))) :
    (dats (F := Ideal) m 0 c).arrAt 10 cfg0.N = stick (m ((c : Thread nD τ).loc main_arg0)) := by
  refine (dats (F := Ideal) m 0 c).arrAt_eq_of_covers 10 _ (by decide +kernel) fun t hf y => ?_
  have h1 := headOf_lt t
  blk_simp
  rw [after0_10]
  idx_vars y
  obtain rfl : y0 = 0 := Subsingleton.elim _ _
  rw [head_at m c hA t y1 y2, ← stick_apply _ (seqOf t) y1 (headOf t) h1 y2]
  refine congrArg (stick _) ?_
  blk_ext [idx t, seqOf, headOf]

end Cert.SbIdeal.Stick

end
-- ==== Proof.SbReference.lean ====
/- The reference's attention at an index: the same sum over the earlier rows, the weight of each by the logarithms of
   what the rows between keep. -/
module

public import proofs.«01_k».proof.Proof.SbArray
public import proofs.«01_k».proof.Proof.Gen.SbRefIdeal.Run
public import Idealize.ShloMosaic.Lib.Pointwise

@[expose] public section

set_option maxRecDepth 16384

noncomputable section

namespace Cert.SbRefIdeal.Stick

open Idealize.ShloMosaic Idealize.ShloMosaic.TcCoe Cert.SbRefIdeal Cert.SbRefIdeal.Gen Cert.Stick
open Cert.SbIdeal.Stick (stick col headOut RealQK real_col col_of zOf dots stick_apply)

variable (A : Vec Ideal S8x2048x6144 .f32)

/-! ## The reference, a stage at a time -/

def queries : FVec Ideal S8x8x2048x128 .f32 :=
  transpose S8x8x2048x128 [0, 2, 1, 3] (shapeCast S8x2048x8x128 (extractStridedSlice S8x2048x1024 ![0, 0, 0] A slices_S8x2048x6144_S8x2048x1024_0_0_0) shapeCasts_S8x2048x1024_S8x2048x8x128) transposes_S8x2048x8x128_S8x8x2048x128_0_2_1_3
def keys : FVec Ideal S8x8x2048x128 .f32 :=
  transpose S8x8x2048x128 [0, 2, 1, 3] (shapeCast S8x2048x8x128 (extractStridedSlice S8x2048x1024 ![0, 0, 1024] A slices_S8x2048x6144_S8x2048x1024_0_0_1024) shapeCasts_S8x2048x1024_S8x2048x8x128) transposes_S8x2048x8x128_S8x8x2048x128_0_2_1_3
def vals : FVec Ideal S8x8x2048x128 .f32 :=
  transpose S8x8x2048x128 [0, 2, 1, 3] (shapeCast S8x2048x8x128 (extractStridedSlice S8x2048x1024 ![0, 0, 2048] A slices_S8x2048x6144_S8x2048x1024_0_0_2048) shapeCasts_S8x2048x1024_S8x2048x8x128) transposes_S8x2048x8x128_S8x8x2048x128_0_2_1_3

abbrev Square := FVec Ideal S8x8x2048x2048 .f32

def scaled : Square :=
  Host.divf (Host.dotGeneral dot_S8x8x2048x128_S8x8x2048x128_S8x8x2048x2048_3_3_2_2_01_01 none (queries A) (keys A)) (broadcastInDim S8x8x2048x2048 ![] bcast_S_S8x8x2048x2048 (Host.sqrt (constant S_ .f32 0x43000000#32)))

def below : IVec S8x8x2048x2048 1 :=
  broadcastInDim S8x8x2048x2048 ![0, 1, 2, 3] bcast_S1x1x2048x2048_S8x8x2048x2048_0_1_2_3 (broadcastInDim S1x1x2048x2048 ![2, 3] bcast_S2048x2048_S1x1x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))

def zeros : Square := broadcastInDim S8x8x2048x2048 ![] bcast_S_S8x8x2048x2048 (constant S_ .f32 0x00000000#32)

/-- The log-sigmoid of `-x`, by the softplus of `x`. -/
def logSig (x : Square) : Square :=
  Host.negf (select (cmpf .une (subf x zeros) (subf x zeros)) (addf x zeros) (addf (maximumf x zeros) (Host.log1p (Host.exp (Host.negf (Host.absf (subf x zeros)))))))

def kept : Square :=
  select below (logSig (Host.negf (Host.negf (scaled A)))) (broadcastInDim S8x8x2048x2048 ![] bcast_S_S8x8x2048x2048 (id (constant S_ .f32 0x00000000#32)))

def tails : Square :=
  Host.reduceWindowAdd ![1, 1, 1, 2048] ![1, 1, 1, 1] ![0, 0, 0, 0] ![0, 0, 0, 2047] (kept A) (broadcastInDim S_ ![] bcast_S_S_ (constant S_ .f32 0x00000000#32)) reduceWindows_S8x8x2048x2048_S8x8x2048x2048_w1s1p0_0_w1s1p0_0_w1s1p0_0_w2048s1p0_2047 h_S_

def after : Square :=
  concatenate S8x8x2048x2048 3 [⟨S8x8x2048x2047, (extractStridedSlice S8x8x2048x2047 ![0, 0, 0, 1] (tails A) slices_S8x8x2048x2048_S8x8x2048x2047_0_0_0_1)⟩, ⟨S8x8x2048x1, (broadcastInDim S8x8x2048x1 ![] bcast_S_S8x8x2048x1 (constant S_ .f32 0x00000000#32))⟩] concatenates_S8x8x2048x2047_S8x8x2048x1_S8x8x2048x2048_d3

def weights : Square :=
  Host.exp (select below (addf (logSig (Host.negf (scaled A))) (after A)) (broadcastInDim S8x8x2048x2048 ![] bcast_S_S8x8x2048x2048 (id (constant S_ .f32 0xFF800000#32))))

def result : FVec Ideal S8x2048x1024 .f32 :=
  shapeCast S8x2048x1024 (transpose S8x2048x8x128 [0, 2, 1, 3] (Host.dotGeneral dot_S8x8x2048x2048_S8x8x2048x128_S8x8x2048x128_3_2_2_3_01_01 none (weights A) (vals A)) transposes_S8x8x2048x128_S8x2048x8x128_0_2_1_3) shapeCasts_S8x2048x8x128_S8x2048x1024

theorem res_eq (m : (ℓ : Loc nD τ sig) → Buf (Elt Ideal) ℓ) (c : Dev nD) :
    Cert.SbRefIdeal.Value.res_main_v34 m c = result (m ((c : Thread nD τ).loc main_arg0)) := rfl

/-! ## At an index -/

variable (b h : Fin 8) (t s : Fin 2048) (j : Fin 128)

theorem queries_apply : queries A (ix4 b h t j) = col A b (128 * h.val) t.val j := by
  rw [col_of ⟨t.isLt, by omega⟩]
  unfold queries
  pointwise
  exact congrArg A (congrArg (ix3 b t) (Fin.ext (by show h.val * 128 + j.val = 128 * h.val + j.val; omega)))

theorem keys_apply : keys A (ix4 b h t j) = col A b (1024 + 128 * h.val) t.val j := by
  rw [col_of ⟨t.isLt, by omega⟩]
  unfold keys
  pointwise
  refine congrArg A (congrArg (ix3 b t) (Fin.ext ?_))
  dsimp only
  omega

theorem vals_apply : vals A (ix4 b h t j) = col A b (2048 + 128 * h.val) t.val j := by
  rw [col_of ⟨t.isLt, by omega⟩]
  unfold vals
  pointwise
  refine congrArg A (congrArg (ix3 b t) (Fin.ext ?_))
  dsimp only
  omega

theorem below_apply : below (ix4 b h t s) = BitVec.ofBool (decide (s.val < t.val)) := by
  unfold below
  pointwise
  exact WordCmp.cmpi_slt_ofNat (by omega) (by omega)

/-- The scores of one head, real when queries and keys are. -/
def score (A : Vec Ideal S8x2048x6144 .f32) (b : Fin 8) (h : ℕ) : ℕ → ℕ → ℝ :=
  zOf (dots (fun s c => (col A b (128 * h) s c).toReal) (fun s c => (col A b (1024 + 128 * h) s c).toReal))

theorem word_128 : Ideal.ofBits .f32 0x43000000#32 = ((128 : ℝ) : EReal) := by
  simp [Ideal.ofBits, Ideal.ieee]
  rw [← EReal.coe_mul]
  norm_num

theorem word_bot : Ideal.ofBits .f32 0xFF800000#32 = (⊥ : EReal) := by
  simp [Ideal.ofBits, Ideal.ieee]

theorem scaled_apply (hA : RealQK A) : scaled A (ix4 b h t s) = ((score A b h.val t.val s.val : ℝ) : EReal) := by
  unfold scaled
  pointwise
  have hd : (∑ x : Fin 128, queries A (ix4 b h t x) * keys A (ix4 b h s x) : EReal)
      = ((dots (fun s c => (col A b (128 * h.val) s c).toReal) (fun s c => (col A b (1024 + 128 * h.val) s c).toReal) t.val s.val : ℝ) : EReal) := by
    unfold dots
    rw [Cert.SbIdeal.Stick.coe_sum]
    refine Finset.sum_congr rfl fun c _ => ?_
    rw [queries_apply, keys_apply, EReal.coe_mul, ← real_col hA t.isLt (by omega), ← real_col hA s.isLt (by omega)]
  rw [hd, word_128, Ideal.sqrt_coe, if_neg (by norm_num), Ideal.div_coe (by positivity), ← EReal.coe_mul]
  unfold score zOf
  rw [one_div]

theorem logSig_apply (x : Square) (r : ℝ) (hx : x (ix4 b h t s) = (r : EReal)) : logSig x (ix4 b h t s) = ((ls (-r) : ℝ) : EReal) := by
  unfold logSig zeros
  pointwise
  have habs : FloatOps.absf (F := Ideal) (φ := .f32) ((r : ℝ) : EReal) = ((|r| : ℝ) : EReal) := by
    show max (r : EReal) (-(r : EReal)) = _
    rw [← EReal.coe_neg, ← EReal.coe_strictMono.monotone.map_max]; rfl
  rw [hx, if_neg (fun e => e rfl), habs, ← EReal.coe_neg, Ideal.exp_coe]
  show -(max _ _ + Ideal.log (1 + _)) = _
  have hpos : ¬ (1 + Real.exp (-|r|) ≤ 0) := by have := Real.exp_pos (-|r|); linarith
  rw [← EReal.coe_one, ← EReal.coe_add, Ideal.log_coe, if_neg hpos, ← EReal.coe_zero, ← EReal.coe_strictMono.monotone.map_max,
    ← EReal.coe_add, ← EReal.coe_neg, ← ls_eq_min, abs_neg]
  congr 1
  rcases le_total 0 r with hr | hr
  · rw [max_eq_left hr, min_eq_left (by linarith)]; ring
  · rw [max_eq_right hr, min_eq_right (by linarith)]; ring

theorem kept_apply (hA : RealQK A) : kept A (ix4 b h t s) = ((keep (score A b h.val) t.val s.val : ℝ) : EReal) := by
  have hz : Host.negf (Host.negf (scaled A)) (ix4 b h t s) = ((score A b h.val t.val s.val : ℝ) : EReal) := by
    pointwise
    rw [scaled_apply A b h t s hA]
    exact neg_neg _
  unfold kept
  pointwise
  rw [below_apply, logSig_apply b h t s _ _ hz]
  unfold keep
  by_cases hs : s.val < t.val
  · rw [if_pos hs, decide_eq_true hs]; rfl
  · rw [if_neg hs, decide_eq_false hs]
    exact Ideal.ofBits_zero_f32

/-- A window's fold of additions is the initial value and the sum. -/
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

abbrev Window : Shape := ⟨4, ![1, 1, 1, 2048]⟩

/-- A position of the window is its last coordinate. -/
def along : Window.Idx ≃ Fin 2048 where
  toFun w := w 3
  invFun k := ix4 (0 : Fin 1) (0 : Fin 1) (0 : Fin 1) k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

theorem tails_apply (hA : RealQK A) : tails A (ix4 b h t s) = ((tailFrom (score A b h.val) t.val s.val : ℝ) : EReal) := by
  have hv : (broadcastInDim S_ ![] bcast_S_S_ (constant (F := Ideal) S_ .f32 0x00000000#32) (Shape.Idx.first h_S_) : EReal) = 0 :=
    Ideal.ofBits_zero_f32
  unfold tails Host.reduceWindowAdd
  rw [Ideal.hostReduceWindowAdd_def]
  unfold Ideal.hostReduceWindowAdd Host.reduceWindow
  dsimp only
  rw [foldl_add, hv, zero_add, ← Fin.sum_univ_def]
  have hsum : ((tailFrom (score A b h.val) t.val s.val : ℝ) : EReal)
      = ∑ k : Fin 2048, if s.val + k.val < 2048 then ((keep (score A b h.val) t.val (s.val + k.val) : ℝ) : EReal) else 0 := by
    unfold tailFrom
    rw [Cert.SbIdeal.Stick.coe_sum, Finset.sum_Ico_eq_sum_range,
      Fin.sum_univ_eq_sum_range (fun k => if s.val + k < 2048 then ((keep (score A b h.val) t.val (s.val + k) : ℝ) : EReal) else 0) 2048,
      ← Finset.sum_filter]
    refine Finset.sum_congr (Finset.ext fun k => ?_) fun _ _ => rfl
    rw [Finset.mem_range, Finset.mem_filter, Finset.mem_range]
    omega
  rw [hsum, ← (Window.rowMajor.symm.trans along).sum_comp]
  refine Finset.sum_congr rfl fun n _ => ?_
  have w0 : ((Window.rowMajor.symm n) 0).val = 0 := Nat.lt_one_iff.1 ((Window.rowMajor.symm n) 0).isLt
  have w1 : ((Window.rowMajor.symm n) 1).val = 0 := Nat.lt_one_iff.1 ((Window.rowMajor.symm n) 1).isLt
  have w2 : ((Window.rowMajor.symm n) 2).val = 0 := Nat.lt_one_iff.1 ((Window.rowMajor.symm n) 2).isLt
  have e3 : ((Window.rowMajor.symm.trans along) n).val = ((Window.rowMajor.symm n) 3).val := rfl
  rw [e3]
  split
  · next hin =>
    have h3 : s.val * 1 + ((Window.rowMajor.symm n) 3).val - 0 < 2048 := (hin 3).2
    rw [if_pos (by omega)]
    refine (congrArg (kept A) (funext fun a => Fin.ext ?_)).trans (kept_apply A b h t ⟨s.val + ((Window.rowMajor.symm n) 3).val, by omega⟩ hA)
    match a with
    | ⟨0, _⟩ =>
      show b.val * 1 + ((Window.rowMajor.symm n) 0).val - 0 = b.val
      omega
    | ⟨1, _⟩ =>
      show h.val * 1 + ((Window.rowMajor.symm n) 1).val - 0 = h.val
      omega
    | ⟨2, _⟩ =>
      show t.val * 1 + ((Window.rowMajor.symm n) 2).val - 0 = t.val
      omega
    | ⟨3, _⟩ =>
      show s.val * 1 + ((Window.rowMajor.symm n) 3).val - 0 = s.val + ((Window.rowMajor.symm n) 3).val
      omega
  · next hin =>
    refine (if_neg fun hle => hin fun a => ?_).symm
    match a with
    | ⟨0, _⟩ =>
      show 0 ≤ b.val * 1 + ((Window.rowMajor.symm n) 0).val ∧ b.val * 1 + ((Window.rowMajor.symm n) 0).val - 0 < 8
      omega
    | ⟨1, _⟩ =>
      show 0 ≤ h.val * 1 + ((Window.rowMajor.symm n) 1).val ∧ h.val * 1 + ((Window.rowMajor.symm n) 1).val - 0 < 8
      omega
    | ⟨2, _⟩ =>
      show 0 ≤ t.val * 1 + ((Window.rowMajor.symm n) 2).val ∧ t.val * 1 + ((Window.rowMajor.symm n) 2).val - 0 < 2048
      omega
    | ⟨3, _⟩ =>
      show 0 ≤ s.val * 1 + ((Window.rowMajor.symm n) 3).val ∧ s.val * 1 + ((Window.rowMajor.symm n) 3).val - 0 < 2048
      omega

theorem after_apply (hA : RealQK A) : after A (ix4 b h t s) = ((tailFrom (score A b h.val) t.val (s.val + 1) : ℝ) : EReal) := by
  unfold after
  pointwise
  split
  · rw [tails_apply A b h t _ hA]
    dsimp only
    rw [add_comm]
  · rw [tailFrom_of_le _ _ _ (by omega)]; rfl

theorem weights_apply (hA : RealQK A) : weights A (ix4 b h t s) = ((weight (score A b h.val) t.val s.val : ℝ) : EReal) := by
  have hz : Host.negf (scaled A) (ix4 b h t s) = ((-score A b h.val t.val s.val : ℝ) : EReal) := by
    pointwise
    rw [scaled_apply A b h t s hA, EReal.coe_neg]
  unfold weights
  pointwise
  rw [below_apply, logSig_apply b h t s _ _ hz, after_apply A b h t s hA, neg_neg, ← EReal.coe_add]
  unfold weight
  by_cases hs : s.val < t.val
  · rw [if_pos hs, decide_eq_true hs]; rfl
  · rw [if_neg hs, decide_eq_false hs]
    show Ideal.exp (Ideal.ofBits .f32 0xFF800000#32) = _
    rw [word_bot]
    rfl

theorem result_eq (hA : RealQK A) : result A = stick A := by
  funext y
  idx_vars y
  unfold result
  pointwise
  show _ = headOut A y0 (y2.val / 128) y1.val ⟨y2.val % 128, _⟩
  unfold headOut
  rw [Finset.sum_range]
  refine Finset.sum_congr rfl fun s _ => ?_
  rw [weights_apply A _ _ _ _ hA, vals_apply]
  rfl

end Cert.SbRefIdeal.Stick

end
-- ==== Proof.SbClaims.lean ====
/- The stick-breaking claims: the frames, the named constants, and the equality of the seven results. -/
module

public import proofs.«01_k».proof.Defs
public import proofs.«01_k».proof.Proof.Gen.Sb.Frame
public import proofs.«01_k».proof.Proof.SbHeads
public import proofs.«01_k».proof.Proof.SbReference

@[expose] public section

noncomputable section

namespace Cert.Proof.SbClaims

open Idealize.ShloMosaic Idealize.ShloMosaic.TcCoe Idealize.SL.Sem

/-- The precondition's side conditions. -/
instance preFacts : Cert.Pre_finite_qk.Facts where
  slices_S8x2048x6144_S8x2048x2048_0_0_0 := by decide
  bcast_S_S8x2048x2048 := by decide

theorem frame_p : Cert.quiescent_Sb := fun m ρ _ => Cert.Sb.Gen.frame m ρ
theorem frame_pi : Cert.quiescent_SbIdeal := fun m ρ _ => Cert.SbIdeal.Gen.frame m ρ
theorem frame_pi_pre : Cert.quiescent_SbIdeal_pre_finite_qk := fun m ρ _ => Cert.SbIdeal.Gen.frame m ρ

theorem frame_ri : Cert.quiescent_SbRefIdeal := fun m ρ _ =>
  (θ_run Cert.SbRefIdeal.defs _ _).mono (fun r h => ⟨fun c => (h c).2.2.2.2.2.2.2, sem_eq_zero_of_no_sems (by decide) r.2⟩)
    (Cert.SbRefIdeal.Value.run (F := Ideal) m ρ)
theorem frame_ri_pre : Cert.quiescent_SbRefIdeal_pre_finite_qk := fun m ρ _ => frame_ri m ρ trivial

theorem preserves : Cert.preserves_Sb_SbIdeal :=
  ⟨IdealRules.named_const.statement Cert.SbIdeal.κ _ _ _ _ rfl, IdealRules.named_const.statement Cert.SbIdeal.κ _ _ _ _ rfl⟩

/-- The precondition at an entry: a query or key below infinity in size is real. -/
theorem real_of_pre (A : Vec Ideal Cert.SbIdeal.S8x2048x6144 .f32) (a1 a2 : FVec Ideal Cert.SbIdeal.S2048x5504 .f32) (a3 : FVec Ideal Cert.SbIdeal.S5504x2048 .f32)
    (a4 : FVec Ideal Cert.SbIdeal.S2048x2048 .f32) (a5 : FVec Ideal Cert.SbIdeal.S2048x512 .f32) (a6 : FVec Ideal Cert.SbIdeal.S512x2048 .f32)
    (h : Cert.Pre_finite_qk.fn (F := Ideal) A a1 a2 a3 a4 a5 a6 = fun _ => 1#1) : Cert.SbIdeal.Stick.RealQK A := by
  intro b t k hk
  have e := congrFun h (ix3 b t ⟨k.val, hk⟩)
  unfold Cert.Pre_finite_qk.fn at e
  dsimp only at e
  revert e
  pointwise
  have htop : Ideal.ofBits .f32 0x7F800000#32 = (⊤ : EReal) := by simp [Ideal.ofBits, Ideal.ieee]
  rw [htop]
  intro e
  have hlt : FloatOps.absf (F := Ideal) (φ := .f32) (A (ix3 b t k)) < (⊤ : EReal) := by
    by_contra hn
    rw [decide_eq_false hn] at e
    exact absurd e (by decide)
  have hmax : max (A (ix3 b t k) : EReal) (-(A (ix3 b t k) : EReal)) < ⊤ := hlt
  rw [max_lt_iff] at hmax
  refine EReal.coe_toReal hmax.1.ne fun hbot => ?_
  rw [hbot, EReal.neg_bot] at hmax
  exact lt_irrefl _ hmax.2

theorem algebraic : Cert.algebraic_SbIdeal_SbRefIdeal_pre_finite_qk := by
  intro m g m' g' hpre hargs
  have hA : ∀ c : Dev Cert.SbIdeal.nD, Cert.SbIdeal.Stick.RealQK (m ((c : Thread Cert.SbIdeal.nD Cert.SbIdeal.τ).loc Cert.SbIdeal.main_arg0)) :=
    fun c => real_of_pre _ _ _ _ _ _ _ (hpre c)
  refine ⟨fun c => Cert.SbIdeal.Stick.stick (m ((c : Thread Cert.SbIdeal.nD Cert.SbIdeal.τ).loc Cert.SbIdeal.main_arg0)),
    fun c => m ((c : Thread Cert.SbIdeal.nD Cert.SbIdeal.τ).loc Cert.SbIdeal.main_arg1), fun c => m ((c : Thread Cert.SbIdeal.nD Cert.SbIdeal.τ).loc Cert.SbIdeal.main_arg2),
    fun c => m ((c : Thread Cert.SbIdeal.nD Cert.SbIdeal.τ).loc Cert.SbIdeal.main_arg3), fun c => m ((c : Thread Cert.SbIdeal.nD Cert.SbIdeal.τ).loc Cert.SbIdeal.main_arg4),
    fun c => m ((c : Thread Cert.SbIdeal.nD Cert.SbIdeal.τ).loc Cert.SbIdeal.main_arg5), fun c => m ((c : Thread Cert.SbIdeal.nD Cert.SbIdeal.τ).loc Cert.SbIdeal.main_arg6), ?_, ?_⟩
  · refine (θ_run Cert.SbIdeal.defs _ _).mono (fun r h c => ?_) (Cert.SbIdeal.Value.run_blocks (F := Ideal) m g)
    obtain ⟨h0, h1, h2, h3, h4, h5, h6, hk⟩ := h c
    exact ⟨h0.trans (Cert.SbIdeal.Stick.arr10 m c (hA c)), h1.trans (Cert.SbIdeal.Stick.cast11 m c), h2.trans (Cert.SbIdeal.Stick.cast12 m c),
      h3.trans (Cert.SbIdeal.Stick.cast13 m c), h4.trans (Cert.SbIdeal.Stick.cast14 m c), h5.trans (Cert.SbIdeal.Stick.cast15 m c),
      h6.trans (Cert.SbIdeal.Stick.cast16 m c), hk⟩
  · refine (θ_run Cert.SbRefIdeal.defs _ _).mono (fun r h c => ?_) (Cert.SbRefIdeal.Value.run (F := Ideal) m' g')
    obtain ⟨h0, h1, h2, h3, h4, h5, h6, hk⟩ := h c
    obtain ⟨e0, e1, e2, e3, e4, e5, e6⟩ := hargs c
    refine ⟨h0.trans ?_, h1.trans e1, h2.trans e2, h3.trans e3, h4.trans e4, h5.trans e5, h6.trans e6, hk⟩
    rw [Cert.SbRefIdeal.Stick.res_eq]
    exact (congrArg Cert.SbRefIdeal.Stick.result e0).trans (Cert.SbRefIdeal.Stick.result_eq _ (hA c))

end Cert.Proof.SbClaims

end
-- ==== Proof.FfnBody.lean ====
/- The feed-forward kernel's body, run case by case over the executor: what a point needs and what it leaves. -/
module

public import proofs.«01_k».proof.Proof.Gen.FfnIdeal.Frame
public import proofs.«01_k».proof.Proof.Gen.FfnIdeal.Skeleton
public import Idealize.ShloMosaic.Lib.Transfers

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources, with the counters that transfers take their tokens from. -/
local notation "𝕄" => MT nD τ sig Unit (Elt F) ℕ (Pipeline.UD sig nD τ) ℕ

/-- The normalized rows, kept between points. -/
abbrev uM : Memref sig .tc .vmem S1024x2048 .bf16 := Memref.whole cc0_scratch0
/-- The last columns of the two first weights and the last rows of the third. -/
abbrev gM : Memref sig .tc .vmem S2048x384 .bf16 := Memref.whole cc0_scratch1
abbrev wM : Memref sig .tc .vmem S2048x384 .bf16 := Memref.whole cc0_scratch2
abbrev dM : Memref sig .tc .vmem S384x2048 .bf16 := Memref.whole cc0_scratch3
theorem hU : uM.IsWhole := Memref.isWhole_whole _
theorem hG : gM.IsWhole := Memref.isWhole_whole _
theorem hW : wM.IsWhole := Memref.isWhole_whole _
theorem hD : dM.IsWhole := Memref.isWhole_whole _
/-- The weights as the body's own copies read them. -/
abbrev gH : Memref sig .tc .hbm S2048x5504 .bf16 := Memref.whole main_v5
abbrev wH : Memref sig .tc .hbm S2048x5504 .bf16 := Memref.whole main_v6
abbrev dH : Memref sig .tc .hbm S5504x2048 .bf16 := Memref.whole main_v7

/-- A buffer's contents, and the buffer held whole at them. -/
abbrev Held (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Held (F := F) c M) : sProp 𝕄 :=
  M.view.loc (c : Thread nD τ) ↦{fullShare} f

/-- The ends of the weights, as the copies read them. -/
abbrev gS : Memref sig .tc .hbm S2048x384 .bf16 := gH.slice (Rect.unit (s := S2048x5504) ![0, 5120] S2048x384.size inb_S2048x5504_S2048x384_0_5120) (fun _ => rfl)
abbrev wS : Memref sig .tc .hbm S2048x384 .bf16 := wH.slice (Rect.unit (s := S2048x5504) ![0, 5120] S2048x384.size inb_S2048x5504_S2048x384_0_5120) (fun _ => rfl)
abbrev dS : Memref sig .tc .hbm S384x2048 .bf16 := dH.slice (Rect.unit (s := S5504x2048) ![5120, 0] S384x2048.size inb_S5504x2048_S384x2048_5120_0) (fun _ => rfl)
/-- What those parts hold. -/
abbrev gEnd {c : Dev nD} (f : Held (F := F) c gH) : Vec F S2048x384 .bf16 := ReadAs.same.apply (gS.view.read (Elt F) f)
abbrev wEnd {c : Dev nD} (f : Held (F := F) c wH) : Vec F S2048x384 .bf16 := ReadAs.same.apply (wS.view.read (Elt F) f)
abbrev dEnd {c : Dev nD} (f : Held (F := F) c dH) : Vec F S384x2048 .bf16 := ReadAs.same.apply (dS.view.read (Elt F) f)

/-- A whole buffer written all over holds what was written. -/
theorem landed {sp : Space} {S : Shape} {e : EltTy} {M : Memref sig .tc sp S e} (h : M.IsWhole) (b : M.view.ty.Contents (Elt F)) (p : Vec F S e) :
    View.write (Elt F) M.view b p Finset.univ = h.unread p := h.eq_unread (View.read_write_univ _ _)

/-- Each of the three copies under way: its capability, and the part of its array that it does not read. -/
def flyG (c : Dev nD) (f : Held (F := F) c gH) : sProp 𝕄 :=
  iprop(Transfers.Flight countersEmb (c : Thread nD τ) (SemLoc.dma 12) () 49152
      iprop(pt c gM (hG.unread (gEnd f)) ∗ (gH.view.loc (c : Thread nD τ) ↦[gS.view.set]{fullShare} f))
    ∗ (gH.view.loc (c : Thread nD τ) ↦[Finset.univ \ gS.view.set]{fullShare} f))
def flyW (c : Dev nD) (f : Held (F := F) c wH) : sProp 𝕄 :=
  iprop(Transfers.Flight countersEmb (c : Thread nD τ) (SemLoc.dma 13) () 49152
      iprop(pt c wM (hW.unread (wEnd f)) ∗ (wH.view.loc (c : Thread nD τ) ↦[wS.view.set]{fullShare} f))
    ∗ (wH.view.loc (c : Thread nD τ) ↦[Finset.univ \ wS.view.set]{fullShare} f))
def flyD (c : Dev nD) (f : Held (F := F) c dH) : sProp 𝕄 :=
  iprop(Transfers.Flight countersEmb (c : Thread nD τ) (SemLoc.dma 14) () 49152
      iprop(pt c dM (hD.unread (dEnd f)) ∗ (dH.view.loc (c : Thread nD τ) ↦[dS.view.set]{fullShare} f))
    ∗ (dH.view.loc (c : Thread nD τ) ↦[Finset.univ \ dS.view.set]{fullShare} f))

/-- The conditions of the two branches that start and await the copies. -/
abbrev condStart (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
abbrev condWait (i : grid0.Coords) : BitVec 1 :=
  Scalar.cmpi .ne (Scalar.extui (Scalar.andi (Scalar.cmpi .eq (BitVec.ofNat 32 (i 0).val) 0#32) (Scalar.cmpi .eq (BitVec.ofNat 32 (i 1).val) 10#32)) : BitVec 32) 0#32

section Runs

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x2048 .bf16) (harg6 : arg6.IsWhole) (arg10 : Memref sig .tc .vmem S1x2048 .f32) (harg10 : arg10.IsWhole)
  (arg11 : Memref sig .tc .vmem S1024x2048 .f32) (harg11 : arg11.IsWhole)

/-- The body at these buffers. -/
abbrev body : Prog (TpuEff nD τ sig (Elt F) Λ₀ .tc) PUnit :=
  cc0_ffn (F := F) i arg2 harg2 arg3 harg3 arg4 harg4 arg5 harg5 arg6 harg6 gH (Memref.isWhole_whole _) wH (Memref.isWhole_whole _)
    dH (Memref.isWhole_whole _) arg10 harg10 arg11 harg11 uM (Memref.isWhole_whole _) gM (Memref.isWhole_whole _) wM (Memref.isWhole_whole _)
    dM (Memref.isWhole_whole _) cc0_scratch4

variable (x0 : Vec F S1024x2048 .f32) (x1 : Vec F S1x2048 .f32) (x2 x3 : Vec F S2048x512 .bf16) (x4 : Vec F S512x2048 .bf16)
  (x5 : Vec F S1x2048 .f32) (acc : Vec F S1024x2048 .f32) (u : Vec F S1024x2048 .bf16)

set_option maxHeartbeats 1600000 in
/-- A point in the middle of a row of the grid: one more block of columns is added to the sum. -/
def runMid (h1 : ¬ condStart i = 1#1) (h2 : ¬ condWait i = 1#1)
    (h3 : ¬ k0_cond3 i = 1#1) (h4 : k0_cond4 i = 1#1) (h5 : ¬ k0_cond5 i = 1#1) :
    { L : List (View.Piece (Elt F) S1024x2048 .f32) // ∀ (K : PUnit → sProp 𝕄),
      iprop(owns (c : Thread nD τ) arg4 fullShare x2 ∗ owns (c : Thread nD τ) arg5 fullShare x3
          ∗ owns (c : Thread nD τ) arg6 fullShare x4 ∗ owns (c : Thread nD τ) arg11 fullShare acc ∗ owns (c : Thread nD τ) uM fullShare u
          ∗ (iprop(owns (c : Thread nD τ) arg4 fullShare x2 ∗ owns (c : Thread nD τ) arg5 fullShare x3
              ∗ owns (c : Thread nD τ) arg6 fullShare x4
              ∗ (∃ f, arg11.view.loc (c : Thread nD τ) ↦[arg11.view.set]{fullShare} arg11.view.writes (Elt F) f L)
              ∗ owns (c : Thread nD τ) uM fullShare u) -∗ K ⟨⟩))
        ⊢ wp frame (wpE (defs₀ (F := F)) Variants.none c none) Set.univ
            (body i arg2 harg2 arg3 harg3 arg4 harg4 arg5 harg5 arg6 harg6 arg10 harg10 arg11 harg11) K } := by
  refine ⟨?_, fun K => ?run⟩
  case run =>
    unfold body
    simp only [cc0_ffn_eq_skeleton]; unfold cc0_ffn_skel
    unfold owns
    iintro ⟨⟨%f2, %hf2, H2⟩, ⟨%f3, %hf3, H3⟩, ⟨%f4, %hf4, H4⟩, ⟨%fa, %hfa, HA⟩, ⟨%fu, %hfu, HU⟩, Hk⟩
    obtain rfl := harg4.eq_unread hf2; obtain rfl := harg5.eq_unread hf3; obtain rfl := harg6.eq_unread hf4
    obtain rfl := harg11.eq_unread hfa; obtain rfl := hU.eq_unread hfu
    sl_exec (disch := first | sl_exact h1 | sl_exact h2 | sl_exact h3 | sl_exact h4 | sl_exact h5)
    sl_step
    iapply Hk
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]; · iexists _; iexact HA
    iexists _; isplitr; · ipureintro; exact hU.read_unread _
    iexact HU

set_option maxHeartbeats 800000 in
/-- The first point of all: the copies of the weights' ends start, then the first block as at every row's first point. -/
def runFirst (h1 : condStart i = 1#1) (h2 : ¬ condWait i = 1#1) (h3 : k0_cond3 i = 1#1) (h4 : ¬ k0_cond4 i = 1#1) (h5 : ¬ k0_cond5 i = 1#1)
    (fg : Held (F := F) c gH) (fw : Held (F := F) c wH) (fd : Held (F := F) c dH) :
    Σ' (LU : List (View.Piece (Elt F) S1024x2048 .bf16)), { L : List (View.Piece (Elt F) S1024x2048 .f32) // ∀ (W : Waits sig Unit) (K : PUnit → sProp 𝕄),
      iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ (∃ d, owns (c : Thread nD τ) arg11 fullShare d) ∗ (∃ d, owns (c : Thread nD τ) uM fullShare d)
          ∗ (∃ f, pt c gM f) ∗ (∃ f, pt c wM f) ∗ (∃ f, pt c dM f)
          ∗ semVal ((c : Thread nD τ), SemLoc.dma 12) 0 ∗ semVal ((c : Thread nD τ), SemLoc.dma 13) 0 ∗ semVal ((c : Thread nD τ), SemLoc.dma 14) 0
          ∗ pt c gH fg ∗ pt c wH fw ∗ pt c dH fd ∗ owes (c : Thread nD τ) 0 W
          ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4
              ∗ (∃ f, arg11.view.loc (c : Thread nD τ) ↦[arg11.view.set]{fullShare} arg11.view.writes (Elt F) f L)
              ∗ (∃ f, uM.view.loc (c : Thread nD τ) ↦[uM.view.set]{fullShare} uM.view.writes (Elt F) f LU)
              ∗ flyG c fg ∗ flyW c fw ∗ flyD c fd ∗ (∃ W', owes (c : Thread nD τ) 0 W')) -∗ K ⟨⟩))
        ⊢ wp frame (wpE (defs₀ (F := F)) Variants.none c none) Set.univ
            (body i arg2 harg2 arg3 harg3 arg4 harg4 arg5 harg5 arg6 harg6 arg10 harg10 arg11 harg11) K } := by
  refine ⟨?_, ?_, fun W K => ?run⟩
  case run =>
    unfold body
    simp only [cc0_ffn_eq_skeleton]; unfold cc0_ffn_skel
    simp only [k0_part1_eq_skeleton]; unfold k0_part1_skel
    unfold owns flyG flyW flyD
    iintro ⟨⟨%f0, %hf0, H0⟩, ⟨%f1, %hf1, H1⟩, ⟨%f2, %hf2, H2⟩, ⟨%f3, %hf3, H3⟩, ⟨%f4, %hf4, H4⟩, ⟨%da, %fa, -, HA⟩, ⟨%du, %fu, -, HU⟩, ⟨%s1, HG⟩, ⟨%s2, HW⟩, ⟨%s3, HD⟩,
      Hc0, Hc1, Hc2, Hg, Hw, Hd, HO, Hk⟩
    obtain rfl := harg2.eq_unread hf0; obtain rfl := harg3.eq_unread hf1
    obtain rfl := harg4.eq_unread hf2; obtain rfl := harg5.eq_unread hf3; obtain rfl := harg6.eq_unread hf4
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]; · iexists _; iexact HA
    isplitl [HU]; · iexists _; iexact HU
    isplitl [Hc0 Hg]
    · isplitl [Hc0]; · rw [← landed hG s1 (gEnd fg)]; iexact Hc0
      iexact Hg
    isplitl [Hc1 Hw]
    · isplitl [Hc1]; · rw [← landed hW s2 (wEnd fw)]; iexact Hc1
      iexact Hw
    isplitl [Hc2 Hd]
    · isplitl [Hc2]; · rw [← landed hD s3 (dEnd fd)]; iexact Hc2
      iexact Hd
    iexists _; iexact HO

set_option maxHeartbeats 800000 in
/-- The first point of any other row: the rows are normalized and the first block is stored. -/
def runStart (h1 : ¬ condStart i = 1#1) (h2 : ¬ condWait i = 1#1) (h3 : k0_cond3 i = 1#1) (h4 : ¬ k0_cond4 i = 1#1) (h5 : ¬ k0_cond5 i = 1#1) :
    Σ' (LU : List (View.Piece (Elt F) S1024x2048 .bf16)), { L : List (View.Piece (Elt F) S1024x2048 .f32) // ∀ (K : PUnit → sProp 𝕄),
      iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ (∃ d, owns (c : Thread nD τ) arg11 fullShare d) ∗ (∃ d, owns (c : Thread nD τ) uM fullShare d)
          ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare x4
              ∗ (∃ f, arg11.view.loc (c : Thread nD τ) ↦[arg11.view.set]{fullShare} arg11.view.writes (Elt F) f L)
              ∗ (∃ f, uM.view.loc (c : Thread nD τ) ↦[uM.view.set]{fullShare} uM.view.writes (Elt F) f LU)) -∗ K ⟨⟩))
        ⊢ wp frame (wpE (defs₀ (F := F)) Variants.none c none) Set.univ
            (body i arg2 harg2 arg3 harg3 arg4 harg4 arg5 harg5 arg6 harg6 arg10 harg10 arg11 harg11) K } := by
  refine ⟨?_, ?_, fun K => ?run⟩
  case run =>
    unfold body
    simp only [cc0_ffn_eq_skeleton]; unfold cc0_ffn_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%da, %fa, -, HA⟩, ⟨%du, %fu, -, HU⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HA]; · iexists _; iexact HA
    iexists _; iexact HU

set_option maxHeartbeats 800000 in
/-- The last point of the first row: the copies are awaited, the last block is added, and the sum is normalized. -/
def runLand (h1 : ¬ condStart i = 1#1) (h2 : condWait i = 1#1) (h3 : ¬ k0_cond3 i = 1#1) (h4 : ¬ k0_cond4 i = 1#1) (h5 : k0_cond5 i = 1#1)
    (fg : Held (F := F) c gH) (fw : Held (F := F) c wH) (fd : Held (F := F) c dH) :
    { L : List (View.Piece (Elt F) S1024x2048 .f32) // ∀ (W : Waits sig Unit) (K : PUnit → sProp 𝕄),
      iprop(owns (c : Thread nD τ) arg2 fullShare x0 ∗ owns (c : Thread nD τ) arg10 fullShare x5
          ∗ owns (c : Thread nD τ) arg11 fullShare acc ∗ owns (c : Thread nD τ) uM fullShare u
          ∗ flyG c fg ∗ flyW c fw ∗ flyD c fd ∗ owes (c : Thread nD τ) 0 W
          ∗ (iprop(owns (c : Thread nD τ) arg2 fullShare x0 ∗ owns (c : Thread nD τ) arg10 fullShare x5
              ∗ (∃ f, arg11.view.loc (c : Thread nD τ) ↦[arg11.view.set]{fullShare} arg11.view.writes (Elt F) f L)
              ∗ owns (c : Thread nD τ) uM fullShare u
              ∗ pt c gM (hG.unread (gEnd fg)) ∗ pt c wM (hW.unread (wEnd fw)) ∗ pt c dM (hD.unread (dEnd fd))
              ∗ semVal ((c : Thread nD τ), SemLoc.dma 12) 0 ∗ semVal ((c : Thread nD τ), SemLoc.dma 13) 0 ∗ semVal ((c : Thread nD τ), SemLoc.dma 14) 0
              ∗ pt c gH fg ∗ pt c wH fw ∗ pt c dH fd ∗ (∃ W', owes (c : Thread nD τ) 0 W')) -∗ K ⟨⟩))
        ⊢ wp frame (wpE (defs₀ (F := F)) Variants.none c none) Set.univ
            (body i arg2 harg2 arg3 harg3 arg4 harg4 arg5 harg5 arg6 harg6 arg10 harg10 arg11 harg11) K } := by
  refine ⟨?_, fun W K => ?run⟩
  case run =>
    unfold body
    simp only [cc0_ffn_eq_skeleton]; unfold cc0_ffn_skel
    simp only [k0_part2_eq_skeleton]; unfold k0_part2_skel
    unfold owns flyG flyW flyD
    iintro ⟨⟨%f0, %hf0, H0⟩, ⟨%f5, %hf5, H5⟩, ⟨%fa, %hfa, HA⟩, ⟨%fu, %hfu, HU⟩, ⟨Hc0, Hg⟩, ⟨Hc1, Hw⟩, ⟨Hc2, Hd⟩, HO, Hk⟩
    obtain rfl := harg2.eq_unread hf0; obtain rfl := harg10.eq_unread hf5
    obtain rfl := harg11.eq_unread hfa; obtain rfl := hU.eq_unread hfu
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H5]
    · iexists _; isplitr; · ipureintro; exact harg10.read_unread _
      iexact H5
    isplitl [HA]; · iexists _; iexact HA
    isplitl [HU]
    · iexists _; isplitr; · ipureintro; exact hU.read_unread _
      iexact HU
    isplitl [Hc0_dst]; · iexact Hc0_dst
    isplitl [Hc1_dst]; · iexact Hc1_dst
    isplitl [Hc2_dst]; · iexact Hc2_dst
    isplitl [Hc0]; · iexact Hc0
    isplitl [Hc1]; · iexact Hc1
    isplitl [Hc2]; · iexact Hc2
    isplitl [Hg]; · iexact Hg
    isplitl [Hw]; · iexact Hw
    isplitl [Hd]; · iexact Hd
    iexists _; iexact HO

set_option maxHeartbeats 800000 in
/-- The last point of any other row. -/
def runEnd (h1 : ¬ condStart i = 1#1) (h2 : ¬ condWait i = 1#1) (h3 : ¬ k0_cond3 i = 1#1) (h4 : ¬ k0_cond4 i = 1#1) (h5 : k0_cond5 i = 1#1)
    (eg ew : Vec F S2048x384 .bf16) (ed : Vec F S384x2048 .bf16) :
    { L : List (View.Piece (Elt F) S1024x2048 .f32) // ∀ (K : PUnit → sProp 𝕄),
      iprop(owns (c : Thread nD τ) arg2 fullShare x0 ∗ owns (c : Thread nD τ) arg10 fullShare x5
          ∗ owns (c : Thread nD τ) arg11 fullShare acc ∗ owns (c : Thread nD τ) uM fullShare u
          ∗ pt c gM (hG.unread eg) ∗ pt c wM (hW.unread ew) ∗ pt c dM (hD.unread ed)
          ∗ (iprop(owns (c : Thread nD τ) arg2 fullShare x0 ∗ owns (c : Thread nD τ) arg10 fullShare x5
              ∗ (∃ f, arg11.view.loc (c : Thread nD τ) ↦[arg11.view.set]{fullShare} arg11.view.writes (Elt F) f L)
              ∗ owns (c : Thread nD τ) uM fullShare u
              ∗ pt c gM (hG.unread eg) ∗ pt c wM (hW.unread ew) ∗ pt c dM (hD.unread ed)) -∗ K ⟨⟩))
        ⊢ wp frame (wpE (defs₀ (F := F)) Variants.none c none) Set.univ
            (body i arg2 harg2 arg3 harg3 arg4 harg4 arg5 harg5 arg6 harg6 arg10 harg10 arg11 harg11) K } := by
  refine ⟨?_, fun K => ?run⟩
  case run =>
    unfold body
    simp only [cc0_ffn_eq_skeleton]; unfold cc0_ffn_skel
    simp only [k0_part2_eq_skeleton]; unfold k0_part2_skel
    unfold owns
    iintro ⟨⟨%f0, %hf0, H0⟩, ⟨%f5, %hf5, H5⟩, ⟨%fa, %hfa, HA⟩, ⟨%fu, %hfu, HU⟩, HG, HW, HD, Hk⟩
    obtain rfl := harg2.eq_unread hf0; obtain rfl := harg10.eq_unread hf5
    obtain rfl := harg11.eq_unread hfa; obtain rfl := hU.eq_unread hfu
    sl_exec (disch := first | sl_exact h1 | sl_exact h2 | sl_exact h3 | sl_exact h4 | sl_exact h5)
    sl_step
    iapply Hk
    isplitl [H0]
    · iexists _; isplitr; · ipureintro; exact harg2.read_unread _
      iexact H0
    isplitl [H5]
    · iexists _; isplitr; · ipureintro; exact harg10.read_unread _
      iexact H5
    isplitl [HA]; · iexists _; iexact HA
    isplitl [HU]
    · iexists _; isplitr; · ipureintro; exact hU.read_unread _
      iexact HU
    isplitl [HG]; · iexact HG
    isplitl [HW]; · iexact HW
    iexact HD

end Runs

end Cert.FfnIdeal.Body

end
-- ==== Proof.FfnStep.lean ====
/- What each case of the feed-forward kernel's body leaves, as a function of what it read: no buffer is named. -/
module

public import proofs.«01_k».proof.Proof.FfnBody
public import Idealize.ShloMosaic.Lib.Pointwise
public import Idealize.ShloMosaic.Lib.Pipeline.ValueKit

@[expose] public section

set_option maxRecDepth 16384

noncomputable section

namespace Cert.FfnIdeal.Body

open Cert.FfnIdeal Cert.FfnIdeal.Gen
open Idealize.ShloMosaic Idealize.ShloMosaic.TcCoe Idealize.ShloMosaic.Tactic

variable {F : FTy → Type} [FloatOps F]

/-- The two halves of a block of rows, which the body works through in turn. -/
abbrev top : Rect S1024x2048 := Rect.unit ![0, 0] ![512, 2048] inb_S1024x2048_S512x2048_0_0
abbrev bot : Rect S1024x2048 := Rect.unit ![512, 0] ![512, 2048] inb_S1024x2048_S512x2048_512_0

/-- A load of a whole buffer reads its contents. -/
theorem ld_row (x : Vec F S1x2048 .f32) : View.ld x (Rect.unit ![0, 0] ![1, 2048] inb_S1x2048_S1x2048_0_0) = x := View.ld_unit_lit (S := S1x2048) _ _ (by decide)
theorem ld_cols (x : Vec F S2048x512 .bf16) : View.ld x (Rect.unit ![0, 0] ![2048, 512] inb_S2048x512_S2048x512_0_0) = x :=
  View.ld_unit_lit (S := S2048x512) _ _ (by decide)
theorem ld_rows (x : Vec F S512x2048 .bf16) : View.ld x (Rect.unit ![0, 0] ![512, 2048] inb_S512x2048_S512x2048_0_0) = x :=
  View.ld_unit_lit (S := S512x2048) _ _ (by decide)
theorem ld_endCols (x : Vec F S2048x384 .bf16) : View.ld x (Rect.unit ![0, 0] ![2048, 384] inb_S2048x384_S2048x384_0_0) = x :=
  View.ld_unit_lit (S := S2048x384) _ _ (by decide)
theorem ld_endRows (x : Vec F S384x2048 .bf16) : View.ld x (Rect.unit ![0, 0] ![384, 2048] inb_S384x2048_S384x2048_0_0) = x :=
  View.ld_unit_lit (S := S384x2048) _ _ (by decide)
theorem ld_block {e : EltTy} (x : Vec F S1024x2048 e) : View.ld x (Rect.unit ![0, 0] ![1024, 2048] inb_S1024x2048_S1024x2048_0_0) = x :=
  View.ld_unit_lit (S := S1024x2048) _ _ (by decide)
theorem read_u (x : Vec F S1024x2048 .bf16) : View.read (Elt F) (View.whole cc0_scratch0) (hU.unread x) = x := hU.read_unread x
theorem read_g (x : Vec F S2048x384 .bf16) : View.read (Elt F) (View.whole cc0_scratch1) (hG.unread x) = x := hG.read_unread x
theorem read_w (x : Vec F S2048x384 .bf16) : View.read (Elt F) (View.whole cc0_scratch2) (hW.unread x) = x := hW.read_unread x
theorem read_d (x : Vec F S384x2048 .bf16) : View.read (Elt F) (View.whole cc0_scratch3) (hD.unread x) = x := hD.read_unread x

section Steps

variable (x0 : Vec F S1024x2048 .f32) (x1 : Vec F S1x2048 .f32) (x2 x3 : Vec F S2048x512 .bf16) (x4 : Vec F S512x2048 .bf16)
  (x5 : Vec F S1x2048 .f32) (acc : Vec F S1024x2048 .f32) (u : Vec F S1024x2048 .bf16) (eg ew : Vec F S2048x384 .bf16) (ed : Vec F S384x2048 .bf16)

/-- The normalized rows that a row's first point keeps. -/
def startU : Vec F S1024x2048 .bf16 := View.canon [⟨bot, k0_pay2 (View.ld x0 bot) x1⟩, ⟨top, k0_pay7 (View.ld x0 top) x1⟩]
/-- The sum after a row's first point, -/
def startOut : Vec F S1024x2048 .f32 :=
  View.canon [⟨bot, k0_pay3 (View.ld x0 bot) x1 x2 x3 x4⟩, ⟨top, k0_pay8 (View.ld x0 top) x1 x2 x3 x4⟩]
/-- after a point in the middle, -/
def midOut : Vec F S1024x2048 .f32 := k0_pay4 u x2 x3 x4 acc
/-- and the rows that the last point of a row leaves. -/
def endOut : Vec F S1024x2048 .f32 :=
  View.canon [⟨bot, k0_pay5 (View.ld u bot) eg ew ed (View.ld acc bot) (View.ld x0 bot) x5⟩,
    ⟨top, k0_pay9 (View.ld u top) eg ew ed (View.ld acc top) (View.ld x0 top) x5⟩]

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S512x2048 .bf16) (harg6 : arg6.IsWhole) (arg10 : Memref sig .tc .vmem S1x2048 .f32) (harg10 : arg10.IsWhole)
  (arg11 : Memref sig .tc .vmem S1024x2048 .f32) (harg11 : arg11.IsWhole)

/-- A point in the middle leaves the sum with one more block. -/
theorem mid_reads (h1 : ¬ condStart i = 1#1) (h2 : ¬ condWait i = 1#1)
    (h3 : ¬ k0_cond3 i = 1#1) (h4 : k0_cond4 i = 1#1) (h5 : ¬ k0_cond5 i = 1#1) (f) :
    arg11.view.read (Elt F) (arg11.view.writes (Elt F) f
      (runMid c i arg2 harg2 arg3 harg3 arg4 harg4 arg5 harg5 arg6 harg6 arg10 harg10 arg11 harg11 x2 x3 x4 acc u h1 h2 h3 h4 h5).1)
      = midOut x2 x3 x4 acc u := by
  rw [View.read_writes_eq_canon _ _ _ fun y => View.cover_of_tiledL _ S1024x2048.size (by sl_kernel_rfl) y]
  unfold runMid midOut; dsimp only
  rw [View.canon_unit_zero (by decide)]
  simp only [View.readAt_eq_ld, Memref.IsWhole.read_unread, ld_row, ld_cols, ld_rows, ld_endCols, ld_endRows, ld_block, read_u, read_g, read_w, read_d]

/-- The first point of a row leaves the first block's sum and the normalized rows, -/
theorem start_reads (h1 : ¬ condStart i = 1#1) (h2 : ¬ condWait i = 1#1) (h3 : k0_cond3 i = 1#1) (h4 : ¬ k0_cond4 i = 1#1) (h5 : ¬ k0_cond5 i = 1#1) :
    (∀ f, arg11.view.read (Elt F) (arg11.view.writes (Elt F) f
      (runStart c i arg2 harg2 arg3 harg3 arg4 harg4 arg5 harg5 arg6 harg6 arg10 harg10 arg11 harg11 x0 x1 x2 x3 x4 h1 h2 h3 h4 h5).2.1)
      = startOut x0 x1 x2 x3 x4)
    ∧ ∀ f, uM.view.read (Elt F) (uM.view.writes (Elt F) f
      (runStart c i arg2 harg2 arg3 harg3 arg4 harg4 arg5 harg5 arg6 harg6 arg10 harg10 arg11 harg11 x0 x1 x2 x3 x4 h1 h2 h3 h4 h5).1)
      = startU x0 x1 := by
  constructor <;> intro f
  · rw [View.read_writes_eq_canon _ _ _ fun y => View.cover_of_tiledL _ ![512, 2048] (by sl_kernel_rfl) y]
    unfold runStart startOut; dsimp only
    simp only [View.readAt_eq_ld, Memref.IsWhole.read_unread, ld_row, ld_cols, ld_rows, ld_endCols, ld_endRows, ld_block, read_u, read_g, read_w, read_d]
  · rw [View.read_writes_eq_canon _ _ _ fun y => View.cover_of_tiledL _ ![512, 2048] (by sl_kernel_rfl) y]
    unfold runStart startU; dsimp only
    simp only [View.readAt_eq_ld, Memref.IsWhole.read_unread, ld_row, ld_cols, ld_rows, ld_endCols, ld_endRows, ld_block, read_u, read_g, read_w, read_d]

/-- and so does the first point of all. -/
theorem first_reads (h1 : condStart i = 1#1) (h2 : ¬ condWait i = 1#1) (h3 : k0_cond3 i = 1#1) (h4 : ¬ k0_cond4 i = 1#1) (h5 : ¬ k0_cond5 i = 1#1)
    (fg : Held (F := F) c gH) (fw : Held (F := F) c wH) (fd : Held (F := F) c dH) :
    (∀ f, arg11.view.read (Elt F) (arg11.view.writes (Elt F) f
      (runFirst c i arg2 harg2 arg3 harg3 arg4 harg4 arg5 harg5 arg6 harg6 arg10 harg10 arg11 harg11 x0 x1 x2 x3 x4 h1 h2 h3 h4 h5 fg fw fd).2.1)
      = startOut x0 x1 x2 x3 x4)
    ∧ ∀ f, uM.view.read (Elt F) (uM.view.writes (Elt F) f
      (runFirst c i arg2 harg2 arg3 harg3 arg4 harg4 arg5 harg5 arg6 harg6 arg10 harg10 arg11 harg11 x0 x1 x2 x3 x4 h1 h2 h3 h4 h5 fg fw fd).1)
      = startU x0 x1 := by
  constructor <;> intro f
  · rw [View.read_writes_eq_canon _ _ _ fun y => View.cover_of_tiledL _ ![512, 2048] (by sl_kernel_rfl) y]
    unfold runFirst startOut; dsimp only
    simp only [View.readAt_eq_ld, Memref.IsWhole.read_unread, ld_row, ld_cols, ld_rows, ld_endCols, ld_endRows, ld_block, read_u, read_g, read_w, read_d]
  · rw [View.read_writes_eq_canon _ _ _ fun y => View.cover_of_tiledL _ ![512, 2048] (by sl_kernel_rfl) y]
    unfold runFirst startU; dsimp only
    simp only [View.readAt_eq_ld, Memref.IsWhole.read_unread, ld_row, ld_cols, ld_rows, ld_endCols, ld_endRows, ld_block, read_u, read_g, read_w, read_d]

/-- The last point of a row leaves the finished rows, whether the copies land at it -/
theorem land_reads (h1 : ¬ condStart i = 1#1) (h2 : condWait i = 1#1) (h3 : ¬ k0_cond3 i = 1#1) (h4 : ¬ k0_cond4 i = 1#1) (h5 : k0_cond5 i = 1#1)
    (fg : Held (F := F) c gH) (fw : Held (F := F) c wH) (fd : Held (F := F) c dH) (f) :
    arg11.view.read (Elt F) (arg11.view.writes (Elt F) f
      (runLand c i arg2 harg2 arg3 harg3 arg4 harg4 arg5 harg5 arg6 harg6 arg10 harg10 arg11 harg11 x0 x5 acc u h1 h2 h3 h4 h5 fg fw fd).1)
      = endOut x0 x5 acc u (gEnd fg) (wEnd fw) (dEnd fd) := by
  rw [View.read_writes_eq_canon _ _ _ fun y => View.cover_of_tiledL _ ![512, 2048] (by sl_kernel_rfl) y]
  unfold runLand endOut; dsimp only; unfold runLand.sl.v65
  simp only [View.readAt_eq_ld, Memref.IsWhole.read_unread, ld_row, ld_cols, ld_rows, ld_endCols, ld_endRows, ld_block, read_u, read_g, read_w, read_d]

/-- or landed before. -/
theorem end_reads (h1 : ¬ condStart i = 1#1) (h2 : ¬ condWait i = 1#1) (h3 : ¬ k0_cond3 i = 1#1) (h4 : ¬ k0_cond4 i = 1#1) (h5 : k0_cond5 i = 1#1) (f) :
    arg11.view.read (Elt F) (arg11.view.writes (Elt F) f
      (runEnd c i arg2 harg2 arg3 harg3 arg4 harg4 arg5 harg5 arg6 harg6 arg10 harg10 arg11 harg11 x0 x5 acc u h1 h2 h3 h4 h5 eg ew ed).1)
      = endOut x0 x5 acc u eg ew ed := by
  rw [View.read_writes_eq_canon _ _ _ fun y => View.cover_of_tiledL _ ![512, 2048] (by sl_kernel_rfl) y]
  unfold runEnd endOut; dsimp only; unfold runEnd.sl.v65
  simp only [View.readAt_eq_ld, Memref.IsWhole.read_unread, ld_row, ld_cols, ld_rows, ld_endCols, ld_endRows, ld_block, read_u, read_g, read_w, read_d]

end Steps

end Cert.FfnIdeal.Body

end
-- ==== Proof.FfnData.lean ====
/- The feed-forward kernel's run as the pipeline sees it: what its sum and its kept rows hold after each point, and where
   the ends of the weights are between the points — untouched, on their way, or landed. -/
module

public import proofs.«01_k».proof.Proof.FfnStep

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resources, with the counters that transfers take their tokens from. -/
local notation "𝕄" => MT nD τ sig Unit (Elt F) ℕ (Pipeline.UD sig nD τ) ℕ

variable (m : (ℓ : Loc nD τ sig) → Buf (Elt F) ℓ) (ρ : Dev nD → PrngReg)

/-! ## What the body reads at a point -/

abbrev xBlk (c : Dev nD) (t : Fin cfg0.N) : Vec F S1024x2048 .f32 := iblk m c 0 t
abbrev preBlk (c : Dev nD) (t : Fin cfg0.N) : Vec F S1x2048 .f32 := iblk m c 1 t
abbrev gBlk (c : Dev nD) (t : Fin cfg0.N) : Vec F S2048x512 .bf16 := X0_2 m c t
abbrev wBlk (c : Dev nD) (t : Fin cfg0.N) : Vec F S2048x512 .bf16 := X0_3 m c t
abbrev dBlk (c : Dev nD) (t : Fin cfg0.N) : Vec F S512x2048 .bf16 := X0_4 m c t
abbrev postBlk (c : Dev nD) (t : Fin cfg0.N) : Vec F S1x2048 .f32 := iblk m c 5 t
/-- The weights that the copies read, and the ends that they land. -/
abbrev gA (c : Dev nD) : Held (F := F) c gH := V m c main_v5
abbrev wA (c : Dev nD) : Held (F := F) c wH := V m c main_v6
abbrev dA (c : Dev nD) : Held (F := F) c dH := V m c main_v7

/-! ## The sum and the kept rows, point by point -/

/-- What a row's first point leaves. -/
def startAt (c : Dev nD) (t : Fin cfg0.N) : Vec F S1024x2048 .f32 × Vec F S1024x2048 .bf16 :=
  (startOut (xBlk m c t) (preBlk m c t) (gBlk m c t) (wBlk m c t) (dBlk m c t), startU (xBlk m c t) (preBlk m c t))

/-- The sum and the kept rows after the point `n`. -/
def stateAt (c : Dev nD) : (n : ℕ) → n < cfg0.N → Vec F S1024x2048 .f32 × Vec F S1024x2048 .bf16
  | 0, h => startAt m c ⟨0, h⟩
  | n + 1, h =>
    if (n + 1) % 11 = 0 then startAt m c ⟨n + 1, h⟩
    else if (n + 1) % 11 = 10 then
      (endOut (xBlk m c ⟨n + 1, h⟩) (postBlk m c ⟨n + 1, h⟩) (stateAt c n (by omega)).1 (stateAt c n (by omega)).2
        (gEnd (gA m c)) (wEnd (wA m c)) (dEnd (dA m c)), (stateAt c n (by omega)).2)
    else (midOut (gBlk m c ⟨n + 1, h⟩) (wBlk m c ⟨n + 1, h⟩) (dBlk m c ⟨n + 1, h⟩) (stateAt c n (by omega)).1 (stateAt c n (by omega)).2,
      (stateAt c n (by omega)).2)

theorem state_start (c : Dev nD) (t : Fin cfg0.N) (h : t.val % 11 = 0) : stateAt m c t.val t.isLt = startAt m c t := by
  obtain ⟨n, hn⟩ := t
  cases n with
  | zero => rfl
  | succ n => exact if_pos h

/-- The state at the point before. -/
abbrev prevAt (c : Dev nD) (t : Fin cfg0.N) : Vec F S1024x2048 .f32 × Vec F S1024x2048 .bf16 :=
  stateAt m c (t.val - 1) (Nat.lt_of_le_of_lt (Nat.sub_le _ _) t.isLt)

theorem state_end (c : Dev nD) (t : Fin cfg0.N) (h : t.val % 11 = 10) : stateAt m c t.val t.isLt =
    (endOut (xBlk m c t) (postBlk m c t) (prevAt m c t).1 (prevAt m c t).2 (gEnd (gA m c)) (wEnd (wA m c)) (dEnd (dA m c)), (prevAt m c t).2) := by
  obtain ⟨n, hn⟩ := t
  cases n with
  | zero => exact absurd h (by simp)
  | succ n => exact (if_neg (by dsimp only at h; omega)).trans (if_pos h)

theorem state_mid (c : Dev nD) (t : Fin cfg0.N) (h0 : t.val % 11 ≠ 0) (h1 : t.val % 11 ≠ 10) : stateAt m c t.val t.isLt =
    (midOut (gBlk m c t) (wBlk m c t) (dBlk m c t) (prevAt m c t).1 (prevAt m c t).2, (prevAt m c t).2) := by
  obtain ⟨n, hn⟩ := t
  cases n with
  | zero => exact absurd rfl h0
  | succ n => exact (if_neg h0).trans (if_neg h1)

/-! ## What is held between points -/

/-- The three counters of the copies. -/
abbrev osem0 : Fin 3 → SemLoc sig := fun j => (![SemLoc.dma 12, SemLoc.dma 13, SemLoc.dma 14] : Fin 3 → SemLoc sig) j
theorem ownSemFacts0 : Pipeline.OwnSemFacts spec0 osem0 := by decide
theorem ownSems_open (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2] (by decide) (by decide)]; rfl
/-- The arrays that the copies read. -/
def H0 : Finset (Ref sig .tc) := {main_v5, main_v6, main_v7}
theorem H0_sub : H0 ⊆ Pipeline.restRefs sig spec0 := by decide
theorem H0_open (c : Dev nD) :
    (bigSep H0 (fun b => ((c : Thread nD τ).loc b) ↦{fullShare} V m c b) : sProp 𝕄) = iprop(pt c gH (gA m c) ∗ pt c wH (wA m c) ∗ pt c dH (dA m c)) := by
  rw [BI.bigSep_eq_bigSepL_of_eq [main_v5, main_v6, main_v7] (by decide) (by decide)]; rfl

/-- The copies' counters at zero and the arrays whole: nothing under way. -/
def idle (c : Dev nD) : sProp 𝕄 :=
  iprop(iprop(semVal ((c : Thread nD τ), SemLoc.dma 12) 0 ∗ semVal ((c : Thread nD τ), SemLoc.dma 13) 0 ∗ semVal ((c : Thread nD τ), SemLoc.dma 14) 0)
    ∗ iprop(pt c gH (gA m c) ∗ pt c wH (wA m c) ∗ pt c dH (dA m c)))

/-- Before the first point. -/
theorem phi_open (c : Dev nD) :
    (Pipeline.ΦD osem0 spec0 H0 (V m) c : sProp 𝕄)
      = iprop(iprop((∃ d, owns (c : Thread nD τ) uM fullShare d) ∗ (∃ f, pt c gM f) ∗ (∃ f, pt c wM f) ∗ (∃ f, pt c dM f))
          ∗ (∃ r, prngReg c r) ∗ idle m c) := by
  rw [Pipeline.ΦD_eq, scopedRest0_eq, ownSems_open, H0_open]
  unfold idle
  simp only [uM, owns_whole]; try rfl

/-- Where the ends of the weights are after the point `n`: under way until the last point of the first row awaits them. -/
def tail (c : Dev nD) (n : ℕ) : sProp 𝕄 :=
  if n < 10 then iprop(flyG c (gA m c) ∗ flyW c (wA m c) ∗ flyD c (dA m c))
  else iprop(iprop(pt c gM (hG.unread (gEnd (gA m c))) ∗ pt c wM (hW.unread (wEnd (wA m c))) ∗ pt c dM (hD.unread (dEnd (dA m c)))) ∗ idle m c)

theorem tail_fly (c : Dev nD) {n : ℕ} (h : n < 10) : tail m c n = iprop(flyG c (gA m c) ∗ flyW c (wA m c) ∗ flyD c (dA m c)) := if_pos h
theorem tail_landed (c : Dev nD) {n : ℕ} (h : ¬ n < 10) :
    tail m c n = iprop(iprop(pt c gM (hG.unread (gEnd (gA m c))) ∗ pt c wM (hW.unread (wEnd (wA m c))) ∗ pt c dM (hD.unread (dEnd (dA m c)))) ∗ idle m c) :=
  if_neg h

/-- What is held before the point `n`. -/
def PhiS (c : Dev nD) : (n : ℕ) → n ≤ cfg0.N → sProp 𝕄
  | 0, _ => Pipeline.ΦD osem0 spec0 H0 (V m) c
  | n + 1, h => iprop(owns (c : Thread nD τ) uM fullShare (stateAt m c n h).2 ∗ (∃ r, prngReg c r) ∗ tail m c n)

theorem PhiS_zero (c : Dev nD) (n : ℕ) (h : n ≤ cfg0.N) (hz : n = 0) : PhiS m c n h = Pipeline.ΦD osem0 spec0 H0 (V m) c := by subst hz; rfl
theorem PhiS_succ (c : Dev nD) (n : ℕ) (h : n < cfg0.N) :
    PhiS m c (n + 1) h = iprop(owns (c : Thread nD τ) uM fullShare (stateAt m c n h).2 ∗ (∃ r, prngReg c r) ∗ tail m c n) := rfl
theorem PhiS_pos (c : Dev nD) (t : Fin cfg0.N) (hz : t.val ≠ 0) :
    PhiS m c t.val (Nat.le_of_lt t.isLt)
      = iprop(owns (c : Thread nD τ) uM fullShare (prevAt m c t).2 ∗ (∃ r, prngReg c r) ∗ tail m c (t.val - 1)) := by
  obtain ⟨n, hn⟩ := t
  cases n with
  | zero => exact absurd rfl hz
  | succ n => rfl

/-- After the last point everything is as the region needs it back. -/
theorem PhiS_last (c : Dev nD) : PhiS m c cfg0.N (le_refl _) ⊢ Pipeline.ΦD osem0 spec0 H0 (V m) c := by
  rw [phi_open, show PhiS m c cfg0.N (le_refl _) = PhiS m c (175 + 1) (by decide) from rfl, PhiS_succ, tail_landed m c (by decide)]
  iintro ⟨HU, Hr, ⟨HG, HW, HD⟩, HI⟩
  isplitl [HU HG HW HD]
  · isplitl [HU]; · iexists _; iexact HU
    isplitl [HG]; · iexists _; iexact HG
    isplitl [HW]; · iexists _; iexact HW
    iexists _; iexact HD
  isplitl [Hr]; · iexact Hr
  iexact HI

/-! ## The proof data -/

/-- The proof data of the one pipeline: the arrays as the region finds them, each input left as it was, the sum. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => iblk m c 5 t
    | ⟨6, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (stateAt m c t.val t.isLt).1 := by dsimp only [dats]

/-- Each input's buffer holds its block at every point, fetched there or before. -/
theorem before0_0 (c : Dev nD) (t : Fin cfg0.N) (d) : (dats m 0 c).before 0 t d = xBlk m c t :=
  ((dats m 0 c).before_in_eq_fetched 0 rfl (fun _ => rfl) (fun _ _ _ => rfl) (fun t => by rw [after0_0]; unfold Dat.blockOf iblk; rw [A_eq]) t d).trans
    (by unfold Dat.fetched Dat.blockOf xBlk iblk; rw [A_eq]; try rfl)
theorem before0_1 (c : Dev nD) (t : Fin cfg0.N) (d) : (dats m 0 c).before 1 t d = preBlk m c t :=
  ((dats m 0 c).before_in_eq_fetched 1 rfl (fun _ => rfl) (fun _ _ _ => rfl) (fun t => by rw [after0_1]; unfold Dat.blockOf iblk; rw [A_eq]) t d).trans
    (by unfold Dat.fetched Dat.blockOf preBlk iblk; rw [A_eq]; try rfl)
theorem before0_5 (c : Dev nD) (t : Fin cfg0.N) (d) : (dats m 0 c).before 5 t d = postBlk m c t :=
  ((dats m 0 c).before_in_eq_fetched 5 rfl (fun _ => rfl) (fun _ _ _ => rfl) (fun t => by rw [after0_5]; unfold Dat.blockOf iblk; rw [A_eq]) t d).trans
    (by unfold Dat.fetched Dat.blockOf postBlk iblk; rw [A_eq]; try rfl)
theorem before0_2 (c : Dev nD) (t : Fin cfg0.N) (d) : (dats m 0 c).before 2 t d = gBlk m c t :=
  ((dats m 0 c).before_in_eq_fetched 2 rfl (fun _ => rfl)
    (fun t t' h => funext fun a => congrArg (fun n => Pipeline.Clip.of n ((cfg0.win 2).size a) (S2048x5504.size a)) (congrFun h a))
    (fun t => by rw [after0_2]; unfold X0_2; rw [Pipeline.Window.cut_fill]; unfold Dat.blockOf iblk; rw [A_eq]) t d).trans
    (by unfold Dat.fetched gBlk X0_2; rw [fill0_2 t d dflt0_2]; unfold Dat.blockOf iblk; rw [A_eq]; try rfl)
theorem before0_3 (c : Dev nD) (t : Fin cfg0.N) (d) : (dats m 0 c).before 3 t d = wBlk m c t :=
  ((dats m 0 c).before_in_eq_fetched 3 rfl (fun _ => rfl)
    (fun t t' h => funext fun a => congrArg (fun n => Pipeline.Clip.of n ((cfg0.win 3).size a) (S2048x5504.size a)) (congrFun h a))
    (fun t => by rw [after0_3]; unfold X0_3; rw [Pipeline.Window.cut_fill]; unfold Dat.blockOf iblk; rw [A_eq]) t d).trans
    (by unfold Dat.fetched wBlk X0_3; rw [fill0_3 t d dflt0_3]; unfold Dat.blockOf iblk; rw [A_eq]; try rfl)
theorem before0_4 (c : Dev nD) (t : Fin cfg0.N) (d) : (dats m 0 c).before 4 t d = dBlk m c t :=
  ((dats m 0 c).before_in_eq_fetched 4 rfl (fun _ => rfl)
    (fun t t' h => funext fun a => congrArg (fun n => Pipeline.Clip.of n ((cfg0.win 4).size a) (S5504x2048.size a)) (congrFun h a))
    (fun t => by rw [after0_4]; unfold X0_4; rw [Pipeline.Window.cut_fill]; unfold Dat.blockOf iblk; rw [A_eq]) t d).trans
    (by unfold Dat.fetched dBlk X0_4; rw [fill0_4 t d dflt0_4]; unfold Dat.blockOf iblk; rw [A_eq]; try rfl)
/-- Every point stores the result's buffer. -/
theorem live (i : grid0.Coords) : cfg0.idle 6 i = false := by
  revert i; decide +kernel
/-- Past a row's first point the result's buffer holds the sum so far. -/
theorem before0_6 (c : Dev nD) (t : Fin cfg0.N) (h : t.val % 11 ≠ 0) (d) : (dats m 0 c).before 6 t d = (prevAt m c t).1 := by
  rw [(dats m 0 c).before_out_kept 6 rfl t (fun h0 => h (by rw [h0])) (by
      rw [Bool.eq_false_iff, ne_eq, flush0_6]; dsimp only; omega) live (fun _ _ => rfl) d, after0_6]

end Cert.FfnIdeal.Body

end
-- ==== Proof.FfnFrame.lean ====
/- The feed-forward kernel's frame: its body at every point takes what is held before the point to what is held after it,
so the launch runs, leaves its arguments as they were, and leaves the result's array at the sums. -/
module

public import proofs.«01_k».proof.Proof.FfnData

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resources, with the counters that transfers take their tokens from. -/
local notation "𝕄" => MT nD τ sig Unit (Elt F) ℕ (Pipeline.UD sig nD τ) ℕ

variable (m : (ℓ : Loc nD τ sig) → Buf (Elt F) ℓ) (ρ : Dev nD → PrngReg)

/-! ## Which case a point is -/

theorem at_start : ∀ t : Fin cfg0.N, condStart (grid0.coords t) = 1#1 ↔ t.val = 0 := by decide +kernel
theorem at_wait : ∀ t : Fin cfg0.N, condWait (grid0.coords t) = 1#1 ↔ t.val = 10 := by decide +kernel
theorem at_first : ∀ t : Fin cfg0.N, k0_cond3 (grid0.coords t) = 1#1 ↔ t.val % 11 = 0 := by decide +kernel
theorem at_middle : ∀ t : Fin cfg0.N, k0_cond4 (grid0.coords t) = 1#1 ↔ t.val % 11 ≠ 0 ∧ t.val % 11 ≠ 10 := by decide +kernel
theorem at_last : ∀ t : Fin cfg0.N, k0_cond5 (grid0.coords t) = 1#1 ↔ t.val % 11 = 10 := by decide +kernel

/-! ## The body at a point -/

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body's triple at a point. -/
abbrev BodyAt (c : Dev nD) (t : Fin cfg0.N) : Prop :=
  bodyPre m c t ⊢ wp frame (wpE (defs₀ (F := F)) Variants.none c none) Set.univ (bodyAt0 t) (fun _ => bodyPost m c t)

/-- The first point of all: the copies start. -/
theorem body_first (c : Dev nD) (t : Fin cfg0.N) (h : t.val = 0) : BodyAt m c t := by
  unfold BodyAt bodyPre bodyPost
  simp only [before0_0, before0_1, before0_2, before0_3, before0_4, before0_5]
  rw [after0_0, after0_1, after0_2, after0_3, after0_4, after0_5, after0_6, PhiS_castSucc, Phi_succ, PhiS_succ, PhiS_zero m c _ _ h, phi_open, state_start m c t (by omega), tail_fly m c (by omega)]
  unfold Dat.owesAt Pipeline.owesWithin
  rw [show (dats m 0 c).owed t.castSucc = 0 from rfl, show (dats m 0 c).owed t.succ = 0 from rfl]
  unfold idle startAt bodyAt0; dsimp only
  iintro ⟨⟨⟨HU, HG, HW, HD⟩, Hr, ⟨⟨Hc0, Hc1, Hc2⟩, ⟨Hg, Hw, Hd⟩⟩⟩, ⟨%W, -, HO⟩, ⟨%d0, H0⟩, ⟨%d1, H1⟩, ⟨%d2, H2⟩, ⟨%d3, H3⟩, ⟨%d4, H4⟩, ⟨%d5, H5⟩, ⟨%d6, H6⟩⟩
  iapply ((runFirst c (grid0.coords t) (st0_0 t) _ (st0_1 t) _ (st0_2 t) _ (st0_3 t) _ (st0_4 t) _ (st0_5 t) _ (st0_6 t) _ (xBlk m c t) (preBlk m c t) (gBlk m c t) (wBlk m c t) (dBlk m c t)
    (by rw [at_start]; omega) (by rw [at_wait]; omega) (by rw [at_first]; omega) (by rw [at_middle]; omega) (by rw [at_last]; omega) (gA m c) (wA m c) (dA m c)).2.2 W _)
  isplitl [H0]; · iexact H0
  isplitl [H1]; · iexact H1
  isplitl [H2]; · iexact H2
  isplitl [H3]; · iexact H3
  isplitl [H4]; · iexact H4
  isplitl [H6]; · iexists _; iexact H6
  isplitl [HU]; · iexact HU
  isplitl [HG]; · iexact HG
  isplitl [HW]; · iexact HW
  isplitl [HD]; · iexact HD
  isplitl [Hc0]; · iexact Hc0
  isplitl [Hc1]; · iexact Hc1
  isplitl [Hc2]; · iexact Hc2
  isplitl [Hg]; · iexact Hg
  isplitl [Hw]; · iexact Hw
  isplitl [Hd]; · iexact Hd
  isplitl [HO]; · iexact HO
  iintro ⟨H0, H1, H2, H3, H4, ⟨%e6, H6⟩, ⟨%eu, HU⟩, HG, HW, HD, ⟨%W', HO⟩⟩
  isplitl [HU Hr HG HW HD]
  · isplitl [HU]
    · unfold owns; iexists _; isplitr
      swap; · iexact HU
      ipureintro; exact (first_reads ..).2 _
    isplitl [Hr]; · iexact Hr
    isplitl [HG]; · iexact HG
    isplitl [HW]; · iexact HW
    iexact HD
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact (first_reads ..).1 _

/-- The first point of any other row. -/
theorem body_start (c : Dev nD) (t : Fin cfg0.N) (h0 : t.val ≠ 0) (h : t.val % 11 = 0) : BodyAt m c t := by
  unfold BodyAt bodyPre bodyPost
  simp only [before0_0, before0_1, before0_2, before0_3, before0_4, before0_5]
  rw [after0_0, after0_1, after0_2, after0_3, after0_4, after0_5, after0_6, PhiS_castSucc, Phi_succ, PhiS_succ, PhiS_pos m c t h0, state_start m c t h, show tail m c t.val = tail m c (t.val - 1) from (tail_landed m c (by omega)).trans (tail_landed m c (by omega)).symm]
  unfold Dat.owesAt Pipeline.owesWithin
  rw [show (dats m 0 c).owed t.castSucc = 0 from rfl, show (dats m 0 c).owed t.succ = 0 from rfl]
  unfold startAt bodyAt0; dsimp only
  iintro ⟨⟨HU, Hr, HT⟩, ⟨%W, -, HO⟩, ⟨%d0, H0⟩, ⟨%d1, H1⟩, ⟨%d2, H2⟩, ⟨%d3, H3⟩, ⟨%d4, H4⟩, ⟨%d5, H5⟩, ⟨%d6, H6⟩⟩
  iapply ((runStart c (grid0.coords t) (st0_0 t) _ (st0_1 t) _ (st0_2 t) _ (st0_3 t) _ (st0_4 t) _ (st0_5 t) _ (st0_6 t) _ (xBlk m c t) (preBlk m c t) (gBlk m c t) (wBlk m c t) (dBlk m c t)
    (by rw [at_start]; omega) (by rw [at_wait]; omega) (by rw [at_first]; omega) (by rw [at_middle]; omega) (by rw [at_last]; omega)).2.2 _)
  isplitl [H0]; · iexact H0
  isplitl [H1]; · iexact H1
  isplitl [H2]; · iexact H2
  isplitl [H3]; · iexact H3
  isplitl [H4]; · iexact H4
  isplitl [H6]; · iexists _; iexact H6
  isplitl [HU]; · iexists _; iexact HU
  iintro ⟨H0, H1, H2, H3, H4, ⟨%e6, H6⟩, ⟨%eu, HU⟩⟩
  isplitl [HU Hr HT]
  · isplitl [HU]
    · unfold owns; iexists _; isplitr
      swap; · iexact HU
      ipureintro; exact (start_reads ..).2 _
    isplitl [Hr]; · iexact Hr
    iexact HT
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact (start_reads ..).1 _

/-- A point in the middle of a row. -/
theorem body_mid (c : Dev nD) (t : Fin cfg0.N) (h0 : t.val % 11 ≠ 0) (h1 : t.val % 11 ≠ 10) : BodyAt m c t := by
  have hz : t.val ≠ 0 := fun h => h0 (by rw [h])
  have ht : tail m c t.val = tail m c (t.val - 1) := by unfold tail; simp only [show t.val < 10 ↔ t.val - 1 < 10 by omega]
  unfold BodyAt bodyPre bodyPost
  simp only [before0_0, before0_1, before0_2, before0_3, before0_4, before0_5, before0_6 m c t h0]
  rw [after0_0, after0_1, after0_2, after0_3, after0_4, after0_5, after0_6, PhiS_castSucc, Phi_succ, PhiS_succ, PhiS_pos m c t hz, state_mid m c t h0 h1, ht]
  unfold Dat.owesAt Pipeline.owesWithin
  rw [show (dats m 0 c).owed t.castSucc = 0 from rfl, show (dats m 0 c).owed t.succ = 0 from rfl]
  unfold bodyAt0; dsimp only
  iintro ⟨⟨HU, Hr, HT⟩, ⟨%W, -, HO⟩, ⟨%d0, H0⟩, ⟨%d1, H1⟩, ⟨%d2, H2⟩, ⟨%d3, H3⟩, ⟨%d4, H4⟩, ⟨%d5, H5⟩, ⟨%d6, H6⟩⟩
  iapply ((runMid c (grid0.coords t) (st0_0 t) _ (st0_1 t) _ (st0_2 t) _ (st0_3 t) _ (st0_4 t) _ (st0_5 t) _ (st0_6 t) _ (gBlk m c t) (wBlk m c t) (dBlk m c t) (prevAt m c t).1 (prevAt m c t).2
    (by rw [at_start]; omega) (by rw [at_wait]; omega) (by rw [at_first]; omega) (by rw [at_middle]; omega) (by rw [at_last]; omega)).2 _)
  isplitl [H2]; · iexact H2
  isplitl [H3]; · iexact H3
  isplitl [H4]; · iexact H4
  isplitl [H6]; · iexact H6
  isplitl [HU]; · iexact HU
  iintro ⟨H2, H3, H4, ⟨%e6, H6⟩, HU⟩
  isplitl [HU Hr HT]
  · isplitl [HU]; · iexact HU
    isplitl [Hr]; · iexact Hr
    iexact HT
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact mid_reads ..

/-- The last point of the first row: the copies land. -/
theorem body_land (c : Dev nD) (t : Fin cfg0.N) (h : t.val = 10) : BodyAt m c t := by
  unfold BodyAt bodyPre bodyPost
  simp only [before0_0, before0_1, before0_2, before0_3, before0_4, before0_5, before0_6 m c t (by omega)]
  rw [after0_0, after0_1, after0_2, after0_3, after0_4, after0_5, after0_6, PhiS_castSucc, Phi_succ, PhiS_succ, PhiS_pos m c t (by omega), state_end m c t (by omega), tail_fly m c (show t.val - 1 < 10 by omega), tail_landed m c (show ¬ t.val < 10 by omega)]
  unfold Dat.owesAt Pipeline.owesWithin
  rw [show (dats m 0 c).owed t.castSucc = 0 from rfl, show (dats m 0 c).owed t.succ = 0 from rfl]
  unfold idle bodyAt0; dsimp only
  iintro ⟨⟨HU, Hr, ⟨HG, HW, HD⟩⟩, ⟨%W, -, HO⟩, ⟨%d0, H0⟩, ⟨%d1, H1⟩, ⟨%d2, H2⟩, ⟨%d3, H3⟩, ⟨%d4, H4⟩, ⟨%d5, H5⟩, ⟨%d6, H6⟩⟩
  iapply ((runLand c (grid0.coords t) (st0_0 t) _ (st0_1 t) _ (st0_2 t) _ (st0_3 t) _ (st0_4 t) _ (st0_5 t) _ (st0_6 t) _ (xBlk m c t) (postBlk m c t) (prevAt m c t).1 (prevAt m c t).2
    (by rw [at_start]; omega) (by rw [at_wait]; omega) (by rw [at_first]; omega) (by rw [at_middle]; omega) (by rw [at_last]; omega) (gA m c) (wA m c) (dA m c)).2 W _)
  isplitl [H0]; · iexact H0
  isplitl [H5]; · iexact H5
  isplitl [H6]; · iexact H6
  isplitl [HU]; · iexact HU
  isplitl [HG]; · iexact HG
  isplitl [HW]; · iexact HW
  isplitl [HD]; · iexact HD
  isplitl [HO]; · iexact HO
  iintro ⟨H0, H5, ⟨%e6, H6⟩, HU, HG, HW, HD, Hc0, Hc1, Hc2, Hg, Hw, Hd, ⟨%W', HO⟩⟩
  isplitl [HU Hr HG HW HD Hc0 Hc1 Hc2 Hg Hw Hd]
  · isplitl [HU]; · iexact HU
    isplitl [Hr]; · iexact Hr
    isplitl [HG HW HD]
    · isplitl [HG]; · iexact HG
      isplitl [HW]; · iexact HW
      iexact HD
    isplitl [Hc0 Hc1 Hc2]
    · isplitl [Hc0]; · iexact Hc0
      isplitl [Hc1]; · iexact Hc1
      iexact Hc2
    isplitl [Hg]; · iexact Hg
    isplitl [Hw]; · iexact Hw
    iexact Hd
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact land_reads ..

/-- The last point of any other row. -/
theorem body_end (c : Dev nD) (t : Fin cfg0.N) (h0 : t.val ≠ 10) (h : t.val % 11 = 10) : BodyAt m c t := by
  unfold BodyAt bodyPre bodyPost
  simp only [before0_0, before0_1, before0_2, before0_3, before0_4, before0_5, before0_6 m c t (by omega)]
  rw [after0_0, after0_1, after0_2, after0_3, after0_4, after0_5, after0_6, PhiS_castSucc, Phi_succ, PhiS_succ, PhiS_pos m c t (by omega), state_end m c t h, tail_landed m c (show ¬ t.val - 1 < 10 by omega), tail_landed m c (show ¬ t.val < 10 by omega)]
  unfold Dat.owesAt Pipeline.owesWithin
  rw [show (dats m 0 c).owed t.castSucc = 0 from rfl, show (dats m 0 c).owed t.succ = 0 from rfl]
  unfold bodyAt0; dsimp only
  iintro ⟨⟨HU, Hr, ⟨⟨HG, HW, HD⟩, HI⟩⟩, ⟨%W, -, HO⟩, ⟨%d0, H0⟩, ⟨%d1, H1⟩, ⟨%d2, H2⟩, ⟨%d3, H3⟩, ⟨%d4, H4⟩, ⟨%d5, H5⟩, ⟨%d6, H6⟩⟩
  iapply ((runEnd c (grid0.coords t) (st0_0 t) _ (st0_1 t) _ (st0_2 t) _ (st0_3 t) _ (st0_4 t) _ (st0_5 t) _ (st0_6 t) _ (xBlk m c t) (postBlk m c t) (prevAt m c t).1 (prevAt m c t).2
    (by rw [at_start]; omega) (by rw [at_wait]; omega) (by rw [at_first]; omega) (by rw [at_middle]; omega) (by rw [at_last]; omega) (gEnd (gA m c)) (wEnd (wA m c)) (dEnd (dA m c))).2 _)
  isplitl [H0]; · iexact H0
  isplitl [H5]; · iexact H5
  isplitl [H6]; · iexact H6
  isplitl [HU]; · iexact HU
  isplitl [HG]; · iexact HG
  isplitl [HW]; · iexact HW
  isplitl [HD]; · iexact HD
  iintro ⟨H0, H5, ⟨%e6, H6⟩, HU, HG, HW, HD⟩
  isplitl [HU Hr HG HW HD HI]
  · isplitl [HU]; · iexact HU
    isplitl [Hr]; · iexact Hr
    isplitl [HG HW HD]
    · isplitl [HG]; · iexact HG
      isplitl [HW]; · iexact HW
      iexact HD
    iexact HI
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact end_reads ..

theorem sound_body (c : Dev nD) (t : Fin cfg0.N) : BodyAt m c t := by
  by_cases h : t.val % 11 = 0
  · by_cases h0 : t.val = 0
    · exact body_first m c t h0
    · exact body_start m c t h0 h
  by_cases h1 : t.val % 11 = 10
  · by_cases h0 : t.val = 10
    · exact body_land m c t h0
    · exact body_end m c t h0 h1
  exact body_mid m c t h h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, show cfg0.idle 6 (cfg0.grid.coords t) = false from live _]
  exact triple_restated (sound_body m c t) rfl .rfl fun _ => .rfl

/-! ## The run and the frame -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => PhiS_last m c)

/-- What a run leaves of the arguments. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept m h.1, h.2⟩) (run_main m ρ)

end Cert.FfnIdeal.Body

end
-- ==== Proof.FfnRows.lean ====
/- The feed-forward kernel's arithmetic over the extended reals, a row at a time: what each store of the body puts at an
   index, and what each case of the body leaves there. -/
module

public import proofs.«01_k».proof.Proof.FfnStep

@[expose] public section

set_option maxRecDepth 16384

noncomputable section

namespace Cert.FfnIdeal.Rows

open Cert.FfnIdeal Cert.FfnIdeal.Gen Cert.FfnIdeal.Body
open Idealize.ShloMosaic

/-! ## A row of the layer -/

/-- A row over its root mean square, times the weights. -/
def norm (x w : Fin 2048 → EReal) (k : Fin 2048) : EReal :=
  x k * Ideal.rsqrt (Ideal.div (∑ j, x j * x j) (Ideal.ofBits .f32 0x45000000#32) + Ideal.ofBits .f32 0x358637BD#32) * w k

/-- One hidden unit of a row: its gate's silu times its value. -/
def unit (u g w : Fin 2048 → EReal) : EReal := (∑ j, u j * g j) * Ideal.logistic (∑ j, u j * g j) * ∑ j, u j * w j

/-- The residual with half the normalized output. -/
def finish (x y w : Fin 2048 → EReal) (k : Fin 2048) : EReal := x k + Ideal.ofBits .f32 0x3F000000#32 * norm y w k

/-- The part of a row's output that comes from `n` hidden units. -/
def part {n : ℕ} (u : Fin 2048 → EReal) (g w : Fin 2048 → Fin n → EReal) (d : Fin n → Fin 2048 → EReal) (q : Fin 2048) : EReal :=
  ∑ f, unit u (fun j => g j f) (fun j => w j f) * d f q

/-! ## The stores at an index -/

section Stores

variable (x acc : Vec Ideal S512x2048 .f32) (p : Vec Ideal S1x2048 .f32) (g w : Vec Ideal S2048x512 .bf16) (d : Vec Ideal S512x2048 .bf16)
  (u : Vec Ideal S512x2048 .bf16) (eg ew : Vec Ideal S2048x384 .bf16) (ed : Vec Ideal S384x2048 .bf16)
  (U : Vec Ideal S1024x2048 .bf16) (A : Vec Ideal S1024x2048 .f32)

theorem pay1_apply (r : Fin 512) (k : Fin 2048) : (k0_pay1 x p (ix2 r k) : EReal) = norm (fun j => x (ix2 r j)) (fun j => p (ix2 0 j)) k := by
  unfold k0_pay1 norm
  pointwise

theorem pay6_apply (r : Fin 512) (k : Fin 2048) : (k0_pay6 x p (ix2 r k) : EReal) = norm (fun j => x (ix2 r j)) (fun j => p (ix2 0 j)) k := by
  unfold k0_pay6 norm
  pointwise

theorem pay2_apply (r : Fin 512) (k : Fin 2048) : (k0_pay2 x p (ix2 r k) : EReal) = norm (fun j => x (ix2 r j)) (fun j => p (ix2 0 j)) k := by
  unfold k0_pay2
  pointwise
  exact pay1_apply x p r k

theorem pay7_apply (r : Fin 512) (k : Fin 2048) : (k0_pay7 x p (ix2 r k) : EReal) = norm (fun j => x (ix2 r j)) (fun j => p (ix2 0 j)) k := by
  unfold k0_pay7
  pointwise
  exact pay6_apply x p r k

theorem pay3_apply (r : Fin 512) (q : Fin 2048) : (k0_pay3 x p g w d (ix2 r q) : EReal)
    = part (norm (fun j => x (ix2 r j)) (fun j => p (ix2 0 j))) (fun j f => g (ix2 j f)) (fun j f => w (ix2 j f)) (fun f q => d (ix2 f q)) q := by
  unfold k0_pay3 part unit
  pointwise
  simp only [pay1_apply]

theorem pay8_apply (r : Fin 512) (q : Fin 2048) : (k0_pay8 x p g w d (ix2 r q) : EReal)
    = part (norm (fun j => x (ix2 r j)) (fun j => p (ix2 0 j))) (fun j f => g (ix2 j f)) (fun j f => w (ix2 j f)) (fun f q => d (ix2 f q)) q := by
  unfold k0_pay8 part unit
  pointwise
  simp only [pay6_apply]

theorem pay4_apply (r : Fin 1024) (q : Fin 2048) : (k0_pay4 U g w d A (ix2 r q) : EReal)
    = A (ix2 r q) + part (fun j => U (ix2 r j)) (fun j f => g (ix2 j f)) (fun j f => w (ix2 j f)) (fun f q => d (ix2 f q)) q := by
  unfold k0_pay4 part unit
  pointwise

theorem pay5_apply (r : Fin 512) (q : Fin 2048) : (k0_pay5 u eg ew ed acc x p (ix2 r q) : EReal)
    = finish (fun q => x (ix2 r q))
        (fun q => acc (ix2 r q) + part (fun j => u (ix2 r j)) (fun j f => eg (ix2 j f)) (fun j f => ew (ix2 j f)) (fun f q => ed (ix2 f q)) q)
        (fun j => p (ix2 0 j)) q := by
  unfold k0_pay5 finish norm part unit
  pointwise

theorem pay9_apply (r : Fin 512) (q : Fin 2048) : (k0_pay9 u eg ew ed acc x p (ix2 r q) : EReal)
    = finish (fun q => x (ix2 r q))
        (fun q => acc (ix2 r q) + part (fun j => u (ix2 r j)) (fun j f => eg (ix2 j f)) (fun j f => ew (ix2 j f)) (fun f q => ed (ix2 f q)) q)
        (fun j => p (ix2 0 j)) q := by
  unfold k0_pay9 finish norm part unit
  pointwise

end Stores

/-! ## The two halves of a block -/

theorem ld_top {e : EltTy} (X : Vec Ideal S1024x2048 e) : View.ld X top = fun y : S512x2048.Idx => X (ix2 ⟨(y 0).val, by have := (y 0).isLt; change _ < 512 at this; omega⟩ (y 1)) :=
  funext fun y => View.ld_unit_apply_of _ _ _ _ _ _ (by intro a; match a with | ⟨0, _⟩ => exact (Nat.zero_add _).symm | ⟨1, _⟩ => exact (Nat.zero_add _).symm)
theorem ld_bot {e : EltTy} (X : Vec Ideal S1024x2048 e) :
    View.ld X bot = fun y : S512x2048.Idx => X (ix2 ⟨512 + (y 0).val, by have := (y 0).isLt; change _ < 512 at this; omega⟩ (y 1)) :=
  funext fun y => View.ld_unit_apply_of _ _ _ _ _ _ (by intro a; match a with | ⟨0, _⟩ => rfl | ⟨1, _⟩ => exact (Nat.zero_add _).symm)

/-- A block stored as its two halves reads as what they were computed from, row by row. -/
theorem halves {e : EltTy} (b t : Vec Ideal S512x2048 e) (G : Fin 1024 → Fin 2048 → Elt Ideal e)
    (hb : ∀ (r : Fin 512) (k : Fin 2048), b (ix2 r k) = G ⟨512 + r.val, by omega⟩ k) (ht : ∀ (r : Fin 512) (k : Fin 2048), t (ix2 r k) = G ⟨r.val, by omega⟩ k)
    (r : Fin 1024) (k : Fin 2048) : View.canon (Val := Elt Ideal) [(⟨bot, b⟩ : View.Piece (Elt Ideal) S1024x2048 e), ⟨top, t⟩] (ix2 r k) = G r k := by
  canon_tiles x h
  · idx_vars x
    exact (hb x0 x1).trans (congrArg₂ G (Fin.ext h0.symm) (Fin.ext h1.symm))
  · idx_vars x
    exact (ht x0 x1).trans (congrArg₂ G (Fin.ext h0.symm) (Fin.ext h1.symm))

/-! ## What each case leaves, at an index -/

section Cases

variable (x0 : Vec Ideal S1024x2048 .f32) (x1 : Vec Ideal S1x2048 .f32) (x2 x3 : Vec Ideal S2048x512 .bf16) (x4 : Vec Ideal S512x2048 .bf16)
  (x5 : Vec Ideal S1x2048 .f32) (acc : Vec Ideal S1024x2048 .f32) (u : Vec Ideal S1024x2048 .bf16) (eg ew : Vec Ideal S2048x384 .bf16) (ed : Vec Ideal S384x2048 .bf16)

theorem startU_apply (r : Fin 1024) (k : Fin 2048) : (startU x0 x1 (ix2 r k) : EReal) = norm (fun j => x0 (ix2 r j)) (fun j => x1 (ix2 0 j)) k := by
  unfold startU
  exact halves (e := .bf16) _ _ (fun r k => norm (fun j => x0 (ix2 r j)) (fun j => x1 (ix2 0 j)) k)
    (fun r k => by rw [ld_bot]; exact pay2_apply _ _ r k) (fun r k => by rw [ld_top]; exact pay7_apply _ _ r k) r k

theorem startOut_apply (r : Fin 1024) (q : Fin 2048) : (startOut x0 x1 x2 x3 x4 (ix2 r q) : EReal)
    = part (norm (fun j => x0 (ix2 r j)) (fun j => x1 (ix2 0 j))) (fun j f => x2 (ix2 j f)) (fun j f => x3 (ix2 j f)) (fun f q => x4 (ix2 f q)) q := by
  unfold startOut
  exact halves (e := .f32) _ _ (fun r q => part (norm (fun j => x0 (ix2 r j)) (fun j => x1 (ix2 0 j))) (fun j f => x2 (ix2 j f)) (fun j f => x3 (ix2 j f)) (fun f q => x4 (ix2 f q)) q)
    (fun r k => by rw [ld_bot]; exact pay3_apply _ _ _ _ _ r k) (fun r k => by rw [ld_top]; exact pay8_apply _ _ _ _ _ r k) r q

theorem midOut_apply (r : Fin 1024) (q : Fin 2048) : (midOut x2 x3 x4 acc u (ix2 r q) : EReal)
    = acc (ix2 r q) + part (fun j => u (ix2 r j)) (fun j f => x2 (ix2 j f)) (fun j f => x3 (ix2 j f)) (fun f q => x4 (ix2 f q)) q :=
  pay4_apply x2 x3 x4 u acc r q

theorem endOut_apply (r : Fin 1024) (q : Fin 2048) : (endOut x0 x5 acc u eg ew ed (ix2 r q) : EReal)
    = finish (fun q => x0 (ix2 r q))
        (fun q => acc (ix2 r q) + part (fun j => u (ix2 r j)) (fun j f => eg (ix2 j f)) (fun j f => ew (ix2 j f)) (fun f q => ed (ix2 f q)) q)
        (fun j => x5 (ix2 0 j)) q := by
  unfold endOut
  exact halves (e := .f32) _ _ (fun r q => finish (fun q => x0 (ix2 r q))
        (fun q => acc (ix2 r q) + part (fun j => u (ix2 r j)) (fun j f => eg (ix2 j f)) (fun j f => ew (ix2 j f)) (fun f q => ed (ix2 f q)) q)
        (fun j => x5 (ix2 0 j)) q)
    (fun r k => by rw [ld_bot, ld_bot, ld_bot]; exact pay5_apply _ _ _ _ _ _ _ r k) (fun r k => by rw [ld_top, ld_top, ld_top]; exact pay9_apply _ _ _ _ _ _ _ r k) r q

end Cases

end Cert.FfnIdeal.Rows

end
-- ==== Proof.FfnBlocks.lean ====
/- What the feed-forward kernel's windows and the ends of its weights read, off the arguments. -/
module

public import proofs.«01_k».proof.Proof.FfnRows
public import proofs.«01_k».proof.Proof.FfnData
public import Idealize.ShloMosaic.Lib.Claim
public import Idealize.ShloMosaic.Lib.StableHlo.ReadAt

@[expose] public section

set_option maxRecDepth 16384

noncomputable section

namespace Cert.FfnIdeal.Rows

open Cert.FfnIdeal Cert.FfnIdeal.Gen Cert.FfnIdeal.Body
open Idealize.ShloMosaic Idealize.ShloMosaic.TcCoe

variable (m : (ℓ : Loc nD τ sig) → Buf (Elt Ideal) ℓ) (c : Dev nD)

/-! ## The arguments -/

abbrev hA : Vec Ideal S16384x2048 .f32 := m ((c : Thread nD τ).loc main_arg0)
abbrev preA : Vec Ideal S2048 .f32 := m ((c : Thread nD τ).loc main_arg1)
abbrev wgA : Vec Ideal S2048x5504 .f32 := m ((c : Thread nD τ).loc main_arg2)
abbrev wuA : Vec Ideal S2048x5504 .f32 := m ((c : Thread nD τ).loc main_arg3)
abbrev wdA : Vec Ideal S5504x2048 .f32 := m ((c : Thread nD τ).loc main_arg4)
abbrev postA : Vec Ideal S2048 .f32 := m ((c : Thread nD τ).loc main_arg5)

/-! ## What the host leaves before the kernel: two reshapes and six casts, which change nothing -/

theorem entry0 (j : Fin 2048) : (V m c main_v0 (ix2 0 j) : EReal) = preA m c (ix1 j) := by
  unfold V
  after_reads_at
theorem entry4 (j : Fin 2048) : (V m c main_v4 (ix2 0 j) : EReal) = postA m c (ix1 j) := by
  unfold V
  after_reads_at
theorem entry1 (j : Fin 2048) (f : Fin 5504) : (V m c main_v1 (ix2 j f) : EReal) = wgA m c (ix2 j f) := by
  unfold V
  after_reads_at
theorem entry2 (j : Fin 2048) (f : Fin 5504) : (V m c main_v2 (ix2 j f) : EReal) = wuA m c (ix2 j f) := by
  unfold V
  after_reads_at
theorem entry3 (f : Fin 5504) (j : Fin 2048) : (V m c main_v3 (ix2 f j) : EReal) = wdA m c (ix2 f j) := by
  unfold V
  after_reads_at
theorem entry5 (j : Fin 2048) (f : Fin 5504) : (V m c main_v5 (ix2 j f) : EReal) = wgA m c (ix2 j f) := by
  unfold V
  after_reads_at
theorem entry6 (j : Fin 2048) (f : Fin 5504) : (V m c main_v6 (ix2 j f) : EReal) = wuA m c (ix2 j f) := by
  unfold V
  after_reads_at
theorem entry7 (f : Fin 5504) (j : Fin 2048) : (V m c main_v7 (ix2 f j) : EReal) = wdA m c (ix2 f j) := by
  unfold V
  after_reads_at

/-! ## The blocks -/

/-- Where the windows stand at a grid point. -/
theorem idx : ∀ t : Fin cfg0.N,
    win0_0.index t = ![t.val / 11, 0] ∧ win0_1.index t = ![0, 0] ∧ win0_2.index t = ![0, min (t.val % 11) 9]
      ∧ win0_3.index t = ![0, min (t.val % 11) 9] ∧ win0_4.index t = ![min (t.val % 11) 9, 0] ∧ win0_5.index t = ![0, 0]
      ∧ win0_6.index t = ![t.val / 11, 0] := by
  decide +kernel

theorem points (t : Fin cfg0.N) : t.val < 176 := t.isLt

/-- The row of the array that is row `r` of a point's block, and the hidden unit that is unit `f` of it. -/
def rowAt (t : Fin cfg0.N) (r : Fin 1024) : Fin 16384 := ⟨1024 * (t.val / 11) + r.val, by have := points t; omega⟩
def unitAt (t : Fin cfg0.N) (f : Fin 512) : Fin 5504 := ⟨512 * min (t.val % 11) 9 + f.val, by omega⟩

theorem x_apply (t : Fin cfg0.N) (r : Fin 1024) (k : Fin 2048) : (xBlk m c t (ix2 r k) : EReal) = hA m c (ix2 (rowAt t r) k) := by
  have := points t
  blk_ext [iblk, V_main_arg0, idx t, rowAt]
theorem pre_apply (t : Fin cfg0.N) (k : Fin 2048) : (preBlk m c t (ix2 0 k) : EReal) = preA m c (ix1 k) := by
  rw [← entry0]
  blk_ext [iblk, idx t]
theorem post_apply (t : Fin cfg0.N) (k : Fin 2048) : (postBlk m c t (ix2 0 k) : EReal) = postA m c (ix1 k) := by
  rw [← entry4]
  blk_ext [iblk, idx t]
theorem g_apply (t : Fin cfg0.N) (k : Fin 2048) (f : Fin 512) : (gBlk m c t (ix2 k f) : EReal) = wgA m c (ix2 k (unitAt t f)) := by
  rw [← entry1]
  show X0_2 m c t (ix2 k f) = _
  unfold X0_2 Pipeline.Window.fill
  rw [dif_pos (moved0_2 t _)]
  blk_ext [iblk, idx t, unitAt]
theorem w_apply (t : Fin cfg0.N) (k : Fin 2048) (f : Fin 512) : (wBlk m c t (ix2 k f) : EReal) = wuA m c (ix2 k (unitAt t f)) := by
  rw [← entry2]
  show X0_3 m c t (ix2 k f) = _
  unfold X0_3 Pipeline.Window.fill
  rw [dif_pos (moved0_3 t _)]
  blk_ext [iblk, idx t, unitAt]
theorem d_apply (t : Fin cfg0.N) (f : Fin 512) (k : Fin 2048) : (dBlk m c t (ix2 f k) : EReal) = wdA m c (ix2 (unitAt t f) k) := by
  rw [← entry3]
  show X0_4 m c t (ix2 f k) = _
  unfold X0_4 Pipeline.Window.fill
  rw [dif_pos (moved0_4 t _)]
  blk_ext [iblk, idx t, unitAt]

/-! ## The ends of the weights -/

theorem gEnd_apply (k : Fin 2048) (f : Fin 384) : (gEnd (gA m c) (ix2 k f) : EReal) = wgA m c (ix2 k ⟨5120 + f.val, by omega⟩) := by
  rw [← entry5]
  refine congrArg (V m c main_v5) (funext fun a => Fin.ext ?_)
  match a with
  | ⟨0, _⟩ => show 0 + 1 * k.val = k.val; omega
  | ⟨1, _⟩ => show 5120 + 1 * f.val = 5120 + f.val; omega
theorem wEnd_apply (k : Fin 2048) (f : Fin 384) : (wEnd (wA m c) (ix2 k f) : EReal) = wuA m c (ix2 k ⟨5120 + f.val, by omega⟩) := by
  rw [← entry6]
  refine congrArg (V m c main_v6) (funext fun a => Fin.ext ?_)
  match a with
  | ⟨0, _⟩ => show 0 + 1 * k.val = k.val; omega
  | ⟨1, _⟩ => show 5120 + 1 * f.val = 5120 + f.val; omega
theorem dEnd_apply (f : Fin 384) (k : Fin 2048) : (dEnd (dA m c) (ix2 f k) : EReal) = wdA m c (ix2 ⟨5120 + f.val, by omega⟩ k) := by
  rw [← entry7]
  refine congrArg (V m c main_v7) (funext fun a => Fin.ext ?_)
  match a with
  | ⟨0, _⟩ => show 5120 + 1 * f.val = 5120 + f.val; omega
  | ⟨1, _⟩ => show 0 + 1 * k.val = k.val; omega

end Cert.FfnIdeal.Rows

end
-- ==== Proof.FfnArray.lean ====
/- The feed-forward kernel's result over the extended reals, as a whole array: the sum over the hidden units, which the
   kernel takes block by block and an end, and the finished rows. -/
module

public import proofs.«01_k».proof.Proof.FfnBlocks

@[expose] public section

set_option maxRecDepth 16384

noncomputable section

namespace Cert.FfnIdeal.Rows

open Cert.FfnIdeal Cert.FfnIdeal.Gen Cert.FfnIdeal.Body
open Idealize.ShloMosaic Idealize.ShloMosaic.TcCoe

/-! ## The layer, off its arguments -/

section Layer

variable (X : Vec Ideal S16384x2048 .f32) (P : Vec Ideal S2048 .f32) (G W : Vec Ideal S2048x5504 .f32) (D : Vec Ideal S5504x2048 .f32)
  (Q : Vec Ideal S2048 .f32)

/-- A normalized row of the input. -/
def uRow (R : Fin 16384) : Fin 2048 → EReal := norm (fun j => X (ix2 R j)) (fun j => P (ix1 j))

/-- What hidden unit `n` adds to a row's output; nothing past the last unit. -/
def term (R : Fin 16384) (q : Fin 2048) (n : ℕ) : EReal :=
  if h : n < 5504 then unit (uRow X P R) (fun j => G (ix2 j ⟨n, h⟩)) (fun j => W (ix2 j ⟨n, h⟩)) * D (ix2 ⟨n, h⟩ q) else 0

/-- What the first `n` hidden units add. -/
def upTo (n : ℕ) (R : Fin 16384) (q : Fin 2048) : EReal := ∑ i ∈ Finset.range n, term X P G W D R q i

/-- The feed-forward layer. -/
def layer : Vec Ideal S16384x2048 .f32 :=
  fun y => finish (fun q => X (ix2 (y 0) q)) (upTo X P G W D 5504 (y 0)) (fun j => Q (ix1 j)) (y 1)

/-- A run of `n` hidden units from `o` on takes the sum that much further. -/
theorem upTo_add {n : ℕ} (o : ℕ) (h : o + n ≤ 5504) (u : Fin 2048 → EReal) (g w : Fin 2048 → Fin n → EReal) (d : Fin n → Fin 2048 → EReal)
    (R : Fin 16384) (q : Fin 2048) (hu : u = uRow X P R) (hg : ∀ j f, g j f = G (ix2 j ⟨o + f.val, by omega⟩))
    (hw : ∀ j f, w j f = W (ix2 j ⟨o + f.val, by omega⟩)) (hd : ∀ f q, d f q = D (ix2 ⟨o + f.val, by omega⟩ q)) :
    upTo X P G W D o R q + part u g w d q = upTo X P G W D (o + n) R q := by
  unfold upTo
  rw [Finset.sum_range_add, ← Fin.sum_univ_eq_sum_range (fun i => term X P G W D R q (o + i))]
  congr 1
  unfold part
  refine Finset.sum_congr rfl fun f _ => ?_
  unfold term
  rw [dif_pos (by omega), hd, hu]
  simp only [hg, hw]

/-- The whole sum, over the hidden units themselves. -/
theorem upTo_all (R : Fin 16384) (q : Fin 2048) : upTo X P G W D 5504 R q
    = part (uRow X P R) (fun j f => G (ix2 j f)) (fun j f => W (ix2 j f)) (fun f q => D (ix2 f q)) q := by
  unfold upTo part
  rw [← Fin.sum_univ_eq_sum_range (fun i => term X P G W D R q i)]
  refine Finset.sum_congr rfl fun f _ => ?_
  unfold term
  rw [dif_pos f.isLt]

end Layer

/-! ## The kernel's state at each point -/

variable (m : (ℓ : Loc nD τ sig) → Buf (Elt Ideal) ℓ) (c : Dev nD)

/-- What a row's first `n` hidden units add, off the kernel's arguments. -/
abbrev sumTo (n : ℕ) (R : Fin 16384) (q : Fin 2048) : EReal := upTo (hA m c) (preA m c) (wgA m c) (wuA m c) (wdA m c) n R q

/-- Before a row's last point: the kept rows are the normalized input, and the sum has its first blocks. -/
def Summed (t : Fin cfg0.N) : Prop :=
  (∀ r k, ((stateAt m c t.val t.isLt).2 (ix2 r k) : EReal) = uRow (hA m c) (preA m c) (rowAt t r) k)
    ∧ ∀ r q, ((stateAt m c t.val t.isLt).1 (ix2 r q) : EReal) = sumTo m c (512 * (t.val % 11 + 1)) (rowAt t r) q

theorem u_start (t : Fin cfg0.N) (r : Fin 1024) (k : Fin 2048) :
    (startU (xBlk m c t) (preBlk m c t) (ix2 r k) : EReal) = uRow (hA m c) (preA m c) (rowAt t r) k := by
  rw [startU_apply]
  unfold uRow
  simp only [x_apply, pre_apply]

/-- One block more. -/
theorem add_block (t : Fin cfg0.N) (h : t.val % 11 < 10) (u : Fin 2048 → EReal) (r : Fin 1024) (q : Fin 2048)
    (hu : u = uRow (hA m c) (preA m c) (rowAt t r)) :
    sumTo m c (512 * (t.val % 11)) (rowAt t r) q
        + part u (fun j f => gBlk m c t (ix2 j f)) (fun j f => wBlk m c t (ix2 j f)) (fun f q => dBlk m c t (ix2 f q)) q
      = sumTo m c (512 * (t.val % 11 + 1)) (rowAt t r) q := by
  have hm : min (t.val % 11) 9 = t.val % 11 := by omega
  have e : ∀ f : Fin 512, unitAt t f = ⟨512 * (t.val % 11) + f.val, by omega⟩ := fun f => Fin.ext (by show 512 * min (t.val % 11) 9 + f.val = _; rw [hm])
  rw [Nat.mul_add, Nat.mul_one]
  exact upTo_add _ _ _ _ _ _ (by omega) u _ _ _ _ _ hu (fun j f => by rw [g_apply, e]) (fun j f => by rw [w_apply, e]) (fun f q => by rw [d_apply, e])

theorem fst_start (t : Fin cfg0.N) (h : t.val % 11 = 0) :
    (stateAt m c t.val t.isLt).1 = startOut (xBlk m c t) (preBlk m c t) (gBlk m c t) (wBlk m c t) (dBlk m c t) := by
  rw [state_start m c t h]; dsimp only [startAt]
theorem snd_start (t : Fin cfg0.N) (h : t.val % 11 = 0) : (stateAt m c t.val t.isLt).2 = startU (xBlk m c t) (preBlk m c t) := by
  rw [state_start m c t h]; dsimp only [startAt]
theorem fst_mid (t : Fin cfg0.N) (h0 : t.val % 11 ≠ 0) (h1 : t.val % 11 ≠ 10) :
    (stateAt m c t.val t.isLt).1 = midOut (gBlk m c t) (wBlk m c t) (dBlk m c t) (prevAt m c t).1 (prevAt m c t).2 := by
  rw [state_mid m c t h0 h1]
theorem snd_mid (t : Fin cfg0.N) (h0 : t.val % 11 ≠ 0) (h1 : t.val % 11 ≠ 10) : (stateAt m c t.val t.isLt).2 = (prevAt m c t).2 := by
  rw [state_mid m c t h0 h1]
theorem fst_end (t : Fin cfg0.N) (h : t.val % 11 = 10) :
    (stateAt m c t.val t.isLt).1 = endOut (xBlk m c t) (postBlk m c t) (prevAt m c t).1 (prevAt m c t).2 (gEnd (gA m c)) (wEnd (wA m c)) (dEnd (dA m c)) := by
  rw [state_end m c t h]

theorem summed_start (t : Fin cfg0.N) (h : t.val % 11 = 0) : Summed m c t := by
  unfold Summed
  rw [fst_start m c t h, snd_start m c t h]
  refine ⟨u_start m c t, fun r q => ?_⟩
  rw [startOut_apply, ← add_block m c t (by omega) (norm (fun j => xBlk m c t (ix2 r j)) (fun j => preBlk m c t (ix2 0 j))) r q (by
    unfold uRow
    simp only [x_apply, pre_apply])]
  have h0 : sumTo m c (512 * (t.val % 11)) (rowAt t r) q = 0 := by
    rw [h, Nat.mul_zero]
    exact Finset.sum_range_zero _
  rw [h0, zero_add]

/-- The point before. -/
def before (t : Fin cfg0.N) : Fin cfg0.N := ⟨t.val - 1, Nat.lt_of_le_of_lt (Nat.sub_le _ _) t.isLt⟩

theorem rowAt_before (t : Fin cfg0.N) (h : t.val % 11 ≠ 0) (r : Fin 1024) : rowAt (before t) r = rowAt t r := by
  apply Fin.ext
  show 1024 * ((t.val - 1) / 11) + r.val = 1024 * (t.val / 11) + r.val
  omega

theorem summed_mid (t : Fin cfg0.N) (h0 : t.val % 11 ≠ 0) (h1 : t.val % 11 ≠ 10) (ih : Summed m c (before t)) : Summed m c t := by
  obtain ⟨hu, hs⟩ := ih
  have hm : (t.val - 1) % 11 + 1 = t.val % 11 := by omega
  unfold Summed
  rw [fst_mid m c t h0 h1, snd_mid m c t h0 h1]
  have hu' : ∀ r k, ((prevAt m c t).2 (ix2 r k) : EReal) = uRow (hA m c) (preA m c) (rowAt t r) k := fun r k => by
    rw [← rowAt_before t h0]
    exact hu r k
  refine ⟨hu', fun r q => ?_⟩
  rw [midOut_apply, ← add_block m c t (by omega) (fun j => (prevAt m c t).2 (ix2 r j)) r q (funext fun k => hu' r k), ← rowAt_before t h0, ← hm]
  exact congrArg (· + _) (hs r q)

theorem summed : ∀ (n : ℕ) (h : n < cfg0.N), n % 11 ≠ 10 → Summed m c ⟨n, h⟩
  | 0, h, _ => summed_start m c ⟨0, h⟩ rfl
  | n + 1, h, h1 => by
    by_cases h0 : (n + 1) % 11 = 0
    · exact summed_start m c ⟨n + 1, h⟩ h0
    · exact summed_mid m c ⟨n + 1, h⟩ h0 h1 (summed n (by omega) (by omega))

/-- A row's last point leaves the layer's rows. -/
theorem finished (t : Fin cfg0.N) (h : t.val % 11 = 10) (r : Fin 1024) (q : Fin 2048) :
    ((stateAt m c t.val t.isLt).1 (ix2 r q) : EReal)
      = layer (hA m c) (preA m c) (wgA m c) (wuA m c) (wdA m c) (postA m c) (ix2 (rowAt t r) q) := by
  have hN := points t
  obtain ⟨hu, hs⟩ := summed m c (t.val - 1) (Nat.lt_of_le_of_lt (Nat.sub_le _ _) t.isLt) (by omega)
  have hb : rowAt (before t) r = rowAt t r := rowAt_before t (by omega) r
  have hm : 512 * ((t.val - 1) % 11 + 1) = 5120 := by omega
  rw [fst_end m c t h, endOut_apply]
  show _ = finish (fun q => hA m c (ix2 (rowAt t r) q)) (sumTo m c 5504 (rowAt t r)) (fun j => postA m c (ix1 j)) q
  have hy : (fun q : Fin 2048 => ((prevAt m c t).1 (ix2 r q) : EReal) + part (fun j => (prevAt m c t).2 (ix2 r j)) (fun j f => gEnd (gA m c) (ix2 j f))
      (fun j f => wEnd (wA m c) (ix2 j f)) (fun f q => dEnd (dA m c) (ix2 f q)) q) = sumTo m c 5504 (rowAt t r) := by
    funext q
    refine Eq.trans ?_ (upTo_add (n := 384) _ _ _ _ _ 5120 (by decide) (fun j => (prevAt m c t).2 (ix2 r j)) _ _ _ (rowAt t r) q
      (funext fun k => (hu r k).trans (congrArg (fun R => uRow (hA m c) (preA m c) R k) hb))
      (gEnd_apply m c) (wEnd_apply m c) (dEnd_apply m c))
    refine congrArg (· + _) ((hs r q).trans ?_)
    show sumTo m c (512 * ((t.val - 1) % 11 + 1)) (rowAt (before t) r) q = _
    rw [hm, hb]
  rw [hy]
  simp only [x_apply, post_apply]

/-! ## The array -/

theorem arr6 : (dats m 0 c).arrAt 6 cfg0.N = layer (hA m c) (preA m c) (wgA m c) (wuA m c) (wdA m c) (postA m c) := by
  refine (dats m 0 c).arrAt_eq_of_covers 6 _ (by decide +kernel) fun t hf y => ?_
  have h : t.val % 11 = 10 := (flush0_6 t).mp hf
  have := points t
  blk_simp
  rw [after0_6]
  idx_vars y
  refine (finished m c t h y0 y1).trans ?_
  blk_ext [idx t, rowAt]

end Cert.FfnIdeal.Rows

end
-- ==== Proof.FfnReference.lean ====
/- The feed-forward reference over the extended reals: the same row arithmetic, its sums taken whole. -/
module

public import proofs.«01_k».proof.Proof.FfnArray
public import proofs.«01_k».proof.Proof.Gen.FfnRefIdeal.Run
public import Idealize.ShloMosaic.Lib.Pointwise

@[expose] public section

set_option maxRecDepth 16384

noncomputable section

namespace Cert.FfnRefIdeal.Rows

open Idealize.ShloMosaic Idealize.ShloMosaic.TcCoe Cert.FfnRefIdeal Cert.FfnRefIdeal.Gen
open Cert.FfnIdeal.Rows (unit finish part uRow layer upTo_all)

variable (X : FVec Ideal S16384x2048 .f32) (P : FVec Ideal S2048 .f32) (G W : FVec Ideal S2048x5504 .f32) (D : FVec Ideal S5504x2048 .f32)
  (Q : FVec Ideal S2048 .f32)

/-! ## The reference, a stage at a time -/

/-- Rows over their root mean squares, times the weights. -/
def normed (x : FVec Ideal S16384x2048 .f32) (w : FVec Ideal S2048 .f32) : FVec Ideal S16384x2048 .f32 :=
  mulf (mulf x (broadcastInDim S16384x2048 ![0, 1] bcast_S16384x1_S16384x2048_0_1 (Host.rsqrt (addf (Host.divf
    (broadcastInDim S16384x1 ![0] bcast_S16384_S16384x1_0 (Host.reduceAdd (mulf x x) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 w))

def hidden (x : FVec Ideal S16384x2048 .f32) (w : FVec Ideal S2048x5504 .f32) : FVec Ideal S16384x5504 .f32 :=
  Host.dotGeneral dot_S16384x2048_S2048x5504_S16384x5504_1_0_0_1_n_n none x w

def silu (z : FVec Ideal S16384x5504 .f32) : FVec Ideal S16384x5504 .f32 :=
  mulf z (Host.divf (broadcastInDim S16384x5504 ![] bcast_S_S16384x5504 (constant S_ .f32 0x3F800000#32))
    (addf (broadcastInDim S16384x5504 ![] bcast_S_S16384x5504 (constant S_ .f32 0x3F800000#32)) (Host.exp (Host.negf z))))

def swiglu : FVec Ideal S16384x2048 .f32 :=
  Host.dotGeneral dot_S16384x5504_S5504x2048_S16384x2048_1_0_0_1_n_n none (mulf (silu (hidden (normed X P) G)) (hidden (normed X P) W)) D

def result : FVec Ideal S16384x2048 .f32 :=
  addf X (mulf (broadcastInDim S16384x2048 ![] bcast_S_S16384x2048 (constant S_ .f32 0x3F000000#32)) (normed (swiglu X P G W D) Q))

theorem res_eq (m : (ℓ : Loc nD τ sig) → Buf (Elt Ideal) ℓ) (c : Dev nD) :
    Cert.FfnRefIdeal.Value.res_main_v33 m c = result (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := rfl

/-! ## At an index -/

variable (R : Fin 16384) (q : Fin 2048)

theorem normed_apply (x : FVec Ideal S16384x2048 .f32) (w : FVec Ideal S2048 .f32) :
    (normed x w (ix2 R q) : EReal) = Cert.FfnIdeal.Rows.norm (fun j => x (ix2 R j)) (fun j => w (ix1 j)) q := by
  unfold normed Cert.FfnIdeal.Rows.norm
  pointwise

theorem hidden_apply (x : FVec Ideal S16384x2048 .f32) (w : FVec Ideal S2048x5504 .f32) (f : Fin 5504) :
    (hidden x w (ix2 R f) : EReal) = ∑ j, x (ix2 R j) * w (ix2 j f) := by
  unfold hidden
  pointwise

theorem silu_apply (z : FVec Ideal S16384x5504 .f32) (f : Fin 5504) : (silu z (ix2 R f) : EReal) = z (ix2 R f) * Ideal.logistic (z (ix2 R f)) := by
  unfold silu
  pointwise
  rfl

theorem swiglu_apply : (swiglu X P G W D (ix2 R q) : EReal)
    = part (uRow X P R) (fun j f => G (ix2 j f)) (fun j f => W (ix2 j f)) (fun f q => D (ix2 f q)) q := by
  unfold swiglu part unit
  pointwise
  refine Finset.sum_congr rfl fun f _ => ?_
  rw [silu_apply, hidden_apply, hidden_apply]
  simp only [normed_apply]
  rfl

theorem result_eq : result X P G W D Q = layer X P G W D Q := by
  funext y
  idx_vars y
  show _ = finish (fun q => X (ix2 y0 q)) (fun q => Cert.FfnIdeal.Rows.upTo X P G W D 5504 y0 q) (fun j => Q (ix1 j)) y1
  simp only [upTo_all]
  unfold result finish
  pointwise
  rw [normed_apply]
  simp only [swiglu_apply]

end Cert.FfnRefIdeal.Rows

end
-- ==== Proof.FfnClaims.lean ====
/- The feed-forward claims: the frames, and the equality of the results. -/
module

public import proofs.«01_k».proof.Defs
public import proofs.«01_k».proof.Proof.Gen.Ffn.Frame
public import proofs.«01_k».proof.Proof.FfnFrame
public import proofs.«01_k».proof.Proof.FfnReference

@[expose] public section

noncomputable section

namespace Cert.Proof.FfnClaims

open Idealize.ShloMosaic Idealize.ShloMosaic.TcCoe Idealize.SL.Sem

/-- The kernel and its idealization run the same body. -/
theorem bodies_eq : Cert.Ffn.defs₀ (F := Bits) = Cert.FfnIdeal.defs₀ (F := Bits) := by
  unfold Cert.Ffn.defs₀ Cert.FfnIdeal.defs₀
  refine congrArg Defs.onTc (funext fun l => funext fun a => ?_)
  obtain ⟨n, hn⟩ := l
  cases n with
  | zero => rfl
  | succ n => exact absurd hn (by omega)

theorem frame_p : Cert.quiescent_Ffn (hFfn := Cert.Ffn.Gen.facts) := fun m g _ => by
  unfold Cert.Ffn.defs
  rw [bodies_eq]
  exact Cert.FfnIdeal.Body.frame (F := Bits) m g

theorem frame_pi : Cert.quiescent_FfnIdeal (hFfnIdeal := Cert.FfnIdeal.Gen.facts) := fun m g _ => Cert.FfnIdeal.Body.frame m g

theorem frame_ri : Cert.quiescent_FfnRefIdeal (hFfnRefIdeal := Cert.FfnRefIdeal.Gen.facts) := fun m g _ =>
  (θ_run Cert.FfnRefIdeal.defs _ _).mono (fun r h => ⟨fun c => (h c).2, sem_eq_zero_of_no_sems (by decide) r.2⟩)
    (Cert.FfnRefIdeal.Value.run (F := Ideal) m g)

theorem preserves : Cert.preserves_Ffn_FfnIdeal := trivial

theorem algebraic : Cert.algebraic_FfnIdeal_FfnRefIdeal (hFfnIdeal := Cert.FfnIdeal.Gen.facts) (hFfnRefIdeal := Cert.FfnRefIdeal.Gen.facts) := by
  intro m g m' g' _ hargs
  refine ⟨fun c => Cert.FfnIdeal.Rows.layer (Cert.FfnIdeal.Rows.hA m c) (Cert.FfnIdeal.Rows.preA m c) (Cert.FfnIdeal.Rows.wgA m c) (Cert.FfnIdeal.Rows.wuA m c)
    (Cert.FfnIdeal.Rows.wdA m c) (Cert.FfnIdeal.Rows.postA m c), ?_, ?_⟩
  · exact (θ_run Cert.FfnIdeal.defs _ _).mono (fun r h c => ⟨((h.1 c).1 6).trans (Cert.FfnIdeal.Rows.arr6 m c), Cert.FfnIdeal.Body.kept m h.1 c⟩)
      (Cert.FfnIdeal.Body.run_main (F := Ideal) m g)
  · refine (θ_run Cert.FfnRefIdeal.defs _ _).mono (fun r h c => ?_) (Cert.FfnRefIdeal.Value.run (F := Ideal) m' g')
    obtain ⟨h0, hk⟩ := h c
    obtain ⟨e0, e1, e2, e3, e4, e5⟩ := hargs c
    refine ⟨h0.trans ?_, hk⟩
    rw [Cert.FfnRefIdeal.Rows.res_eq, e0, e1, e2, e3, e4, e5]
    exact Cert.FfnRefIdeal.Rows.result_eq _ _ _ _ _ _

end Cert.Proof.FfnClaims

end
-- ==== Proof.ProjBody.lean ====
/- The input projection's body, run case by case: what a point of the grid needs, and what it leaves. -/
module

public import proofs.«01_k».proof.Proof.Gen.ProjIdeal.Frame
public import proofs.«01_k».proof.Proof.Gen.ProjIdeal.Skeleton
public import Idealize.ShloMosaic.Lib.Pointwise
public import Idealize.ShloMosaic.Lib.Pipeline.ValueKit

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The normalized rows, kept along a row of the grid, -/
abbrev uM : Memref sig .tc .vmem S1024x2048 .bf16 := Memref.whole cc0_scratch0
/-- and the last sixteen weight rows, padded with zeros to all lanes. -/
abbrev eM : Memref sig .tc .vmem S128x2048 .bf16 := Memref.whole cc0_scratch1
theorem hU : uM.IsWhole := Memref.isWhole_whole _
theorem hE : eM.IsWhole := Memref.isWhole_whole _

section Runs

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1536x2048 .bf16) (harg4 : arg4.IsWhole) (arg5 : Memref sig .tc .vmem S16x2048 .bf16) (harg5 : arg5.IsWhole)
  (arg6 : Memref sig .tc .vmem S1024x1536 .f32) (harg6 : arg6.IsWhole) (arg7 : Memref sig .tc .vmem S1024x128 .f32) (harg7 : arg7.IsWhole)

/-- The body at these buffers. -/
abbrev body : Prog (TpuEff nD τ sig (Elt F) Λ₀ .tc) PUnit :=
  cc0_in_proj (F := F) i arg2 harg2 arg3 harg3 arg4 harg4 arg5 harg5 arg6 harg6 arg7 harg7 uM (Memref.isWhole_whole _) eM (Memref.isWhole_whole _)

variable (x : Vec F S1024x2048 .f32) (g : Vec F S1x2048 .f32) (w : Vec F S1536x2048 .bf16) (e : Vec F S16x2048 .bf16) (u : Vec F S1024x2048 .bf16)

set_option maxHeartbeats 800000 in
/-- Past a row's first point: the kept rows against the next block of weights. -/
def runRest (h1 : ¬ k0_cond1 i = 1#1) (h2 : k0_cond2 i = 1#1) :
    { L : List (View.Piece (Elt F) S1024x1536 .f32) // ∀ (K : PUnit → sProp 𝕄),
      iprop(owns (c : Thread nD τ) arg4 fullShare w ∗ (∃ d, owns (c : Thread nD τ) arg6 fullShare d) ∗ owns (c : Thread nD τ) uM fullShare u
          ∗ (iprop(owns (c : Thread nD τ) arg4 fullShare w
              ∗ (∃ f, arg6.view.loc (c : Thread nD τ) ↦[arg6.view.set]{fullShare} arg6.view.writes (Elt F) f L)
              ∗ owns (c : Thread nD τ) uM fullShare u) -∗ K ⟨⟩))
        ⊢ wp frame (wpE (defs₀ (F := F)) Variants.none c none) Set.univ
            (body i arg2 harg2 arg3 harg3 arg4 harg4 arg5 harg5 arg6 harg6 arg7 harg7) K } := by
  refine ⟨?_, fun K => ?run⟩
  case run =>
    unfold body
    simp only [cc0_in_proj_eq_skeleton]; unfold cc0_in_proj_skel
    unfold owns
    iintro ⟨⟨%fw, %hfw, HW⟩, ⟨%d, %fo, -, HO⟩, ⟨%fu, %hfu, HU⟩, Hk⟩
    obtain rfl := harg4.eq_unread hfw; obtain rfl := hU.eq_unread hfu
    sl_exec (disch := first | sl_exact h1 | sl_exact h2)
    sl_step
    iapply Hk
    isplitl [HW]
    · iexists _; isplitr; · ipureintro; exact harg4.read_unread _
      iexact HW
    isplitl [HO]; · iexists _; iexact HO
    iexists _; isplitr; · ipureintro; exact hU.read_unread _
    iexact HU

set_option maxHeartbeats 800000 in
/-- A row's first point: the rows are normalized and kept, and both results get their first block. -/
def runFirst (h1 : k0_cond1 i = 1#1) (h2 : ¬ k0_cond2 i = 1#1) :
    Σ' (LU : List (View.Piece (Elt F) S1024x2048 .bf16)) (LX : List (View.Piece (Elt F) S1024x128 .f32)),
      { L : List (View.Piece (Elt F) S1024x1536 .f32) // ∀ (K : PUnit → sProp 𝕄),
      iprop(owns (c : Thread nD τ) arg2 fullShare x ∗ owns (c : Thread nD τ) arg3 fullShare g ∗ owns (c : Thread nD τ) arg4 fullShare w
          ∗ owns (c : Thread nD τ) arg5 fullShare e
          ∗ (∃ d, owns (c : Thread nD τ) arg6 fullShare d) ∗ (∃ d, owns (c : Thread nD τ) arg7 fullShare d)
          ∗ (∃ d, owns (c : Thread nD τ) uM fullShare d) ∗ (∃ d, owns (c : Thread nD τ) eM fullShare d)
          ∗ (iprop(owns (c : Thread nD τ) arg2 fullShare x ∗ owns (c : Thread nD τ) arg3 fullShare g ∗ owns (c : Thread nD τ) arg4 fullShare w
              ∗ owns (c : Thread nD τ) arg5 fullShare e
              ∗ (∃ f, arg6.view.loc (c : Thread nD τ) ↦[arg6.view.set]{fullShare} arg6.view.writes (Elt F) f L)
              ∗ (∃ f, arg7.view.loc (c : Thread nD τ) ↦[arg7.view.set]{fullShare} arg7.view.writes (Elt F) f LX)
              ∗ (∃ f, uM.view.loc (c : Thread nD τ) ↦[uM.view.set]{fullShare} uM.view.writes (Elt F) f LU)
              ∗ (∃ d, owns (c : Thread nD τ) eM fullShare d)) -∗ K ⟨⟩))
        ⊢ wp frame (wpE (defs₀ (F := F)) Variants.none c none) Set.univ
            (body i arg2 harg2 arg3 harg3 arg4 harg4 arg5 harg5 arg6 harg6 arg7 harg7) K } := by
  refine ⟨?_, ?_, ?_, fun K => ?run⟩
  case run =>
    unfold body
    simp only [cc0_in_proj_eq_skeleton]; unfold cc0_in_proj_skel
    simp only [k0_part1_eq_skeleton, k0_part2_eq_skeleton, k0_part3_eq_skeleton]; unfold k0_part1_skel k0_part2_skel k0_part3_skel
    unfold owns
    iintro ⟨⟨%fx, %hfx, HX⟩, ⟨%fg, %hfg, HG⟩, ⟨%fw, %hfw, HW⟩, ⟨%fe, %hfe, HE⟩, ⟨%dq, %fo, -, HO⟩, ⟨%dp, %fp, -, HP⟩, ⟨%du, %fu, -, HU⟩, ⟨%dz, %fz, -, HZ⟩, Hk⟩
    obtain rfl := harg2.eq_unread hfx; obtain rfl := harg3.eq_unread hfg
    obtain rfl := harg4.eq_unread hfw; obtain rfl := harg5.eq_unread hfe
    sl_exec (disch := first | sl_exact h1 | sl_exact h2)
    sl_step
    iapply Hk
    isplitl [HX]
    · iexists _; isplitr; · ipureintro; exact harg2.read_unread _
      iexact HX
    isplitl [HG]
    · iexists _; isplitr; · ipureintro; exact harg3.read_unread _
      iexact HG
    isplitl [HW]
    · iexists _; isplitr; · ipureintro; exact harg4.read_unread _
      iexact HW
    isplitl [HE]
    · iexists _; isplitr; · ipureintro; exact harg5.read_unread _
      iexact HE
    isplitl [HO]; · iexists _; iexact HO
    isplitl [HP]; · iexists _; iexact HP
    isplitl [HU]; · iexists _; iexact HU
    iexists _; iexists _; isplitr; swap
    · iexact HZ
    ipureintro; rfl

end Runs

end Cert.ProjIdeal.Body

end
-- ==== Proof.ProjStep.lean ====
/- What a point of the input projection leaves, as a function of what it read. -/
module

public import proofs.«01_k».proof.Proof.ProjBody

@[expose] public section

set_option maxRecDepth 16384

noncomputable section

namespace Cert.ProjIdeal.Body

open Cert.ProjIdeal Cert.ProjIdeal.Gen
open Idealize.ShloMosaic Idealize.ShloMosaic.TcCoe Idealize.ShloMosaic.Tactic

variable {F : FTy → Type} [FloatOps F]

/-- The four runs of 256 rows that a row's first point works through. -/
abbrev q0 : Rect S1024x2048 := Rect.unit ![0, 0] ![256, 2048] inb_S1024x2048_S256x2048_0_0
abbrev q1 : Rect S1024x2048 := Rect.unit ![256, 0] ![256, 2048] inb_S1024x2048_S256x2048_256_0
abbrev q2 : Rect S1024x2048 := Rect.unit ![512, 0] ![256, 2048] inb_S1024x2048_S256x2048_512_0
abbrev q3 : Rect S1024x2048 := Rect.unit ![768, 0] ![256, 2048] inb_S1024x2048_S256x2048_768_0
/-- The same rows of the two results' blocks. -/
abbrev o0 : Rect S1024x1536 := Rect.unit ![0, 0] ![256, 1536] inb_S1024x1536_S256x1536_0_0
abbrev o1 : Rect S1024x1536 := Rect.unit ![256, 0] ![256, 1536] inb_S1024x1536_S256x1536_256_0
abbrev o2 : Rect S1024x1536 := Rect.unit ![512, 0] ![256, 1536] inb_S1024x1536_S256x1536_512_0
abbrev o3 : Rect S1024x1536 := Rect.unit ![768, 0] ![256, 1536] inb_S1024x1536_S256x1536_768_0
abbrev p0 : Rect S1024x128 := Rect.unit ![0, 0] ![256, 128] inb_S1024x128_S256x128_0_0
abbrev p1 : Rect S1024x128 := Rect.unit ![256, 0] ![256, 128] inb_S1024x128_S256x128_256_0
abbrev p2 : Rect S1024x128 := Rect.unit ![512, 0] ![256, 128] inb_S1024x128_S256x128_512_0
abbrev p3 : Rect S1024x128 := Rect.unit ![768, 0] ![256, 128] inb_S1024x128_S256x128_768_0

/-- Loads of whole buffers read their contents. -/
theorem ld_gain (v : Vec F S1x2048 .f32) : View.ld v (Rect.unit ![0, 0] ![1, 2048] inb_S1x2048_S1x2048_0_0) = v := View.ld_unit_lit (S := S1x2048) _ _ (by decide)
theorem ld_weights (v : Vec F S1536x2048 .bf16) : View.ld v (Rect.unit ![0, 0] ![1536, 2048] inb_S1536x2048_S1536x2048_0_0) = v :=
  View.ld_unit_lit (S := S1536x2048) _ _ (by decide)
theorem ld_few (v : Vec F S16x2048 .bf16) : View.ld v (Rect.unit ![0, 0] ![16, 2048] inb_S16x2048_S16x2048_0_0) = v :=
  View.ld_unit_lit (S := S16x2048) _ _ (by decide)
theorem ld_padded (v : Vec F S128x2048 .bf16) : View.ld v (Rect.unit ![0, 0] ![128, 2048] inb_S128x2048_S128x2048_0_0) = v :=
  View.ld_unit_lit (S := S128x2048) _ _ (by decide)
theorem ld_kept (v : Vec F S1024x2048 .bf16) : View.ld v (Rect.unit ![0, 0] ![1024, 2048] inb_S1024x2048_S1024x2048_0_0) = v :=
  View.ld_unit_lit (S := S1024x2048) _ _ (by decide)
theorem read_kept (v : Vec F S1024x2048 .bf16) : View.read (Elt F) (View.whole cc0_scratch0) (hU.unread v) = v := hU.read_unread v

section Steps

variable (x : Vec F S1024x2048 .f32) (g : Vec F S1x2048 .f32) (w : Vec F S1536x2048 .bf16) (e : Vec F S16x2048 .bf16) (u : Vec F S1024x2048 .bf16)

/-- The last weight rows on zeros. -/
def padded : Vec F S128x2048 .bf16 :=
  View.canon [⟨Rect.unit ![0, 0] ![16, 2048] inb_S128x2048_S16x2048_0_0, k0_pay7 e⟩, ⟨Rect.unit ![0, 0] ![128, 2048] inb_S128x2048_S128x2048_0_0, k0_pay6⟩]
/-- The normalized rows that a row's first point keeps, -/
def startU : Vec F S1024x2048 .bf16 :=
  View.canon [⟨q3, k0_pay2 (View.ld x q3) (k0_pay20 g) (k0_pay21 (View.ld x q3))⟩, ⟨q2, k0_pay17 (View.ld x q2) g⟩,
    ⟨q1, k0_pay13 (View.ld x q1) g⟩, ⟨q0, k0_pay9 (View.ld x q0) g⟩]
/-- its block of the result, -/
def startOut : Vec F S1024x1536 .f32 :=
  View.canon [⟨o3, k0_pay3 (View.ld x q3) (k0_pay20 g) (k0_pay21 (View.ld x q3)) w⟩, ⟨o2, k0_pay18 (View.ld x q2) g w⟩,
    ⟨o1, k0_pay14 (View.ld x q1) g w⟩, ⟨o0, k0_pay10 (View.ld x q0) g w⟩]
/-- and of the result for the last weight rows. -/
def startExtra : Vec F S1024x128 .f32 :=
  View.canon [⟨p3, k0_pay4 (View.ld x q3) (k0_pay20 g) (k0_pay21 (View.ld x q3)) (padded e)⟩, ⟨p2, k0_pay19 (View.ld x q2) g (padded e)⟩,
    ⟨p1, k0_pay15 (View.ld x q1) g (padded e)⟩, ⟨p0, k0_pay11 (k0_pay8 (View.ld x q0) g) (padded e)⟩]
/-- A later point's block of the result. -/
def restOut : Vec F S1024x1536 .f32 := k0_pay5 u w

/-- Zeros stored all over, then the few rows on top, read back whole. -/
theorem readCov_padded (v : View sig .tc .vmem S128x2048 .bf16) (a : Vec F S16x2048 .bf16) (z : Vec F S128x2048 .bf16) :
    v.readCov (Val := Elt F) [⟨Rect.unit ![0, 0] ![16, 2048] inb_S128x2048_S16x2048_0_0, a⟩, ⟨Rect.unit ![0, 0] ![128, 2048] inb_S128x2048_S128x2048_0_0, z⟩]
        (Rect.unit ![0, 0] ![128, 2048] inb_S128x2048_S128x2048_0_0).toLoadRect
      = View.canon [⟨Rect.unit ![0, 0] ![16, 2048] inb_S128x2048_S16x2048_0_0, a⟩, ⟨Rect.unit ![0, 0] ![128, 2048] inb_S128x2048_S128x2048_0_0, z⟩] :=
  (View.readCov_eq_canon' v _ _).trans (ld_padded _)

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1536x2048 .bf16) (harg4 : arg4.IsWhole) (arg5 : Memref sig .tc .vmem S16x2048 .bf16) (harg5 : arg5.IsWhole)
  (arg6 : Memref sig .tc .vmem S1024x1536 .f32) (harg6 : arg6.IsWhole) (arg7 : Memref sig .tc .vmem S1024x128 .f32) (harg7 : arg7.IsWhole)

/-- A later point leaves the kept rows against its weights, -/
theorem rest_reads (h1 : ¬ k0_cond1 i = 1#1) (h2 : k0_cond2 i = 1#1) (f) :
    arg6.view.read (Elt F) (arg6.view.writes (Elt F) f
      (runRest c i arg2 harg2 arg3 harg3 arg4 harg4 arg5 harg5 arg6 harg6 arg7 harg7 w u h1 h2).1) = restOut w u := by
  rw [View.read_writes_eq_canon _ _ _ fun y => View.cover_of_tiledL _ S1024x1536.size (by sl_kernel_rfl) y]
  unfold runRest restOut; dsimp only
  rw [View.canon_unit_zero (by decide)]
  simp only [View.readAt_eq_ld, Memref.IsWhole.read_unread, ld_weights, ld_kept, read_kept]

/-- and a row's first point its three blocks. -/
theorem first_reads (h1 : k0_cond1 i = 1#1) (h2 : ¬ k0_cond2 i = 1#1) :
    (∀ f, uM.view.read (Elt F) (uM.view.writes (Elt F) f
        (runFirst c i arg2 harg2 arg3 harg3 arg4 harg4 arg5 harg5 arg6 harg6 arg7 harg7 x g w e h1 h2).1) = startU x g)
      ∧ (∀ f, arg7.view.read (Elt F) (arg7.view.writes (Elt F) f
        (runFirst c i arg2 harg2 arg3 harg3 arg4 harg4 arg5 harg5 arg6 harg6 arg7 harg7 x g w e h1 h2).2.1) = startExtra x g e)
      ∧ ∀ f, arg6.view.read (Elt F) (arg6.view.writes (Elt F) f
        (runFirst c i arg2 harg2 arg3 harg3 arg4 harg4 arg5 harg5 arg6 harg6 arg7 harg7 x g w e h1 h2).2.2.1) = startOut x g w := by
  refine ⟨fun f => ?_, fun f => ?_, fun f => ?_⟩
  · rw [View.read_writes_eq_canon _ _ _ fun y => View.cover_of_tiledL _ ![256, 2048] (by sl_kernel_rfl) y]
    unfold runFirst startU; dsimp only
    simp only [View.readAt_eq_ld, Memref.IsWhole.read_unread, ld_gain, ld_weights, ld_few]
  · rw [View.read_writes_eq_canon _ _ _ fun y => View.cover_of_tiledL _ ![256, 128] (by sl_kernel_rfl) y]
    unfold runFirst startExtra padded; dsimp only; unfold runFirst.sl.v116 runFirst.sl.v38 runFirst.sl.HZ_2
    simp only [View.readAt_eq_ld, Memref.IsWhole.read_unread, ld_gain, ld_weights, ld_few, readCov_padded]
  · rw [View.read_writes_eq_canon _ _ _ fun y => View.cover_of_tiledL _ ![256, 1536] (by sl_kernel_rfl) y]
    unfold runFirst startOut; dsimp only
    simp only [View.readAt_eq_ld, Memref.IsWhole.read_unread, ld_gain, ld_weights, ld_few]

end Steps

end Cert.ProjIdeal.Body

end
-- ==== Proof.ProjData.lean ====
/- The input projection's run as the pipeline sees it: what its results' buffers and its kept rows hold after each point.
A row of the grid keeps what its first point normalized. -/
module

public import proofs.«01_k».proof.Proof.ProjStep
public import Idealize.ShloMosaic.Lib.Pipeline.TableIdle

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body reads at a point -/

abbrev xBlk (c : Dev nD) (t : Fin cfg0.N) : Vec F S1024x2048 .f32 := iblk m c 0 t
abbrev preBlk (c : Dev nD) (t : Fin cfg0.N) : Vec F S1x2048 .f32 := iblk m c 1 t
abbrev wBlk (c : Dev nD) (t : Fin cfg0.N) : Vec F S1536x2048 .bf16 := X0_2 m c t
abbrev eBlk (c : Dev nD) (t : Fin cfg0.N) : Vec F S16x2048 .bf16 := iblk m c 3 t

/-- The first point of a point's row of the grid. -/
def rowStart (t : Fin cfg0.N) : Fin cfg0.N := ⟨t.val / 4 * 4, Nat.lt_of_le_of_lt (Nat.div_mul_le_self _ _) t.isLt⟩

theorem rowStart_first (t : Fin cfg0.N) (h : t.val % 4 = 0) : rowStart t = t := Fin.ext (by unfold rowStart; dsimp only; omega)
theorem rowStart_rest (t : Fin cfg0.N) (h : t.val % 4 ≠ 0) : rowStart t = rowStart ⟨t.val - 1, Nat.lt_of_le_of_lt (Nat.sub_le _ _) t.isLt⟩ :=
  Fin.ext (by unfold rowStart; dsimp only; omega)

/-- The normalized rows that a row of the grid keeps, -/
def uAt (c : Dev nD) (t : Fin cfg0.N) : Vec F S1024x2048 .bf16 := startU (xBlk m c (rowStart t)) (preBlk m c (rowStart t))
/-- a point's block of the result, -/
def outAt (c : Dev nD) (t : Fin cfg0.N) : Vec F S1024x1536 .f32 :=
  if t.val % 4 = 0 then startOut (xBlk m c t) (preBlk m c t) (wBlk m c t) else restOut (wBlk m c t) (uAt m c t)
/-- and its row's block of the result for the last weight rows. -/
def extraAt (c : Dev nD) (t : Fin cfg0.N) : Vec F S1024x128 .f32 :=
  startExtra (xBlk m c (rowStart t)) (preBlk m c (rowStart t)) (eBlk m c (rowStart t))

theorem uAt_first (c : Dev nD) (t : Fin cfg0.N) (h : t.val % 4 = 0) : uAt m c t = startU (xBlk m c t) (preBlk m c t) := by
  unfold uAt; rw [rowStart_first t h]
theorem uAt_rest (c : Dev nD) (t : Fin cfg0.N) (h : t.val % 4 ≠ 0) :
    uAt m c t = uAt m c ⟨t.val - 1, Nat.lt_of_le_of_lt (Nat.sub_le _ _) t.isLt⟩ := by
  unfold uAt; rw [rowStart_rest t h]
theorem outAt_first (c : Dev nD) (t : Fin cfg0.N) (h : t.val % 4 = 0) : outAt m c t = startOut (xBlk m c t) (preBlk m c t) (wBlk m c t) := if_pos h
theorem outAt_rest (c : Dev nD) (t : Fin cfg0.N) (h : t.val % 4 ≠ 0) : outAt m c t = restOut (wBlk m c t) (uAt m c t) := if_neg h
theorem extraAt_first (c : Dev nD) (t : Fin cfg0.N) (h : t.val % 4 = 0) : extraAt m c t = startExtra (xBlk m c t) (preBlk m c t) (eBlk m c t) := by
  unfold extraAt; rw [rowStart_first t h]
theorem extraAt_rest (c : Dev nD) (t : Fin cfg0.N) (h : t.val % 4 ≠ 0) :
    extraAt m c t = extraAt m c ⟨t.val - 1, Nat.lt_of_le_of_lt (Nat.sub_le _ _) t.isLt⟩ := by
  unfold extraAt; rw [rowStart_rest t h]

/-! ## What is held between points -/

/-- Before the first point: both scratch buffers at anything. -/
theorem phi_open (c : Dev nD) :
    (Pipeline.ΦA spec0 c : sProp 𝕄)
      = iprop(iprop((∃ d, owns (c : Thread nD τ) uM fullShare d) ∗ (∃ d, owns (c : Thread nD τ) eM fullShare d)) ∗ (∃ r, prngReg c r)) := by
  unfold Pipeline.ΦA
  rw [scopedRest0_eq]
  simp only [uM, eM, owns_whole]; try rfl

/-- What is held before the point `n`: the rows kept by the point before, the padded weights at whatever they are. -/
def PhiS (c : Dev nD) : (n : ℕ) → n ≤ cfg0.N → sProp 𝕄
  | 0, _ => Pipeline.ΦA spec0 c
  | n + 1, h => iprop(iprop(owns (c : Thread nD τ) uM fullShare (uAt m c ⟨n, h⟩) ∗ (∃ d, owns (c : Thread nD τ) eM fullShare d)) ∗ (∃ r, prngReg c r))

theorem PhiS_succ (c : Dev nD) (n : ℕ) (h : n < cfg0.N) :
    PhiS m c (n + 1) h = iprop(iprop(owns (c : Thread nD τ) uM fullShare (uAt m c ⟨n, h⟩) ∗ (∃ d, owns (c : Thread nD τ) eM fullShare d)) ∗ (∃ r, prngReg c r)) := rfl
/-- Whatever is held, both scratch buffers are. -/
theorem PhiS_any (c : Dev nD) (n : ℕ) (h : n ≤ cfg0.N) : PhiS m c n h ⊢ Pipeline.ΦA spec0 c := by
  cases n with
  | zero => exact .rfl
  | succ n =>
    rw [PhiS_succ, phi_open]
    iintro ⟨⟨HU, HE⟩, Hr⟩
    isplitl [HU HE]
    · isplitl [HU]; · iexists _; iexact HU
      iexact HE
    iexact Hr
theorem PhiS_rest (c : Dev nD) (t : Fin cfg0.N) (h : t.val % 4 ≠ 0) :
    PhiS m c t.val (Nat.le_of_lt t.isLt)
      = iprop(iprop(owns (c : Thread nD τ) uM fullShare (uAt m c t) ∗ (∃ d, owns (c : Thread nD τ) eM fullShare d)) ∗ (∃ r, prngReg c r)) := by
  rw [uAt_rest m c t h]
  obtain ⟨n, hn⟩ := t
  cases n with
  | zero => exact absurd rfl h
  | succ n => rfl

/-! ## The proof data -/

/-- The proof data of the one pipeline: the arrays as the region finds them, each input left as it was, the two results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => outAt m c t
    | ⟨5, _⟩ => extraAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem after0_5 (c : Dev nD) (t : Fin cfg0.N) : (dats m 0 c).after 5 t = extraAt m c t := by dsimp only [dats]

/-- Each input's buffer holds its block at every point, fetched there or before. -/
theorem before0_0 (c : Dev nD) (t : Fin cfg0.N) (d) : (dats m 0 c).before 0 t d = xBlk m c t :=
  before0_0_of m (dats m 0 c) (A_eq m c 0) (after0_0 m c) t d
theorem before0_1 (c : Dev nD) (t : Fin cfg0.N) (d) : (dats m 0 c).before 1 t d = preBlk m c t :=
  before0_1_of m (dats m 0 c) (A_eq m c 1) (after0_1 m c) t d
theorem before0_2 (c : Dev nD) (t : Fin cfg0.N) (d) : (dats m 0 c).before 2 t d = wBlk m c t :=
  before0_2_of m (dats m 0 c) (A_eq m c 2) (after0_2 m c) t d
theorem before0_3 (c : Dev nD) (t : Fin cfg0.N) (d) : (dats m 0 c).before 3 t d = eBlk m c t :=
  before0_3_of m (dats m 0 c) (A_eq m c 3) (after0_3 m c) t d

/-! ## Which case a point is -/

theorem at_first : ∀ t : Fin cfg0.N, k0_cond1 (grid0.coords t) = 1#1 ↔ t.val % 4 = 0 := by decide +kernel
theorem at_rest : ∀ t : Fin cfg0.N, k0_cond2 (grid0.coords t) = 1#1 ↔ t.val % 4 ≠ 0 := by decide +kernel
/-- Every point stores the result's block, -/
theorem live (i : grid0.Coords) : cfg0.idle 4 i = false := by
  revert i; decide +kernel
/-- and only a row's first point the other result's. -/
theorem idle_rest : ∀ t : Fin cfg0.N, cfg0.idle 5 (cfg0.grid.coords t) = true ↔ t.val % 4 ≠ 0 := by decide +kernel
theorem fresh_rest : ∀ t : Fin cfg0.N, t.val % 4 ≠ 0 → cfg0.fresh 5 t.val = false := by decide +kernel

/-- Past a row's first point the other result's buffer holds what that point stored. -/
theorem before0_5 (c : Dev nD) (t : Fin cfg0.N) (h : t.val % 4 ≠ 0) (d) : (dats m 0 c).before 5 t d = extraAt m c t := by
  rw [(dats m 0 c).before_out_traj 5 rfl (fun _ _ => rfl) (fun t _ hi _ => by
      rw [after0_5, after0_5]; exact extraAt_rest m c t ((idle_rest t).mp hi)) t.val t rfl d, fresh_rest t h, if_neg Bool.false_ne_true, after0_5]
  exact (extraAt_rest m c t h).symm

end Cert.ProjIdeal.Body

end
-- ==== Proof.ProjFrame.lean ====
/- The input projection's frame: its body at every point takes what is held before the point to what is held after it,
so the launch runs, leaves its arguments as they were, and leaves both results' arrays at what the points stored. -/
module

public import proofs.«01_k».proof.Proof.ProjData

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- and what it leaves, `X` being what it leaves of the second result's buffer. -/
def bodyPost (c : Dev nD) (t : Fin cfg0.N) (X : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ X)

/-- The second result's buffer at the row's block, -/
abbrev stored (c : Dev nD) (t : Fin cfg0.N) : sProp 𝕄 := owns (c : Thread nD τ) (st0_5 t) fullShare ((dats m 0 c).after 5 t)
/-- or as it was found. -/
abbrev found (c : Dev nD) (t : Fin cfg0.N) : sProp 𝕄 := iprop(∃ d, owns (c : Thread nD τ) (st0_5 t) fullShare ((dats m 0 c).before 5 t d))

/-- The body's triple at a point. -/
abbrev BodyAt (c : Dev nD) (t : Fin cfg0.N) (X : sProp 𝕄) : Prop :=
  bodyPre m c t ⊢ wp frame (wpE (defs₀ (F := F)) Variants.none c none) Set.univ (bodyAt0 t) (fun _ => bodyPost m c t X)

/-- A row's first point. -/
theorem body_first (c : Dev nD) (t : Fin cfg0.N) (h : t.val % 4 = 0) : BodyAt m c t (stored m c t) := by
  unfold BodyAt bodyPre bodyPost stored
  simp only [before0_0, before0_1, before0_2, before0_3]
  rw [after0_0, after0_1, after0_2, after0_3, after0_4, after0_5, PhiS_castSucc, Phi_succ, PhiS_succ, uAt_first m c t h, outAt_first m c t h, extraAt_first m c t h]
  unfold Dat.owesAt Pipeline.owesWithin
  rw [show (dats m 0 c).owed t.castSucc = 0 from rfl, show (dats m 0 c).owed t.succ = 0 from rfl]
  refine (sep_mono_left (PhiS_any m c _ _)).trans ?_
  rw [phi_open]
  unfold bodyAt0
  iintro ⟨⟨⟨HU, HE⟩, Hr⟩, HO, ⟨%d0, H0⟩, ⟨%d1, H1⟩, ⟨%d2, H2⟩, ⟨%d3, H3⟩, ⟨%d4, H4⟩, ⟨%d5, H5⟩⟩
  iapply ((runFirst c (grid0.coords t) (st0_0 t) _ (st0_1 t) _ (st0_2 t) _ (st0_3 t) _ (st0_4 t) _ (st0_5 t) _ (xBlk m c t) (preBlk m c t) (wBlk m c t) (eBlk m c t)
    (by rw [at_first]; exact h) (by rw [at_rest]; omega)).2.2.2 _)
  isplitl [H0]; · iexact H0
  isplitl [H1]; · iexact H1
  isplitl [H2]; · iexact H2
  isplitl [H3]; · iexact H3
  isplitl [H4]; · iexists _; iexact H4
  isplitl [H5]; · iexists _; iexact H5
  isplitl [HU]; · iexact HU
  isplitl [HE]; · iexact HE
  iintro ⟨H0, H1, H2, H3, ⟨%e4, H4⟩, ⟨%e5, H5⟩, ⟨%eu, HU⟩, HE⟩
  isplitl [HU HE Hr]
  · isplitl [HU HE]
    · isplitl [HU]
      · unfold owns; iexists _; isplitr
        swap; · iexact HU
        ipureintro; exact (first_reads ..).1 _
      iexact HE
    iexact Hr
  isplitl [HO]; · iexact HO
  isplitl [H0]; · iexact H0
  isplitl [H1]; · iexact H1
  isplitl [H2]; · iexact H2
  isplitl [H3]; · iexact H3
  isplitl [H4]
  · unfold owns; iexists _; isplitr
    swap; · iexact H4
    ipureintro; exact (first_reads ..).2.2 _
  unfold owns; iexists _; isplitr
  swap; · iexact H5
  ipureintro; exact (first_reads ..).2.1 _

/-- A later point of a row. -/
theorem body_rest (c : Dev nD) (t : Fin cfg0.N) (h : t.val % 4 ≠ 0) : BodyAt m c t (found m c t) := by
  unfold BodyAt bodyPre bodyPost found
  simp only [before0_0, before0_1, before0_2, before0_3]
  rw [after0_0, after0_1, after0_2, after0_3, after0_4, PhiS_castSucc, Phi_succ, PhiS_succ, PhiS_rest m c t h, outAt_rest m c t h]
  unfold Dat.owesAt Pipeline.owesWithin
  rw [show (dats m 0 c).owed t.castSucc = 0 from rfl, show (dats m 0 c).owed t.succ = 0 from rfl]
  unfold bodyAt0
  iintro ⟨⟨⟨HU, HE⟩, Hr⟩, HO, ⟨%d0, H0⟩, ⟨%d1, H1⟩, ⟨%d2, H2⟩, ⟨%d3, H3⟩, ⟨%d4, H4⟩, H5⟩
  iapply ((runRest c (grid0.coords t) (st0_0 t) _ (st0_1 t) _ (st0_2 t) _ (st0_3 t) _ (st0_4 t) _ (st0_5 t) _ (wBlk m c t) (uAt m c t)
    (by rw [at_first]; exact h) (by rw [at_rest]; exact h)).2 _)
  isplitl [H2]; · iexact H2
  isplitl [H4]; · iexists _; iexact H4
  isplitl [HU]; · iexact HU
  iintro ⟨H2, ⟨%e4, H4⟩, HU⟩
  isplitl [HU HE Hr]
  · isplitl [HU HE]
    · isplitl [HU]; · iexact HU
      iexact HE
    iexact Hr
  isplitl [HO]; · iexact HO
  isplitl [H0]; · iexact H0
  isplitl [H1]; · iexact H1
  isplitl [H2]; · iexact H2
  isplitl [H3]; · iexact H3
  isplitl [H4]
  · unfold owns; iexists _; isplitr
    swap; · iexact H4
    ipureintro; exact rest_reads ..
  iexact H5

/-- What was found past a row's first point is what that point stored. -/
theorem found_stored (c : Dev nD) (t : Fin cfg0.N) (h : t.val % 4 ≠ 0) : found m c t ⊢ stored m c t := by
  unfold found stored
  simp only [before0_5 m c t h]
  rw [after0_5]
  iintro ⟨%d, H⟩
  iexact H
theorem post_mono (c : Dev nD) (t : Fin cfg0.N) {X Y : sProp 𝕄} (h : X ⊢ Y) : bodyPost m c t X ⊢ bodyPost m c t Y := by
  unfold bodyPost
  iintro ⟨HP, HO, H0, H1, H2, H3, H4, H5⟩
  isplitl [HP]; · iexact HP
  isplitl [HO]; · iexact HO
  isplitl [H0]; · iexact H0
  isplitl [H1]; · iexact H1
  isplitl [H2]; · iexact H2
  isplitl [H3]; · iexact H3
  isplitl [H4]; · iexact H4
  iapply h; iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row, show cfg0.idle 4 (cfg0.grid.coords t) = false from live _]
  by_cases h : t.val % 4 = 0
  · rw [show cfg0.idle 5 (cfg0.grid.coords t) = false from by rw [Bool.eq_false_iff, ne_eq, idle_rest]; omega]
    exact triple_restated (body_first m c t h) rfl .rfl fun _ => .rfl
  · rw [show cfg0.idle 5 (cfg0.grid.coords t) = true from (idle_rest t).mpr h]
    by_cases hl : t.val % 4 = 3
    · rw [show (cfg0.win 5).flush t = true from (flush0_5 t).mpr hl]
      exact triple_restated (body_rest m c t h) rfl .rfl fun _ => post_mono m c t (found_stored m c t h)
    · rw [show (cfg0.win 5).flush t = false from by rw [Bool.eq_false_iff, ne_eq, flush0_5]; exact hl]
      exact triple_restated (body_rest m c t h) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track_shared (Q' := fun r => Pipeline.FramePost cfgs (dats m) 0 (V m) r ∧ r.2.sem = fun _ => 0)
    cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => .rfl) (hout := fun c => PhiS_any m c cfg0.N (le_refl _))

/-- What a run leaves of the arguments. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨kept m h.1, h.2⟩) (run_main m ρ)

end Cert.ProjIdeal.Body

end
-- ==== Proof.ProjRows.lean ====
/- The input projection's arithmetic over the extended reals, a row at a time: what each store of the body puts at an
   index, and what a point leaves there. -/
module

public import proofs.«01_k».proof.Proof.ProjStep
public import proofs.«01_k».proof.Proof.FfnRows

@[expose] public section

set_option maxRecDepth 16384

noncomputable section

namespace Cert.ProjIdeal.Rows

open Cert.ProjIdeal Cert.ProjIdeal.Gen Cert.ProjIdeal.Body
open Idealize.ShloMosaic

/-- A normalized row of a block. -/
abbrev nrm {n : ℕ} (x : Vec Ideal ⟨2, ![n, 2048]⟩ .f32) (g : Vec Ideal S1x2048 .f32) (r : Fin n) : Fin 2048 → EReal :=
  Cert.FfnIdeal.Rows.norm (fun j => x (ix2 r j)) (fun j => g (ix2 0 j))

/-! ## The stores at an index -/

section Stores

variable (x : Vec Ideal S256x2048 .f32) (g : Vec Ideal S1x2048 .f32) (w : Vec Ideal S1536x2048 .bf16) (p : Vec Ideal S128x2048 .bf16)
  (u : Vec Ideal S1024x2048 .bf16) (r : Fin 256)

theorem pay8_apply (k : Fin 2048) : (k0_pay8 x g (ix2 r k) : EReal) = nrm x g r k := by
  unfold k0_pay8 nrm Cert.FfnIdeal.Rows.norm
  pointwise
theorem pay12_apply (k : Fin 2048) : (k0_pay12 x g (ix2 r k) : EReal) = nrm x g r k := by
  unfold k0_pay12 nrm Cert.FfnIdeal.Rows.norm
  pointwise
theorem pay16_apply (k : Fin 2048) : (k0_pay16 x g (ix2 r k) : EReal) = nrm x g r k := by
  unfold k0_pay16 nrm Cert.FfnIdeal.Rows.norm
  pointwise
theorem pay1_apply (k : Fin 2048) : (k0_pay1 x (k0_pay20 g) (k0_pay21 x) (ix2 r k) : EReal) = nrm x g r k := by
  unfold k0_pay1 k0_pay20 k0_pay21 nrm Cert.FfnIdeal.Rows.norm
  pointwise

theorem pay9_apply (k : Fin 2048) : (k0_pay9 x g (ix2 r k) : EReal) = nrm x g r k := by
  unfold k0_pay9
  pointwise
  exact pay8_apply x g r k
theorem pay13_apply (k : Fin 2048) : (k0_pay13 x g (ix2 r k) : EReal) = nrm x g r k := by
  unfold k0_pay13
  pointwise
  exact pay12_apply x g r k
theorem pay17_apply (k : Fin 2048) : (k0_pay17 x g (ix2 r k) : EReal) = nrm x g r k := by
  unfold k0_pay17
  pointwise
  exact pay16_apply x g r k
theorem pay2_apply (k : Fin 2048) : (k0_pay2 x (k0_pay20 g) (k0_pay21 x) (ix2 r k) : EReal) = nrm x g r k := by
  unfold k0_pay2
  pointwise
  exact pay1_apply x g r k

theorem pay10_apply (q : Fin 1536) : (k0_pay10 x g w (ix2 r q) : EReal) = ∑ j, nrm x g r j * w (ix2 q j) := by
  unfold k0_pay10
  pointwise
  simp only [pay8_apply]
theorem pay14_apply (q : Fin 1536) : (k0_pay14 x g w (ix2 r q) : EReal) = ∑ j, nrm x g r j * w (ix2 q j) := by
  unfold k0_pay14
  pointwise
  simp only [pay12_apply]
theorem pay18_apply (q : Fin 1536) : (k0_pay18 x g w (ix2 r q) : EReal) = ∑ j, nrm x g r j * w (ix2 q j) := by
  unfold k0_pay18
  pointwise
  simp only [pay16_apply]
theorem pay3_apply (q : Fin 1536) : (k0_pay3 x (k0_pay20 g) (k0_pay21 x) w (ix2 r q) : EReal) = ∑ j, nrm x g r j * w (ix2 q j) := by
  unfold k0_pay3
  pointwise
  simp only [pay1_apply]

theorem pay11_apply (q : Fin 128) : (k0_pay11 (k0_pay8 x g) p (ix2 r q) : EReal) = ∑ j, nrm x g r j * p (ix2 q j) := by
  unfold k0_pay11
  pointwise
  simp only [pay8_apply]
theorem pay15_apply (q : Fin 128) : (k0_pay15 x g p (ix2 r q) : EReal) = ∑ j, nrm x g r j * p (ix2 q j) := by
  unfold k0_pay15
  pointwise
  simp only [pay12_apply]
theorem pay19_apply (q : Fin 128) : (k0_pay19 x g p (ix2 r q) : EReal) = ∑ j, nrm x g r j * p (ix2 q j) := by
  unfold k0_pay19
  pointwise
  simp only [pay16_apply]
theorem pay4_apply (q : Fin 128) : (k0_pay4 x (k0_pay20 g) (k0_pay21 x) p (ix2 r q) : EReal) = ∑ j, nrm x g r j * p (ix2 q j) := by
  unfold k0_pay4
  pointwise
  simp only [pay1_apply]

theorem pay5_apply (r : Fin 1024) (q : Fin 1536) : (k0_pay5 u w (ix2 r q) : EReal) = ∑ j, u (ix2 r j) * w (ix2 q j) := by
  unfold k0_pay5
  pointwise

/-- The padded weights: the few rows, then zeros. -/
theorem padded_apply (e : Vec Ideal S16x2048 .bf16) (q : Fin 128) (j : Fin 2048) :
    (padded e (ix2 q j) : EReal) = if h : q.val < 16 then e (ix2 ⟨q.val, h⟩ j) else 0 := by
  unfold padded
  by_cases h : q.val < 16
  · rw [dif_pos h, show (ix2 q j : S128x2048.Idx) = (Rect.unit (s := S128x2048) ![0, 0] ![16, 2048] inb_S128x2048_S16x2048_0_0).emb (ix2 ⟨q.val, h⟩ j : S16x2048.Idx) from
      funext fun a => Fin.ext (by match a with | ⟨0, _⟩ => show q.val = 0 + 1 * q.val; omega | ⟨1, _⟩ => show j.val = 0 + 1 * j.val; omega),
      View.canon_cons_emb]
    unfold k0_pay7
    pointwise
  · rw [dif_neg h, View.canon_cons_of_not_mem _ _ fun hm => h (by
      obtain ⟨y, hy⟩ := LoadRect.exists_idx_of_mem _ hm
      have h0 : 0 + 1 * (y 0).val = q.val := congrArg (fun z : S128x2048.Idx => (z 0).val) hy
      have := (y 0).isLt
      change (y 0).val < 16 at this
      omega), View.canon_unit_zero (by decide)]
    unfold k0_pay6
    pointwise

end Stores

/-! ## The four runs of a block's rows -/

theorem ld_q0 (X : Vec Ideal S1024x2048 .f32) : View.ld X q0 = fun y : S256x2048.Idx => X (ix2 ⟨(y 0).val, by have := (y 0).isLt; change _ < 256 at this; omega⟩ (y 1)) :=
  funext fun y => View.ld_unit_apply_of _ _ _ _ _ _ (by intro a; match a with | ⟨0, _⟩ => exact (Nat.zero_add _).symm | ⟨1, _⟩ => exact (Nat.zero_add _).symm)
theorem ld_q1 (X : Vec Ideal S1024x2048 .f32) :
    View.ld X q1 = fun y : S256x2048.Idx => X (ix2 ⟨256 + (y 0).val, by have := (y 0).isLt; change _ < 256 at this; omega⟩ (y 1)) :=
  funext fun y => View.ld_unit_apply_of _ _ _ _ _ _ (by intro a; match a with | ⟨0, _⟩ => rfl | ⟨1, _⟩ => exact (Nat.zero_add _).symm)
theorem ld_q2 (X : Vec Ideal S1024x2048 .f32) :
    View.ld X q2 = fun y : S256x2048.Idx => X (ix2 ⟨512 + (y 0).val, by have := (y 0).isLt; change _ < 256 at this; omega⟩ (y 1)) :=
  funext fun y => View.ld_unit_apply_of _ _ _ _ _ _ (by intro a; match a with | ⟨0, _⟩ => rfl | ⟨1, _⟩ => exact (Nat.zero_add _).symm)
theorem ld_q3 (X : Vec Ideal S1024x2048 .f32) :
    View.ld X q3 = fun y : S256x2048.Idx => X (ix2 ⟨768 + (y 0).val, by have := (y 0).isLt; change _ < 256 at this; omega⟩ (y 1)) :=
  funext fun y => View.ld_unit_apply_of _ _ _ _ _ _ (by intro a; match a with | ⟨0, _⟩ => rfl | ⟨1, _⟩ => exact (Nat.zero_add _).symm)

/-! ## What a point leaves, at an index -/

section Cases

variable (x : Vec Ideal S1024x2048 .f32) (g : Vec Ideal S1x2048 .f32) (w : Vec Ideal S1536x2048 .bf16) (e : Vec Ideal S16x2048 .bf16)
  (u : Vec Ideal S1024x2048 .bf16) (r : Fin 1024)

/-- Equal rows of a block stored as runs read the same. -/
theorem run_eq {n : ℕ} (G : Fin 1024 → Fin n → EReal) {a b : Fin 1024} {k l : Fin n} (h0 : a.val = b.val) (h1 : k.val = l.val) : G a k = G b l :=
  congrArg₂ G (Fin.ext h0) (Fin.ext h1)

theorem startU_apply (k : Fin 2048) : (startU x g (ix2 r k) : EReal) = nrm x g r k := by
  unfold startU
  rw [ld_q0, ld_q1, ld_q2, ld_q3]
  canon_tiles y h
  · idx_vars y; exact (pay2_apply _ g y0 y1).trans (run_eq (nrm x g) h0.symm h1.symm)
  · idx_vars y; exact (pay17_apply _ g y0 y1).trans (run_eq (nrm x g) h0.symm h1.symm)
  · idx_vars y; exact (pay13_apply _ g y0 y1).trans (run_eq (nrm x g) h0.symm h1.symm)
  · idx_vars y; exact (pay9_apply _ g y0 y1).trans (run_eq (nrm x g) h0.symm h1.symm)

theorem startOut_apply (q : Fin 1536) : (startOut x g w (ix2 r q) : EReal) = ∑ j, nrm x g r j * w (ix2 q j) := by
  unfold startOut
  rw [ld_q0, ld_q1, ld_q2, ld_q3]
  canon_tiles y h
  · idx_vars y; exact (pay3_apply _ g w y0 y1).trans (run_eq (fun r q => ∑ j, nrm x g r j * w (ix2 q j)) h0.symm h1.symm)
  · idx_vars y; exact (pay18_apply _ g w y0 y1).trans (run_eq (fun r q => ∑ j, nrm x g r j * w (ix2 q j)) h0.symm h1.symm)
  · idx_vars y; exact (pay14_apply _ g w y0 y1).trans (run_eq (fun r q => ∑ j, nrm x g r j * w (ix2 q j)) h0.symm h1.symm)
  · idx_vars y; exact (pay10_apply _ g w y0 y1).trans (run_eq (fun r q => ∑ j, nrm x g r j * w (ix2 q j)) h0.symm h1.symm)

theorem startExtra_sum (q : Fin 128) : (startExtra x g e (ix2 r q) : EReal) = ∑ j, nrm x g r j * padded e (ix2 q j) := by
  unfold startExtra
  rw [ld_q0, ld_q1, ld_q2, ld_q3]
  canon_tiles y h
  · idx_vars y; exact (pay4_apply _ g _ y0 y1).trans (run_eq (fun r q => ∑ j, nrm x g r j * padded e (ix2 q j)) h0.symm h1.symm)
  · idx_vars y; exact (pay19_apply _ g _ y0 y1).trans (run_eq (fun r q => ∑ j, nrm x g r j * padded e (ix2 q j)) h0.symm h1.symm)
  · idx_vars y; exact (pay15_apply _ g _ y0 y1).trans (run_eq (fun r q => ∑ j, nrm x g r j * padded e (ix2 q j)) h0.symm h1.symm)
  · idx_vars y; exact (pay11_apply _ g _ y0 y1).trans (run_eq (fun r q => ∑ j, nrm x g r j * padded e (ix2 q j)) h0.symm h1.symm)

/-- Against a row of zeros nothing adds up. -/
theorem startExtra_apply (q : Fin 128) :
    (startExtra x g e (ix2 r q) : EReal) = if h : q.val < 16 then ∑ j, nrm x g r j * e (ix2 ⟨q.val, h⟩ j) else 0 := by
  rw [startExtra_sum]
  simp only [padded_apply]
  split
  · rfl
  · simp only [mul_zero, Finset.sum_const_zero]

theorem restOut_apply (q : Fin 1536) : (restOut w u (ix2 r q) : EReal) = ∑ j, u (ix2 r j) * w (ix2 q j) := pay5_apply w u r q

end Cases

end Cert.ProjIdeal.Rows

end
-- ==== Proof.ProjBlocks.lean ====
/- What the input projection's windows read, off the arguments, and its two results as whole arrays. -/
module

public import proofs.«01_k».proof.Proof.ProjRows
public import proofs.«01_k».proof.Proof.ProjData
public import Idealize.ShloMosaic.Lib.Claim
public import Idealize.ShloMosaic.Lib.StableHlo.ReadAt

@[expose] public section

set_option maxRecDepth 16384

noncomputable section

namespace Cert.ProjIdeal.Rows

open Cert.ProjIdeal Cert.ProjIdeal.Gen Cert.ProjIdeal.Body
open Idealize.ShloMosaic Idealize.ShloMosaic.TcCoe

/-! ## The projection, off its arguments -/

section Layer

variable (X : Vec Ideal S16384x2048 .f32) (P : Vec Ideal S2048 .f32) (W : Vec Ideal S2048x6160 .f32)

/-- A normalized row of the input against one column of the weights. -/
def column (R : Fin 16384) (n : Fin 6160) : EReal :=
  ∑ j, Cert.FfnIdeal.Rows.norm (fun j => X (ix2 R j)) (fun j => P (ix1 j)) j * W (ix2 j n)

/-- The main columns, -/
def columns : Vec Ideal S16384x6144 .f32 := fun y => column X P W (y 0) ⟨(y 1).val, Nat.lt_of_lt_of_le (y 1).isLt (by decide)⟩

/-- and the last sixteen, then zeros. -/
def extra : Vec Ideal S16384x128 .f32 := fun y => if h : (y 1).val < 16 then column X P W (y 0) ⟨6144 + (y 1).val, by omega⟩ else 0

end Layer

variable (m : (ℓ : Loc nD τ sig) → Buf (Elt Ideal) ℓ) (c : Dev nD)

/-! ## The arguments -/

abbrev hA : Vec Ideal S16384x2048 .f32 := m ((c : Thread nD τ).loc main_arg0)
abbrev preA : Vec Ideal S2048 .f32 := m ((c : Thread nD τ).loc main_arg1)
abbrev wA : Vec Ideal S2048x6160 .f32 := m ((c : Thread nD τ).loc main_arg2)

/-! ## What the host leaves before the kernel: a reshape, a transpose and a cast -/

theorem entry0 (j : Fin 2048) : (V m c main_v0 (ix2 0 j) : EReal) = preA m c (ix1 j) := by
  unfold V
  after_reads_at
theorem entry2 (n : Fin 6160) (j : Fin 2048) : (V m c main_v2 (ix2 n j) : EReal) = wA m c (ix2 j n) := by
  unfold V
  after_reads_at

/-! ## The blocks -/

/-- Where the windows stand at a grid point. -/
theorem idx : ∀ t : Fin cfg0.N,
    win0_0.index t = ![t.val / 4, 0] ∧ win0_1.index t = ![0, 0] ∧ win0_2.index t = ![t.val % 4, 0] ∧ win0_3.index t = ![384, 0]
      ∧ win0_4.index t = ![t.val / 4, t.val % 4] ∧ win0_5.index t = ![t.val / 4, 0] := by
  decide +kernel

theorem points (t : Fin cfg0.N) : t.val < 64 := t.isLt

/-- The row of the array that is row `r` of a point's block, and the column that is column `q` of it. -/
def rowAt (t : Fin cfg0.N) (r : Fin 1024) : Fin 16384 := ⟨1024 * (t.val / 4) + r.val, by have := points t; omega⟩
def colAt (t : Fin cfg0.N) (q : Fin 1536) : Fin 6160 := ⟨1536 * (t.val % 4) + q.val, by omega⟩

theorem rowAt_start (t : Fin cfg0.N) (r : Fin 1024) : rowAt (rowStart t) r = rowAt t r :=
  Fin.ext (by show 1024 * (t.val / 4 * 4 / 4) + r.val = 1024 * (t.val / 4) + r.val; omega)

theorem x_apply (t : Fin cfg0.N) (r : Fin 1024) (k : Fin 2048) : (xBlk m c t (ix2 r k) : EReal) = hA m c (ix2 (rowAt t r) k) := by
  have := points t
  blk_ext [iblk, V_main_arg0, idx t, rowAt]
theorem pre_apply (t : Fin cfg0.N) (k : Fin 2048) : (preBlk m c t (ix2 0 k) : EReal) = preA m c (ix1 k) := by
  rw [← entry0]
  blk_ext [iblk, idx t]
theorem w_apply (t : Fin cfg0.N) (q : Fin 1536) (k : Fin 2048) : (wBlk m c t (ix2 q k) : EReal) = wA m c (ix2 k (colAt t q)) := by
  rw [← entry2]
  show X0_2 m c t (ix2 q k) = _
  unfold X0_2 Pipeline.Window.fill
  rw [dif_pos (moved0_2 t _)]
  blk_ext [iblk, idx t, colAt]
theorem e_apply (t : Fin cfg0.N) (q : Fin 16) (k : Fin 2048) : (eBlk m c t (ix2 q k) : EReal) = wA m c (ix2 k ⟨6144 + q.val, by omega⟩) := by
  rw [← entry2]
  blk_ext [iblk, idx t]

/-! ## What a point leaves, off the arguments -/

theorem nrm_row (t : Fin cfg0.N) (r : Fin 1024) :
    nrm (xBlk m c t) (preBlk m c t) r = Cert.FfnIdeal.Rows.norm (fun j => hA m c (ix2 (rowAt t r) j)) (fun j => preA m c (ix1 j)) := by
  unfold nrm
  simp only [x_apply, pre_apply]

theorem out_apply (t : Fin cfg0.N) (r : Fin 1024) (q : Fin 1536) :
    (outAt m c t (ix2 r q) : EReal) = column (hA m c) (preA m c) (wA m c) (rowAt t r) (colAt t q) := by
  unfold column
  by_cases h : t.val % 4 = 0
  · rw [outAt_first m c t h, startOut_apply, nrm_row]
    simp only [w_apply]
  · rw [outAt_rest m c t h, restOut_apply]
    unfold uAt
    simp only [startU_apply, w_apply]
    rw [nrm_row, rowAt_start]

theorem extra_apply (t : Fin cfg0.N) (r : Fin 1024) (q : Fin 128) :
    (extraAt m c t (ix2 r q) : EReal) = if h : q.val < 16 then column (hA m c) (preA m c) (wA m c) (rowAt t r) ⟨6144 + q.val, by omega⟩ else 0 := by
  unfold extraAt column
  rw [startExtra_apply, nrm_row, rowAt_start]
  simp only [e_apply]

/-! ## The arrays -/

theorem arr4 : (dats m 0 c).arrAt 4 cfg0.N = columns (hA m c) (preA m c) (wA m c) := by
  refine (dats m 0 c).arrAt_eq_of_covers 4 _ (by decide +kernel) fun t _ y => ?_
  have := points t
  blk_simp
  rw [after0_4]
  idx_vars y
  refine (out_apply m c t y0 y1).trans ?_
  show columns (hA m c) (preA m c) (wA m c) (ix2 (rowAt t y0) ⟨1536 * (t.val % 4) + y1.val, by have := y1.isLt; omega⟩) = _
  blk_ext [idx t, rowAt]

theorem arr5 : (dats m 0 c).arrAt 5 cfg0.N = extra (hA m c) (preA m c) (wA m c) := by
  refine (dats m 0 c).arrAt_eq_of_covers 5 _ (by decide +kernel) fun t _ y => ?_
  have := points t
  blk_simp
  rw [after0_5]
  idx_vars y
  refine (extra_apply m c t y0 y1).trans ?_
  show extra (hA m c) (preA m c) (wA m c) (ix2 (rowAt t y0) y1) = _
  blk_ext [idx t, rowAt]

end Cert.ProjIdeal.Rows

end
-- ==== Proof.ProjReference.lean ====
/- The input projection's reference over the extended reals: the same normalized rows against all columns at once. -/
module

public import proofs.«01_k».proof.Proof.ProjBlocks
public import proofs.«01_k».proof.Proof.Gen.ProjRefIdeal.Run
public import Idealize.ShloMosaic.Lib.Pointwise
public import Idealize.ShloMosaic.Lib.KernelVsHost

@[expose] public section

set_option maxRecDepth 16384

noncomputable section

namespace Cert.ProjRefIdeal.Rows

open Idealize.ShloMosaic Idealize.ShloMosaic.TcCoe Cert.ProjRefIdeal Cert.ProjRefIdeal.Gen
open Cert.ProjIdeal.Rows (column columns extra)

variable (X : FVec Ideal S16384x2048 .f32) (P : FVec Ideal S2048 .f32) (W : FVec Ideal S2048x6160 .f32)

/-! ## The reference, a stage at a time -/

/-- Rows over their root mean squares, times the weights, -/
def normed : FVec Ideal S16384x2048 .f32 :=
  mulf (mulf X (broadcastInDim S16384x2048 ![0, 1] bcast_S16384x1_S16384x2048_0_1 (Host.rsqrt (addf (Host.divf
    (broadcastInDim S16384x1 ![0] bcast_S16384_S16384x1_0 (Host.reduceAdd (mulf X X) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 P))

/-- against all columns, -/
def wide : FVec Ideal S16384x6160 .f32 := Host.dotGeneral dot_S16384x2048_S2048x6160_S16384x6160_1_0_0_1_n_n none (normed X P) W

/-- the main columns of it, -/
def main : FVec Ideal S16384x6144 .f32 := extractStridedSlice S16384x6144 ![0, 0] (wide X P W) slices_S16384x6160_S16384x6144_0_0

/-- and the last sixteen, padded with zeros. -/
def last : FVec Ideal S16384x128 .f32 :=
  pad S16384x128 ![0, 0] ![0, 112] ![0, 0] (extractStridedSlice S16384x16 ![0, 6144] (wide X P W) slices_S16384x6160_S16384x16_0_6144)
    (sitofp .f32 (constantI S_ 32 0#32)) pads_S16384x16_S16384x128_000_01120 h_S_

/-! ## At an index -/

variable (R : Fin 16384)

theorem normed_apply (q : Fin 2048) : (normed X P (ix2 R q) : EReal) = Cert.FfnIdeal.Rows.norm (fun j => X (ix2 R j)) (fun j => P (ix1 j)) q := by
  unfold normed Cert.FfnIdeal.Rows.norm
  pointwise

theorem wide_apply (n : Fin 6160) : (wide X P W (ix2 R n) : EReal) = column X P W R n := by
  unfold wide column
  pointwise
  simp only [normed_apply]

theorem main_eq : main X P W = columns X P W := by
  funext y
  idx_vars y
  unfold main columns
  pointwise
  exact wide_apply X P W _ _

theorem last_eq : last X P W = extra X P W := by
  funext y
  idx_vars y
  unfold last extra
  by_cases h : y1.val < 16
  · refine Eq.trans ?_ (dif_pos h).symm
    refine (pad_apply_of_inside _ _ _ _ _ _ _ _ (ix2 y0 ⟨y1.val, h⟩ : S16384x16.Idx) fun a => ?_).trans ?_
    · match a with
      | ⟨0, _⟩ => exact ((Nat.zero_add _).trans (Nat.mul_one _)).symm
      | ⟨1, _⟩ => exact ((Nat.zero_add _).trans (Nat.mul_one _)).symm
    pointwise
    exact wide_apply X P W _ _
  · refine Eq.trans ?_ (dif_neg h).symm
    refine (pad_apply_of_not_inside _ _ _ _ _ _ _ _ 1 fun hin => h ?_).trans ?_
    · have := hin.2.2
      change (y1.val - 0) / 1 < 16 at this
      omega
    pointwise
    show ((((0#32 : BitVec 32).toInt : ℤ) : ℝ) : EReal) = 0
    simp

end Cert.ProjRefIdeal.Rows

end
-- ==== Proof.ProjClaims.lean ====
/- The input projection's claims: the frames, and the equality of both results. -/
module

public import proofs.«01_k».proof.Defs
public import proofs.«01_k».proof.Proof.Gen.Proj.Frame
public import proofs.«01_k».proof.Proof.ProjFrame
public import proofs.«01_k».proof.Proof.ProjReference

@[expose] public section

noncomputable section

namespace Cert.Proof.ProjClaims

open Idealize.ShloMosaic Idealize.ShloMosaic.TcCoe Idealize.SL.Sem

/-- The kernel and its idealization run the same body. -/
theorem bodies_eq : Cert.Proj.defs₀ (F := Bits) = Cert.ProjIdeal.defs₀ (F := Bits) := by
  unfold Cert.Proj.defs₀ Cert.ProjIdeal.defs₀
  refine congrArg Defs.onTc (funext fun l => funext fun a => ?_)
  obtain ⟨n, hn⟩ := l
  cases n with
  | zero => rfl
  | succ n => exact absurd hn (by omega)

theorem frame_p : Cert.quiescent_Proj (hProj := Cert.Proj.Gen.facts) := fun m g _ => by
  unfold Cert.Proj.defs
  rw [bodies_eq]
  exact Cert.ProjIdeal.Body.frame (F := Bits) m g

theorem frame_pi : Cert.quiescent_ProjIdeal (hProjIdeal := Cert.ProjIdeal.Gen.facts) := fun m g _ => Cert.ProjIdeal.Body.frame m g

theorem frame_ri : Cert.quiescent_ProjRefIdeal (hProjRefIdeal := Cert.ProjRefIdeal.Gen.facts) := fun m g _ =>
  (θ_run Cert.ProjRefIdeal.defs _ _).mono (fun r h => ⟨fun c => (h c).2.2, sem_eq_zero_of_no_sems (by decide) r.2⟩)
    (Cert.ProjRefIdeal.Value.run (F := Ideal) m g)

theorem preserves : Cert.preserves_Proj_ProjIdeal := trivial

theorem algebraic : Cert.algebraic_ProjIdeal_ProjRefIdeal (hProjIdeal := Cert.ProjIdeal.Gen.facts) (hProjRefIdeal := Cert.ProjRefIdeal.Gen.facts) := by
  intro m g m' g' _ hargs
  refine ⟨fun c => Cert.ProjIdeal.Rows.columns (Cert.ProjIdeal.Rows.hA m c) (Cert.ProjIdeal.Rows.preA m c) (Cert.ProjIdeal.Rows.wA m c),
    fun c => Cert.ProjIdeal.Rows.extra (Cert.ProjIdeal.Rows.hA m c) (Cert.ProjIdeal.Rows.preA m c) (Cert.ProjIdeal.Rows.wA m c), ?_, ?_⟩
  · exact (θ_run Cert.ProjIdeal.defs _ _).mono (fun r h c => ⟨((h.1 c).1 4).trans (Cert.ProjIdeal.Rows.arr4 m c),
      ((h.1 c).1 5).trans (Cert.ProjIdeal.Rows.arr5 m c), Cert.ProjIdeal.Body.kept m h.1 c⟩) (Cert.ProjIdeal.Body.run_main (F := Ideal) m g)
  · refine (θ_run Cert.ProjRefIdeal.defs _ _).mono (fun r h c => ?_) (Cert.ProjRefIdeal.Value.run (F := Ideal) m' g')
    obtain ⟨h0, h1, hk⟩ := h c
    obtain ⟨e0, e1, e2⟩ := hargs c
    rw [e0, e1, e2] at h0 h1
    exact ⟨h0.trans (Cert.ProjRefIdeal.Rows.main_eq _ _ _), h1.trans (Cert.ProjRefIdeal.Rows.last_eq _ _ _), hk⟩

end Cert.Proof.ProjClaims

end
-- ==== Proof.KvClaims.lean ====
/- The memory's keys and values, and the input projection's weights laid out for the next call: the claims. -/
module

public import proofs.«01_k».proof.Defs
public import proofs.«01_k».proof.Proof.Gen.Kv.Frame
public import proofs.«01_k».proof.Proof.Gen.KvIdeal.Value
public import proofs.«01_k».proof.Proof.Gen.KvRefIdeal.Run
public import Idealize.ShloMosaic.Lib.Pointwise
public import Idealize.ShloMosaic.Lib.KernelVsHost
public import Idealize.ShloMosaic.Lib.Pipeline.ValueKit
public import Idealize.ShloMosaic.Lib.Claim
public import Idealize.ShloMosaic.Lib.StableHlo.ReadAt

@[expose] public section

set_option maxRecDepth 16384

noncomputable section

namespace Cert.KvIdeal.Rows

open Cert.KvIdeal Cert.KvIdeal.Gen
open Idealize.ShloMosaic Idealize.ShloMosaic.TcCoe

/-- Row `i` of sequence `b`'s memory over its root mean square, times the weights, against column `n`. -/
def entry (X : Vec Ideal S8x256x2048 .f32) (P : Vec Ideal S2048 .f32) (W : Vec Ideal S2048x1024 .f32) (b : Fin 8) (i : Fin 256) (n : Fin 1024) : EReal :=
  ∑ j, X (ix3 b i j) * Ideal.rsqrt (Ideal.div (∑ l, X (ix3 b i l) * X (ix3 b i l)) (Ideal.ofBits .f32 0x45000000#32) + Ideal.ofBits .f32 0x358637BD#32)
    * P (ix1 j) * W (ix2 j n)

/-- The keys and values of every sequence, -/
def memory (X : Vec Ideal S8x256x2048 .f32) (P : Vec Ideal S2048 .f32) (W : Vec Ideal S2048x1024 .f32) : Vec Ideal S8x256x1024 .bf16 :=
  fun y => entry X P W (y 0) (y 1) (y 2)

/-- and the weights, transposed. -/
def turned (W : Vec Ideal S2048x6160 .f32) : Vec Ideal S6160x2048 .bf16 := fun y => W (ix2 (y 1) (y 0))

theorem pay2_apply (x : Vec Ideal S1x256x2048 .f32) (g : Vec Ideal S1x2048 .f32) (w : Vec Ideal S2048x1024 .bf16) (i : Fin 256) (n : Fin 1024) :
    (k0_pay2 x g w (ix3 0 i n) : EReal) = ∑ j, x (ix3 0 i j) * Ideal.rsqrt (Ideal.div (∑ l, x (ix3 0 i l) * x (ix3 0 i l)) (Ideal.ofBits .f32 0x45000000#32)
      + Ideal.ofBits .f32 0x358637BD#32) * g (ix2 0 j) * w (ix2 j n) := by
  unfold k0_pay2
  pointwise

theorem pay1_apply (x : Vec Ideal S880x2048 .f32) (r : Fin 880) (n : Fin 2048) : (k0_pay1 x (ix2 r n) : EReal) = x (ix2 r n) := by
  unfold k0_pay1
  pointwise

variable (m : (ℓ : Loc nD τ sig) → Buf (Elt Ideal) ℓ) (c : Dev nD)

abbrev xA : Vec Ideal S8x256x2048 .f32 := m ((c : Thread nD τ).loc main_arg0)
abbrev pA : Vec Ideal S2048 .f32 := m ((c : Thread nD τ).loc main_arg1)
abbrev kvA : Vec Ideal S2048x1024 .f32 := m ((c : Thread nD τ).loc main_arg2)
abbrev inA : Vec Ideal S2048x6160 .f32 := m ((c : Thread nD τ).loc main_arg3)

/-! ## What the host leaves before the kernel: a reshape, a cast and a transpose -/

theorem host1 (j : Fin 2048) : (V m c main_v0 (ix2 0 j) : EReal) = pA m c (ix1 j) := by
  unfold V
  after_reads_at
theorem host2 (j : Fin 2048) (n : Fin 1024) : (V m c main_v1 (ix2 j n) : EReal) = kvA m c (ix2 j n) := by
  unfold V
  after_reads_at
theorem host3 (n : Fin 6160) (j : Fin 2048) : (V m c main_v2 (ix2 n j) : EReal) = inA m c (ix2 j n) := by
  unfold V
  after_reads_at

/-! ## The blocks -/

/-- Where the windows stand at a grid point. -/
theorem idx : ∀ t : Fin cfg0.N,
    win0_0.index t = ![t.val, 0, 0] ∧ win0_1.index t = ![0, 0] ∧ win0_2.index t = ![0, 0] ∧ win0_3.index t = win0_5.index t
      ∧ win0_4.index t = ![t.val, 0, 0] ∧ win0_5.index t = ![min t.val 6, 0] := by
  decide +kernel

theorem points (t : Fin cfg0.N) : t.val < 8 := t.isLt

variable (t : Fin cfg0.N)

def seqAt : Fin 8 := ⟨t.val, points t⟩
def rowAt (r : Fin 880) : Fin 6160 := ⟨880 * min t.val 6 + r.val, by omega⟩

theorem x_apply (i : Fin 256) (k : Fin 2048) : (iblk m c 0 t (ix3 0 i k) : EReal) = xA m c (ix3 (seqAt t) i k) := by
  blk_ext [iblk, V_main_arg0, idx t, seqAt]
theorem p_apply (k : Fin 2048) : (iblk m c 1 t (ix2 0 k) : EReal) = pA m c (ix1 k) := by
  rw [← host1]
  blk_ext [iblk, idx t]
theorem w_apply (j : Fin 2048) (n : Fin 1024) : (iblk m c 2 t (ix2 j n) : EReal) = kvA m c (ix2 j n) := by
  rw [← host2]
  blk_ext [iblk, idx t]
theorem in_apply (r : Fin 880) (j : Fin 2048) : (iblk m c 3 t (ix2 r j) : EReal) = inA m c (ix2 j (rowAt t r)) := by
  rw [← host3]
  blk_ext [iblk, idx t, rowAt]

/-! ## The arrays -/

theorem arr4 : (dats m 0 c).arrAt 4 cfg0.N = memory (xA m c) (pA m c) (kvA m c) := by
  refine (dats m 0 c).arrAt_eq_of_covers 4 _ (by decide +kernel) fun t _ y => ?_
  blk_simp
  rw [after0_4, out0_4, View.canon_unit_zero (by decide), View.ld_unit_lit (h := by decide), View.ld_unit_lit (h := by decide), View.ld_unit_lit (h := by decide)]
  idx_vars y
  obtain rfl : y0 = 0 := Subsingleton.elim _ _
  refine (pay2_apply _ _ _ y1 y2).trans ?_
  simp only [x_apply, p_apply, w_apply]
  show memory (xA m c) (pA m c) (kvA m c) (ix3 (seqAt t) y1 y2) = _
  blk_ext [idx t, seqAt]

theorem arr5 : (dats m 0 c).arrAt 5 cfg0.N = turned (inA m c) := by
  refine (dats m 0 c).arrAt_eq_of_covers 5 _ (by decide +kernel) fun t _ y => ?_
  blk_simp
  rw [after0_5, out0_5, View.canon_unit_zero (by decide), View.ld_unit_lit (h := by decide)]
  idx_vars y
  refine (pay1_apply _ y0 y1).trans ?_
  rw [in_apply]
  show turned (inA m c) (ix2 (rowAt t y0) y1) = _
  blk_ext [idx t, rowAt]

end Cert.KvIdeal.Rows

namespace Cert.KvRefIdeal.Rows

open Cert.KvRefIdeal Cert.KvRefIdeal.Gen
open Idealize.ShloMosaic Idealize.ShloMosaic.TcCoe

variable (X : FVec Ideal S8x256x2048 .f32) (P : FVec Ideal S2048 .f32) (W : FVec Ideal S2048x1024 .f32) (I : FVec Ideal S2048x6160 .f32)

/-- The memory's rows over their root mean squares, times the weights, -/
def normed : FVec Ideal S8x256x2048 .f32 :=
  mulf (mulf X (broadcastInDim S8x256x2048 ![0, 1, 2] bcast_S8x256x1_S8x256x2048_0_1_2 (Host.rsqrt (addf (Host.divf
    (broadcastInDim S8x256x1 ![0, 1] bcast_S8x256_S8x256x1_0_1 (Host.reduceAdd (mulf X X) (constant S_ .f32 0x00000000#32) reducesTo_S8x256x2048_S8x256_d2 h_S_))
    (broadcastInDim S8x256x1 ![] bcast_S_S8x256x1 (constant S_ .f32 0x45000000#32))) (broadcastInDim S8x256x1 ![] bcast_S_S8x256x1 (constant S_ .f32 0x358637BD#32))))))
    (broadcastInDim S8x256x2048 ![0, 1, 2] bcast_S1x1x2048_S8x256x2048_0_1_2 (broadcastInDim S1x1x2048 ![2] bcast_S2048_S1x1x2048_2 P))

/-- against the weights, -/
def projected : FVec Ideal S8x256x1024 .bf16 :=
  truncf .bf16 (Host.dotGeneral dot_S8x256x2048_S2048x1024_S8x256x1024_2_0_01_1_n_n none (normed X P) W) bitsLt_bf16_f32

/-- and the other weights transposed. -/
def flipped : FVec Ideal S6160x2048 .bf16 := truncf .bf16 (transpose S6160x2048 [1, 0] I transposes_S2048x6160_S6160x2048_1_0) bitsLt_bf16_f32

theorem normed_apply (b : Fin 8) (i : Fin 256) (j : Fin 2048) :
    (normed X P (ix3 b i j) : EReal) = X (ix3 b i j) * Ideal.rsqrt (Ideal.div (∑ l, X (ix3 b i l) * X (ix3 b i l)) (Ideal.ofBits .f32 0x45000000#32)
      + Ideal.ofBits .f32 0x358637BD#32) * P (ix1 j) := by
  unfold normed
  pointwise

theorem projected_eq : projected X P W = Cert.KvIdeal.Rows.memory X P W := by
  funext y
  idx_vars y
  show _ = Cert.KvIdeal.Rows.entry X P W y0 y1 y2
  unfold projected Cert.KvIdeal.Rows.entry
  pointwise
  simp only [normed_apply]

theorem flipped_eq : flipped I = Cert.KvIdeal.Rows.turned I := by
  funext y
  idx_vars y
  show _ = I (ix2 y1 y0)
  unfold flipped
  pointwise

end Cert.KvRefIdeal.Rows

namespace Cert.Proof.KvClaims

open Idealize.ShloMosaic Idealize.ShloMosaic.TcCoe Idealize.SL.Sem

theorem frame_p : Cert.quiescent_Kv (hKv := Cert.Kv.Gen.facts) := fun m g _ => Cert.Kv.Gen.frame m g
theorem frame_pi : Cert.quiescent_KvIdeal (hKvIdeal := Cert.KvIdeal.Gen.facts) := fun m g _ => Cert.KvIdeal.Gen.frame m g
theorem frame_ri : Cert.quiescent_KvRefIdeal (hKvRefIdeal := Cert.KvRefIdeal.Gen.facts) := fun m g _ =>
  (θ_run Cert.KvRefIdeal.defs _ _).mono (fun r h => ⟨fun c => (h c).2.2, sem_eq_zero_of_no_sems (by decide) r.2⟩)
    (Cert.KvRefIdeal.Value.run (F := Ideal) m g)

theorem preserves : Cert.preserves_Kv_KvIdeal := trivial

theorem algebraic : Cert.algebraic_KvIdeal_KvRefIdeal (hKvIdeal := Cert.KvIdeal.Gen.facts) (hKvRefIdeal := Cert.KvRefIdeal.Gen.facts) := by
  intro m g m' g' _ hargs
  refine ⟨fun c => Cert.KvIdeal.Rows.memory (Cert.KvIdeal.Rows.xA m c) (Cert.KvIdeal.Rows.pA m c) (Cert.KvIdeal.Rows.kvA m c),
    fun c => Cert.KvIdeal.Rows.turned (Cert.KvIdeal.Rows.inA m c), ?_, ?_⟩
  · refine (θ_run Cert.KvIdeal.defs _ _).mono (fun r h c => ?_) (Cert.KvIdeal.Value.run_blocks (F := Ideal) m g)
    obtain ⟨h0, h1, hk⟩ := h c
    exact ⟨h0.trans (Cert.KvIdeal.Rows.arr4 m c), h1.trans (Cert.KvIdeal.Rows.arr5 m c), hk⟩
  · refine (θ_run Cert.KvRefIdeal.defs _ _).mono (fun r h c => ?_) (Cert.KvRefIdeal.Value.run (F := Ideal) m' g')
    obtain ⟨h0, h1, hk⟩ := h c
    obtain ⟨e0, e1, e2, e3⟩ := hargs c
    rw [e0, e1, e2] at h0
    rw [e3] at h1
    exact ⟨h0.trans (Cert.KvRefIdeal.Rows.projected_eq _ _ _), h1.trans (Cert.KvRefIdeal.Rows.flipped_eq _), hk⟩

end Cert.Proof.KvClaims

end
-- ==== Proof.MixMath.lean ====
/- One row of the mixer's output with its memory attention, over the extended reals: the formulas that the kernel and the
   reference share. -/
module

public import Idealize.ShloMosaic.Lib.Pointwise

@[expose] public section

noncomputable section

namespace Cert.MixRow

open Idealize.ShloMosaic

/-- A row over its root mean square, times the weights; `d` is the row's length as a constant. -/
def scaled {n : ℕ} (d : BitVec 32) (x w : Fin n → EReal) (k : Fin n) : EReal :=
  x k * Ideal.rsqrt (Ideal.div (∑ j, x j * x j) (Ideal.ofBits .f32 d) + Ideal.ofBits .f32 0x358637BD#32) * w k

/-- Both head groups against their halves of the output weights. -/
def mixed (s y g : Fin 1024 → EReal) (A B : Fin 1024 → Fin 2048 → EReal) (n : Fin 2048) : EReal :=
  (∑ j, scaled 0x44800000#32 s g j * A j n) + ∑ j, y j * B j n

/-- A row with a normalized row added. -/
def added (h x w : Fin 2048 → EReal) (n : Fin 2048) : EReal := h n + scaled 0x45000000#32 x w n

/-- The queries of a row. -/
def query (h w : Fin 2048 → EReal) (Q : Fin 2048 → Fin 512 → EReal) (n : Fin 512) : EReal := ∑ j, scaled 0x45000000#32 h w j * Q j n

/-- A query against the memory's keys, scaled, -/
def score (q : Fin 128 → EReal) (k : Fin 256 → Fin 128 → EReal) (m : Fin 256) : EReal := (∑ j, q j * k m j) * Ideal.ofBits .f32 0x3DB504F3#32

/-- the largest of the scores, -/
def top (s : Fin 256 → EReal) : EReal := Finset.fold max (Ideal.ofBits .f32 0xFF800000#32) s Finset.univ

/-- their exponentials off it, -/
def expo (s : Fin 256 → EReal) (m : Fin 256) : EReal := Ideal.exp (s m - top s)

/-- the weights, -/
def weight (s : Fin 256 → EReal) (m : Fin 256) : EReal := Ideal.div (expo s m) (∑ i, expo s i)

/-- and the memory's values under them. -/
def attend (q : Fin 128 → EReal) (k v : Fin 256 → Fin 128 → EReal) (j : Fin 128) : EReal := ∑ m, weight (score q k) m * v m j

/-- Head `h` of a row: its own 128 queries, against its keys and its values, which stand 512 columns on. -/
def head (q : Fin 512 → EReal) (kv : Fin 256 → Fin 1024 → EReal) (h : Fin 4) (j : Fin 128) : EReal :=
  attend (fun i => q ⟨128 * h.val + i.val, by omega⟩) (fun m i => kv m ⟨128 * h.val + i.val, by omega⟩)
    (fun m i => kv m ⟨512 + 128 * h.val + i.val, by omega⟩) j

/-- The four heads side by side. -/
def heads (q : Fin 512 → EReal) (kv : Fin 256 → Fin 1024 → EReal) (n : Fin 512) : EReal :=
  head q kv ⟨n.val / 128, by omega⟩ ⟨n.val % 128, Nat.mod_lt _ (by decide)⟩

/-- Four runs of 128 columns side by side. -/
def joined (a b c d : Fin 128 → EReal) (n : Fin 512) : EReal :=
  if h : n.val < 128 then a ⟨n.val, h⟩ else if h : n.val - 128 < 128 then b ⟨n.val - 128, h⟩
    else if h : n.val - 128 - 128 < 128 then c ⟨n.val - 128 - 128, h⟩ else d ⟨n.val - 128 - 128 - 128, by omega⟩

theorem joined_heads (q : Fin 512 → EReal) (kv : Fin 256 → Fin 1024 → EReal) : joined (head q kv 0) (head q kv 1) (head q kv 2) (head q kv 3) = heads q kv := by
  funext n
  unfold joined heads
  split_ifs with h0 h1 h2
  · exact congrArg₂ (head q kv) (Fin.ext (by show 0 = n.val / 128; omega)) (Fin.ext (by show n.val = n.val % 128; omega))
  · exact congrArg₂ (head q kv) (Fin.ext (by show 1 = n.val / 128; omega)) (Fin.ext (by show n.val - 128 = n.val % 128; omega))
  · exact congrArg₂ (head q kv) (Fin.ext (by show 2 = n.val / 128; omega)) (Fin.ext (by show n.val - 128 - 128 = n.val % 128; omega))
  · exact congrArg₂ (head q kv) (Fin.ext (by show 3 = n.val / 128; omega)) (Fin.ext (by show n.val - 128 - 128 - 128 = n.val % 128; omega))

/-- A head is known by its queries, its keys and its values. -/
theorem attend_head (q : Fin 512 → EReal) (kv : Fin 256 → Fin 1024 → EReal) (h : Fin 4) {q' : Fin 128 → EReal} {k' v' : Fin 256 → Fin 128 → EReal}
    (hq : ∀ i, q' i = q ⟨128 * h.val + i.val, by omega⟩) (hk : ∀ m i, k' m i = kv m ⟨128 * h.val + i.val, by omega⟩)
    (hv : ∀ m i, v' m i = kv m ⟨512 + 128 * h.val + i.val, by omega⟩) : attend q' k' v' = head q kv h := by
  funext j
  unfold head
  rw [funext hq, funext fun m => funext (hk m), funext fun m => funext (hv m)]

/-- The heads against the last weights. -/
def outs (a : Fin 512 → EReal) (O : Fin 512 → Fin 2048 → EReal) (n : Fin 2048) : EReal := ∑ j, a j * O j n

/-- The row that the call returns. -/
def row (s y : Fin 1024 → EReal) (h : Fin 2048 → EReal) (kv : Fin 256 → Fin 1024 → EReal) (g : Fin 1024 → EReal) (A B : Fin 1024 → Fin 2048 → EReal)
    (p r : Fin 2048 → EReal) (Q : Fin 2048 → Fin 512 → EReal) (O : Fin 512 → Fin 2048 → EReal) (z : Fin 2048 → EReal) : Fin 2048 → EReal :=
  added (added h (mixed s y g A B) p) (outs (heads (query (added h (mixed s y g A B) p) r Q) kv) O) z

/-- The largest of the scores is no less than where it starts. -/
theorem max_top (s : Fin 256 → EReal) : max (Ideal.ofBits .f32 0xFF800000#32) (top s) = top s :=
  max_eq_right ((Finset.le_fold_max _).mpr (Or.inl (le_refl _)))

end Cert.MixRow

end
-- ==== Proof.MixRows.lean ====
/- The mixer's output call over the extended reals, a row at a time: what each value of the body holds at an index. -/
module

public import proofs.«01_k».proof.Proof.Gen.MixIdeal.Frame
public import proofs.«01_k».proof.Proof.MixMath

@[expose] public section

set_option maxRecDepth 16384

noncomputable section

namespace Cert.MixIdeal.Rows

open Cert.MixIdeal Cert.MixIdeal.Gen Cert.MixRow
open Idealize.ShloMosaic

/-! ## The values at an index -/

section Values

variable (x : Vec Ideal S256x1024 .f32) (y : Vec Ideal S256x1024 .bf16) (g : Vec Ideal S1x1024 .f32) (A B : Vec Ideal S1024x2048 .bf16)
  (h k : FVec Ideal S256x2048 .f32) (p w : Vec Ideal S1x2048 .f32) (u : FVec Ideal S256x2048 .bf16) (Q : Vec Ideal S2048x512 .bf16)
  (q : FVec Ideal S256x512 .f32) (K V : Vec Ideal S1x256x128 .bf16) (O : Vec Ideal S512x2048 .bf16) (r : Fin 256)

theorem pay1_apply (n : Fin 2048) : (k0_pay1 x g A y B (ix2 r n) : EReal) =
    mixed (fun j => x (ix2 r j)) (fun j => y (ix2 r j)) (fun j => g (ix2 0 j)) (fun j n => A (ix2 j n)) (fun j n => B (ix2 j n)) n := by
  unfold k0_pay1 mixed scaled
  pointwise
theorem pay5_apply (n : Fin 2048) : (k0_pay5 (k0_pay2 x g) A y B (ix2 r n) : EReal) =
    mixed (fun j => x (ix2 r j)) (fun j => y (ix2 r j)) (fun j => g (ix2 0 j)) (fun j n => A (ix2 j n)) (fun j n => B (ix2 j n)) n := by
  unfold k0_pay5 k0_pay2 mixed scaled
  pointwise

theorem pay3_apply (n : Fin 2048) : (k0_pay3 h k p (ix2 r n) : EReal) = added (fun j => k (ix2 r j)) (fun j => h (ix2 r j)) (fun j => p (ix2 0 j)) n := by
  unfold k0_pay3 added scaled
  pointwise
theorem pay7_apply (n : Fin 2048) : (k0_pay7 h k p (ix2 r n) : EReal) = added (fun j => k (ix2 r j)) (fun j => h (ix2 r j)) (fun j => p (ix2 0 j)) n := by
  unfold k0_pay7 added scaled
  pointwise
theorem pay28_apply (n : Fin 2048) : (k0_pay28 h k p (ix2 r n) : EReal) = added (fun j => h (ix2 r j)) (fun j => k (ix2 r j)) (fun j => p (ix2 0 j)) n := by
  unfold k0_pay28 added scaled
  pointwise

theorem pay4_apply (n : Fin 2048) : (k0_pay4 h k p w (ix2 r n) : EReal) = scaled 0x45000000#32 (fun n => k0_pay3 h k p (ix2 r n)) (fun j => w (ix2 0 j)) n := by
  unfold k0_pay4 scaled
  pointwise
theorem pay8_apply (n : Fin 2048) : (k0_pay8 h k p w (ix2 r n) : EReal) = scaled 0x45000000#32 (fun n => k0_pay7 h k p (ix2 r n)) (fun j => w (ix2 0 j)) n := by
  unfold k0_pay8 scaled
  pointwise

theorem pay6_apply (n : Fin 512) : (k0_pay6 u Q (ix2 r n) : EReal) = ∑ j, u (ix2 r j) * Q (ix2 j n) := by
  unfold k0_pay6
  pointwise
theorem pay17_apply (n : Fin 512) : (k0_pay17 u Q (ix2 r n) : EReal) = ∑ j, u (ix2 r j) * Q (ix2 j n) := by
  unfold k0_pay17
  pointwise

/-- The queries of either half. -/
theorem query_first (n : Fin 512) : (k0_pay6 (k0_pay4 h k p w) Q (ix2 r n) : EReal) =
    query (added (fun j => k (ix2 r j)) (fun j => h (ix2 r j)) (fun j => p (ix2 0 j))) (fun j => w (ix2 0 j)) (fun j n => Q (ix2 j n)) n := by
  rw [pay6_apply]
  unfold query
  simp only [pay4_apply, pay3_apply]
theorem query_second (n : Fin 512) : (k0_pay17 (k0_pay8 h k p w) Q (ix2 r n) : EReal) =
    query (added (fun j => k (ix2 r j)) (fun j => h (ix2 r j)) (fun j => p (ix2 0 j))) (fun j => w (ix2 0 j)) (fun j n => Q (ix2 j n)) n := by
  rw [pay17_apply]
  unfold query
  simp only [pay8_apply, pay7_apply]

theorem pay18_apply (a : FVec Ideal S256x512 .bf16) (n : Fin 2048) : (k0_pay18 a O (ix2 r n) : EReal) = outs (fun j => a (ix2 r j)) (fun j n => O (ix2 j n)) n := by
  unfold k0_pay18 outs
  pointwise

/-! ### The heads -/

theorem first_0 (j : Fin 128) : (k0_pay11 (k0_pay9 V) (k0_pay10 u Q K) (ix2 r j) : EReal) =
    attend (fun i => k0_pay6 u Q (ix2 r ⟨i.val, by omega⟩)) (fun m i => K (ix3 0 m i)) (fun m i => V (ix3 0 m i)) j := by
  unfold k0_pay11 k0_pay9 k0_pay10 attend weight expo top score
  pointwise
theorem first_1 (j : Fin 128) : (k0_pay12 q K V (ix2 r j) : EReal) =
    attend (fun i => q (ix2 r ⟨128 + i.val, by omega⟩)) (fun m i => K (ix3 0 m i)) (fun m i => V (ix3 0 m i)) j := by
  unfold k0_pay12 attend weight expo top score
  pointwise
theorem first_join (a b : FVec Ideal S256x128 .f32) (K' V' : Vec Ideal S1x256x128 .bf16) (n : Fin 512) :
    (k0_pay16 q a b (k0_pay13 K) (k0_pay14 V) (k0_pay15 q) K' V' (ix2 r n) : EReal) =
      joined (fun j => a (ix2 r j)) (fun j => b (ix2 r j))
        (attend (fun i => q (ix2 r ⟨256 + i.val, by omega⟩)) (fun m i => K (ix3 0 m i)) (fun m i => V (ix3 0 m i)))
        (attend (fun i => q (ix2 r ⟨384 + i.val, by omega⟩)) (fun m i => K' (ix3 0 m i)) (fun m i => V' (ix3 0 m i))) n := by
  unfold k0_pay16 k0_pay13 k0_pay14 k0_pay15 joined attend weight expo top score
  pointwise

theorem second_0 (j : Fin 128) : (k0_pay19 q K V (ix2 r j) : EReal) =
    attend (fun i => q (ix2 r ⟨i.val, by omega⟩)) (fun m i => K (ix3 0 m i)) (fun m i => V (ix3 0 m i)) j := by
  unfold k0_pay19 attend weight expo top score
  pointwise
theorem second_1 (j : Fin 128) : (k0_pay23 (k0_pay20 V) (k0_pay21 q K) (k0_pay22 q K) (ix2 r j) : EReal) =
    attend (fun i => q (ix2 r ⟨128 + i.val, by omega⟩)) (fun m i => K (ix3 0 m i)) (fun m i => V (ix3 0 m i)) j := by
  unfold k0_pay23 k0_pay20 k0_pay22 k0_pay21 attend weight expo top score
  pointwise
theorem second_2 (j : Fin 128) : (k0_pay24 q K V (ix2 r j) : EReal) =
    attend (fun i => q (ix2 r ⟨256 + i.val, by omega⟩)) (fun m i => K (ix3 0 m i)) (fun m i => V (ix3 0 m i)) j := by
  unfold k0_pay24 attend weight expo top score
  pointwise
theorem second_e (m : Fin 256) : (k0_pay26 q K (ix2 r m) : EReal) = expo (score (fun i => q (ix2 r ⟨384 + i.val, by omega⟩)) (fun m i => K (ix3 0 m i))) m := by
  unfold k0_pay26 expo top score
  pointwise
theorem second_s : (k0_pay27 q K (ix1 r) : EReal) = ∑ m, expo (score (fun i => q (ix2 r ⟨384 + i.val, by omega⟩)) (fun m i => K (ix3 0 m i))) m := by
  unfold k0_pay27
  pointwise
  simp only [second_e]

theorem pay29_apply (a b c : FVec Ideal S256x128 .f32) (d : FVec Ideal S256x128 .bf16) (e : FVec Ideal S256x256 .f32) (s : FVec Ideal S256 .f32) (n : Fin 2048) :
    (k0_pay29 h a b c d e s O p (ix2 r n) : EReal) = added (fun j => h (ix2 r j))
      (outs (joined (fun j => a (ix2 r j)) (fun j => b (ix2 r j)) (fun j => c (ix2 r j)) fun j => ∑ m, Ideal.div (e (ix2 r m)) (s (ix1 r)) * d (ix2 m j))
        fun j n => O (ix2 j n)) (fun j => p (ix2 0 j)) n := by
  unfold k0_pay29 added outs joined scaled
  pointwise

theorem second_join (a b c : FVec Ideal S256x128 .f32) (n : Fin 2048) :
    (k0_pay29 h a b c (k0_pay25 V) (k0_pay26 q K) (k0_pay27 q K) O p (ix2 r n) : EReal) = added (fun j => h (ix2 r j))
      (outs (joined (fun j => a (ix2 r j)) (fun j => b (ix2 r j)) (fun j => c (ix2 r j))
        (attend (fun i => q (ix2 r ⟨384 + i.val, by omega⟩)) (fun m i => K (ix3 0 m i)) (fun m i => V (ix3 0 m i)))) fun j n => O (ix2 j n)) (fun j => p (ix2 0 j)) n := by
  have hd : ∀ m j, (k0_pay25 V (ix2 m j) : EReal) = V (ix3 0 m j) := fun m j => by
    unfold k0_pay25
    pointwise
  rw [pay29_apply]
  simp only [second_e, second_s, hd]
  rfl

end Values

end Cert.MixIdeal.Rows

end
-- ==== Proof.MixBlocks.lean ====
/- The mixer's output call: what a point leaves in its block, row by row, and the result as a whole array. -/
module

public import proofs.«01_k».proof.Proof.MixRows
public import Idealize.ShloMosaic.Lib.Pipeline.ValueKit.Tiles
public import Idealize.ShloMosaic.Lib.Claim
public import Idealize.ShloMosaic.Lib.StableHlo.ReadAt

@[expose] public section

set_option maxRecDepth 16384

noncomputable section

namespace Cert.MixIdeal.Rows

open Cert.MixIdeal Cert.MixIdeal.Gen Cert.MixRow
open Idealize.ShloMosaic Idealize.ShloMosaic.TcCoe

/-! ## The keys and values of the heads, in the memory's block -/

section Heads

variable (M : Vec Ideal S1x256x1024 .bf16) (m : Fin 256) (i : Fin 128)

theorem keys_0 : View.ld M r0_8 (ix3 0 m i) = M (ix3 0 m ⟨128 * 0 + i.val, by omega⟩) :=
  View.ld_unit_apply_of _ _ _ _ _ _ (by intro a; match a with | ⟨0, _⟩ => rfl | ⟨1, _⟩ => exact (Nat.zero_add _).symm | ⟨2, _⟩ => rfl)
theorem values_0 : View.ld M r0_9 (ix3 0 m i) = M (ix3 0 m ⟨512 + 128 * 0 + i.val, by omega⟩) :=
  View.ld_unit_apply_of _ _ _ _ _ _ (by intro a; match a with | ⟨0, _⟩ => rfl | ⟨1, _⟩ => exact (Nat.zero_add _).symm | ⟨2, _⟩ => rfl)
theorem keys_1 : View.ld M r0_10 (ix3 0 m i) = M (ix3 0 m ⟨128 * 1 + i.val, by omega⟩) :=
  View.ld_unit_apply_of _ _ _ _ _ _ (by intro a; match a with | ⟨0, _⟩ => rfl | ⟨1, _⟩ => exact (Nat.zero_add _).symm | ⟨2, _⟩ => rfl)
theorem values_1 : View.ld M r0_11 (ix3 0 m i) = M (ix3 0 m ⟨512 + 128 * 1 + i.val, by omega⟩) :=
  View.ld_unit_apply_of _ _ _ _ _ _ (by intro a; match a with | ⟨0, _⟩ => rfl | ⟨1, _⟩ => exact (Nat.zero_add _).symm | ⟨2, _⟩ => rfl)
theorem keys_2 : View.ld M r0_12 (ix3 0 m i) = M (ix3 0 m ⟨128 * 2 + i.val, by omega⟩) :=
  View.ld_unit_apply_of _ _ _ _ _ _ (by intro a; match a with | ⟨0, _⟩ => rfl | ⟨1, _⟩ => exact (Nat.zero_add _).symm | ⟨2, _⟩ => rfl)
theorem values_2 : View.ld M r0_13 (ix3 0 m i) = M (ix3 0 m ⟨512 + 128 * 2 + i.val, by omega⟩) :=
  View.ld_unit_apply_of _ _ _ _ _ _ (by intro a; match a with | ⟨0, _⟩ => rfl | ⟨1, _⟩ => exact (Nat.zero_add _).symm | ⟨2, _⟩ => rfl)
theorem keys_3 : View.ld M r0_14 (ix3 0 m i) = M (ix3 0 m ⟨128 * 3 + i.val, by omega⟩) :=
  View.ld_unit_apply_of _ _ _ _ _ _ (by intro a; match a with | ⟨0, _⟩ => rfl | ⟨1, _⟩ => exact (Nat.zero_add _).symm | ⟨2, _⟩ => rfl)
theorem values_3 : View.ld M r0_15 (ix3 0 m i) = M (ix3 0 m ⟨512 + 128 * 3 + i.val, by omega⟩) :=
  View.ld_unit_apply_of _ _ _ _ _ _ (by intro a; match a with | ⟨0, _⟩ => rfl | ⟨1, _⟩ => exact (Nat.zero_add _).symm | ⟨2, _⟩ => rfl)

end Heads

theorem joined_congr {a b c d a' b' c' d' : Fin 128 → EReal} (ha : a = a') (hb : b = b') (hc : c = c') (hd : d = d') : joined a b c d = joined a' b' c' d' := by
  rw [ha, hb, hc, hd]

/-! ## A row of either half of a block -/

section Chunks

variable (x : Vec Ideal S256x1024 .f32) (y : Vec Ideal S256x1024 .bf16) (H : Vec Ideal S256x2048 .f32) (M : Vec Ideal S1x256x1024 .bf16)
  (g : Vec Ideal S1x1024 .f32) (A B : Vec Ideal S1024x2048 .bf16) (P W : Vec Ideal S1x2048 .f32) (Q : Vec Ideal S2048x512 .bf16)
  (O : Vec Ideal S512x2048 .bf16) (Z : Vec Ideal S1x2048 .f32) (r : Fin 256)

/-- The four heads of a row of the first half, -/
theorem first_heads (u : FVec Ideal S256x2048 .bf16) :
    (fun n => (k0_pay16 (k0_pay6 u Q) (k0_pay11 (k0_pay9 (View.ld M r0_9)) (k0_pay10 u Q (View.ld M r0_8)))
      (k0_pay12 (k0_pay6 u Q) (View.ld M r0_10) (View.ld M r0_11)) (k0_pay13 (View.ld M r0_12)) (k0_pay14 (View.ld M r0_13)) (k0_pay15 (k0_pay6 u Q))
      (View.ld M r0_14) (View.ld M r0_15) (ix2 r n) : EReal)) = heads (fun n => k0_pay6 u Q (ix2 r n)) fun m i => M (ix3 0 m i) := by
  rw [← joined_heads]
  funext n
  rw [first_join]
  refine congrFun (joined_congr ?_ ?_ ?_ ?_) n
  · rw [← attend_head _ _ 0 (fun i => congrArg (fun n => k0_pay6 u Q (ix2 r n)) (Fin.ext (by show i.val = 0 + i.val; omega) : (⟨i.val, by omega⟩ : Fin 512) = _)) (keys_0 M) (values_0 M)]
    exact funext fun j => first_0 u Q _ _ r j
  · rw [← attend_head _ _ 1 (fun i => rfl) (keys_1 M) (values_1 M)]
    exact funext fun j => first_1 _ _ _ r j
  · exact attend_head _ _ 2 (fun i => rfl) (keys_2 M) (values_2 M)
  · exact attend_head _ _ 3 (fun i => rfl) (keys_3 M) (values_3 M)

/-- and of the second. -/
theorem second_heads (q : FVec Ideal S256x512 .f32) :
    joined (fun j => k0_pay19 q (View.ld M r0_8) (View.ld M r0_9) (ix2 r j))
      (fun j => k0_pay23 (k0_pay20 (View.ld M r0_11)) (k0_pay21 q (View.ld M r0_10)) (k0_pay22 q (View.ld M r0_10)) (ix2 r j))
      (fun j => k0_pay24 q (View.ld M r0_12) (View.ld M r0_13) (ix2 r j))
      (attend (fun i => q (ix2 r ⟨384 + i.val, by omega⟩)) (fun m i => View.ld M r0_14 (ix3 0 m i)) fun m i => View.ld M r0_15 (ix3 0 m i))
      = heads (fun n => q (ix2 r n)) fun m i => M (ix3 0 m i) := by
  rw [← joined_heads]
  refine joined_congr ?_ ?_ ?_ ?_
  · rw [← attend_head _ _ 0 (fun i => congrArg (fun n => q (ix2 r n)) (Fin.ext (by show i.val = 0 + i.val; omega) : (⟨i.val, by omega⟩ : Fin 512) = _)) (keys_0 M) (values_0 M)]
    exact funext fun j => second_0 _ _ _ r j
  · rw [← attend_head _ _ 1 (fun i => rfl) (keys_1 M) (values_1 M)]
    exact funext fun j => second_1 _ _ _ r j
  · rw [← attend_head _ _ 2 (fun i => rfl) (keys_2 M) (values_2 M)]
    exact funext fun j => second_2 _ _ _ r j
  · exact attend_head _ _ 3 (fun i => rfl) (keys_3 M) (values_3 M)

/-- What the call returns for row `r` of the operands. -/
abbrev rowOf : Fin 2048 → EReal :=
  row (fun j => x (ix2 r j)) (fun j => y (ix2 r j)) (fun j => H (ix2 r j)) (fun m i => M (ix3 0 m i)) (fun j => g (ix2 0 j)) (fun j n => A (ix2 j n))
    (fun j n => B (ix2 j n)) (fun j => P (ix2 0 j)) (fun j => W (ix2 0 j)) (fun j n => Q (ix2 j n)) (fun j n => O (ix2 j n)) (fun j => Z (ix2 0 j))

theorem first_row (n : Fin 2048) :
    (k0_pay28 (k0_pay3 (k0_pay1 x g A y B) H P) (k0_pay18 (k0_pay16 (k0_pay6 (k0_pay4 (k0_pay1 x g A y B) H P W) Q)
      (k0_pay11 (k0_pay9 (View.ld M r0_9)) (k0_pay10 (k0_pay4 (k0_pay1 x g A y B) H P W) Q (View.ld M r0_8)))
      (k0_pay12 (k0_pay6 (k0_pay4 (k0_pay1 x g A y B) H P W) Q) (View.ld M r0_10) (View.ld M r0_11)) (k0_pay13 (View.ld M r0_12)) (k0_pay14 (View.ld M r0_13))
      (k0_pay15 (k0_pay6 (k0_pay4 (k0_pay1 x g A y B) H P W) Q)) (View.ld M r0_14) (View.ld M r0_15)) O) Z (ix2 r n) : EReal)
      = rowOf x y H M g A B P W Q O Z r n := by
  rw [pay28_apply]
  simp only [pay18_apply]
  rw [first_heads]
  simp only [query_first, pay3_apply, pay1_apply]
  rfl

theorem second_row (n : Fin 2048) :
    (k0_pay29 (k0_pay7 (k0_pay5 (k0_pay2 x g) A y B) H P) (k0_pay19 (k0_pay17 (k0_pay8 (k0_pay5 (k0_pay2 x g) A y B) H P W) Q) (View.ld M r0_8) (View.ld M r0_9))
      (k0_pay23 (k0_pay20 (View.ld M r0_11)) (k0_pay21 (k0_pay17 (k0_pay8 (k0_pay5 (k0_pay2 x g) A y B) H P W) Q) (View.ld M r0_10))
        (k0_pay22 (k0_pay17 (k0_pay8 (k0_pay5 (k0_pay2 x g) A y B) H P W) Q) (View.ld M r0_10)))
      (k0_pay24 (k0_pay17 (k0_pay8 (k0_pay5 (k0_pay2 x g) A y B) H P W) Q) (View.ld M r0_12) (View.ld M r0_13)) (k0_pay25 (View.ld M r0_15))
      (k0_pay26 (k0_pay17 (k0_pay8 (k0_pay5 (k0_pay2 x g) A y B) H P W) Q) (View.ld M r0_14))
      (k0_pay27 (k0_pay17 (k0_pay8 (k0_pay5 (k0_pay2 x g) A y B) H P W) Q) (View.ld M r0_14)) O Z (ix2 r n) : EReal)
      = rowOf x y H M g A B P W Q O Z r n := by
  rw [second_join, second_heads]
  simp only [query_second, pay7_apply, pay5_apply]
  rfl

end Chunks

end Cert.MixIdeal.Rows

end
-- ==== Proof.MixArray.lean ====
/- The mixer's output call's result as a whole array. -/
module

public import proofs.«01_k».proof.Proof.MixBlocks
public import proofs.«01_k».proof.Proof.Gen.MixIdeal.Value
public import Idealize.ShloMosaic.Lib.Pipeline.ValueKit

@[expose] public section

set_option maxRecDepth 16384

noncomputable section

namespace Cert.MixIdeal.Rows

open Cert.MixIdeal Cert.MixIdeal.Gen Cert.MixRow
open Idealize.ShloMosaic Idealize.ShloMosaic.TcCoe

/-! ## The two halves of a block's rows -/

theorem ld_upper {e : EltTy} (X : Vec Ideal S512x2048 e) (r : Fin 256) (k : Fin 2048) : View.ld X r0_4 (ix2 r k) = X (ix2 ⟨r.val, by omega⟩ k) :=
  View.ld_unit_apply_of _ _ _ _ _ _ (by intro a; match a with | ⟨0, _⟩ => exact (Nat.zero_add _).symm | ⟨1, _⟩ => exact (Nat.zero_add _).symm)
theorem ld_lower {e : EltTy} (X : Vec Ideal S512x2048 e) (r : Fin 256) (k : Fin 2048) : View.ld X r0_7 (ix2 r k) = X (ix2 ⟨256 + r.val, by omega⟩ k) :=
  View.ld_unit_apply_of _ _ _ _ _ _ (by intro a; match a with | ⟨0, _⟩ => rfl | ⟨1, _⟩ => exact (Nat.zero_add _).symm)
theorem ld_upper_in {e : EltTy} (X : Vec Ideal S512x1024 e) (r : Fin 256) (k : Fin 1024) : View.ld X r0_0 (ix2 r k) = X (ix2 ⟨r.val, by omega⟩ k) :=
  View.ld_unit_apply_of _ _ _ _ _ _ (by intro a; match a with | ⟨0, _⟩ => exact (Nat.zero_add _).symm | ⟨1, _⟩ => exact (Nat.zero_add _).symm)
theorem ld_lower_in {e : EltTy} (X : Vec Ideal S512x1024 e) (r : Fin 256) (k : Fin 1024) : View.ld X r0_3 (ix2 r k) = X (ix2 ⟨256 + r.val, by omega⟩ k) :=
  View.ld_unit_apply_of _ _ _ _ _ _ (by intro a; match a with | ⟨0, _⟩ => rfl | ⟨1, _⟩ => exact (Nat.zero_add _).symm)

theorem whole_1 {e : EltTy} (X : Vec Ideal S1x1024 e) : View.ld X r0_1 = X := View.ld_unit_lit (h := by decide) _ _
theorem whole_2 {e : EltTy} (X : Vec Ideal S1024x2048 e) : View.ld X r0_2 = X := View.ld_unit_lit (h := by decide) _ _
theorem whole_5 {e : EltTy} (X : Vec Ideal S1x2048 e) : View.ld X r0_5 = X := View.ld_unit_lit (h := by decide) _ _
theorem whole_6 {e : EltTy} (X : Vec Ideal S2048x512 e) : View.ld X r0_6 = X := View.ld_unit_lit (h := by decide) _ _
theorem whole_16 {e : EltTy} (X : Vec Ideal S512x2048 e) : View.ld X r0_16 = X := View.ld_unit_lit (h := by decide) _ _

theorem row_congr {s s' y y' : Fin 1024 → EReal} {h h' : Fin 2048 → EReal} (hs : s = s') (hy : y = y') (hh : h = h') {kv : Fin 256 → Fin 1024 → EReal}
    {g : Fin 1024 → EReal} {A B : Fin 1024 → Fin 2048 → EReal} {p r : Fin 2048 → EReal} {Q : Fin 2048 → Fin 512 → EReal} {O : Fin 512 → Fin 2048 → EReal}
    {z : Fin 2048 → EReal} : row s y h kv g A B p r Q O z = row s' y' h' kv g A B p r Q O z := by
  rw [hs, hy, hh]

/-! ## A row of a block -/

section Block

variable (x0 : Vec Ideal S512x1024 .f32) (x1 : Vec Ideal S512x1024 .bf16) (x2 : Vec Ideal S512x2048 .f32) (x3 : Vec Ideal S1x256x1024 .bf16)
  (x4 : Vec Ideal S1x1024 .f32) (x5 x6 : Vec Ideal S1024x2048 .bf16) (x7 x8 : Vec Ideal S1x2048 .f32) (x9 : Vec Ideal S2048x512 .bf16)
  (x10 : Vec Ideal S512x2048 .bf16) (x11 : Vec Ideal S1x2048 .f32)

def blockRow (r : Fin 512) : Fin 2048 → EReal :=
  row (fun j => x0 (ix2 r j)) (fun j => x1 (ix2 r j)) (fun j => x2 (ix2 r j)) (fun m i => x3 (ix3 0 m i)) (fun j => x4 (ix2 0 j)) (fun j n => x5 (ix2 j n))
    (fun j n => x6 (ix2 j n)) (fun j => x7 (ix2 0 j)) (fun j => x8 (ix2 0 j)) (fun j n => x9 (ix2 j n)) (fun j n => x10 (ix2 j n)) (fun j => x11 (ix2 0 j))

theorem blockRow_eq {a b : Fin 512} {k l : Fin 2048} (h0 : a.val = b.val) (h1 : k.val = l.val) :
    blockRow x0 x1 x2 x3 x4 x5 x6 x7 x8 x9 x10 x11 a k = blockRow x0 x1 x2 x3 x4 x5 x6 x7 x8 x9 x10 x11 b l := by
  rw [Fin.ext h0, Fin.ext h1]

theorem upper_rows (r : Fin 256) (n : Fin 2048) :
    rowOf (View.ld x0 r0_0) (View.ld x1 r0_0) (View.ld x2 r0_4) x3 x4 x5 x6 x7 x8 x9 x10 x11 r n
      = blockRow x0 x1 x2 x3 x4 x5 x6 x7 x8 x9 x10 x11 ⟨r.val, by omega⟩ n := by
  exact congrFun (row_congr (funext fun j => ld_upper_in x0 r j) (funext fun j => ld_upper_in x1 r j) (funext fun j => ld_upper x2 r j)) n

theorem lower_rows (r : Fin 256) (n : Fin 2048) :
    rowOf (View.ld x0 r0_3) (View.ld x1 r0_3) (View.ld x2 r0_7) x3 x4 x5 x6 x7 x8 x9 x10 x11 r n
      = blockRow x0 x1 x2 x3 x4 x5 x6 x7 x8 x9 x10 x11 ⟨256 + r.val, by omega⟩ n := by
  exact congrFun (row_congr (funext fun j => ld_lower_in x0 r j) (funext fun j => ld_lower_in x1 r j) (funext fun j => ld_lower x2 r j)) n

theorem out_apply (r : Fin 512) (n : Fin 2048) :
    (out0_12 x0 x1 x2 x3 x4 x5 x6 x7 x8 x9 x10 x11 (ix2 r n) : EReal) = blockRow x0 x1 x2 x3 x4 x5 x6 x7 x8 x9 x10 x11 r n := by
  unfold_out out0_12
  simp only [whole_1, whole_2, whole_5, whole_6, whole_16]
  canon_tiles y h
  · idx_vars y
    exact ((second_row _ _ _ x3 x4 x5 x6 x7 x8 x9 x10 x11 y0 y1).trans (lower_rows x0 x1 x2 x3 x4 x5 x6 x7 x8 x9 x10 x11 y0 y1)).trans
      (blockRow_eq x0 x1 x2 x3 x4 x5 x6 x7 x8 x9 x10 x11 h0.symm h1.symm)
  · idx_vars y
    exact ((first_row _ _ _ x3 x4 x5 x6 x7 x8 x9 x10 x11 y0 y1).trans (upper_rows x0 x1 x2 x3 x4 x5 x6 x7 x8 x9 x10 x11 y0 y1)).trans
      (blockRow_eq x0 x1 x2 x3 x4 x5 x6 x7 x8 x9 x10 x11 h0.symm h1.symm)

end Block

/-! ## The call, off its arguments -/

/-- Row `R`, with the memory of its own sequence. -/
def mixed_mem (S : Vec Ideal S16384x1024 .f32) (Y : Vec Ideal S16384x1024 .bf16) (H : Vec Ideal S16384x2048 .f32) (M : Vec Ideal S8x256x1024 .bf16)
    (g : Vec Ideal S1024 .f32) (A : Vec Ideal S2048x2048 .bf16) (p w : Vec Ideal S2048 .f32) (Q : Vec Ideal S2048x512 .bf16) (O : Vec Ideal S512x2048 .bf16)
    (z : Vec Ideal S2048 .f32) (R : Fin 16384) : Fin 2048 → EReal :=
  row (fun j => S (ix2 R j)) (fun j => Y (ix2 R j)) (fun j => H (ix2 R j)) (fun m i => M (ix3 ⟨R.val / 2048, by omega⟩ m i)) (fun j => g (ix1 j))
    (fun j n => A (ix2 ⟨j.val, by omega⟩ n)) (fun j n => A (ix2 ⟨1024 + j.val, by omega⟩ n)) (fun j => p (ix1 j)) (fun j => w (ix1 j))
    (fun j n => Q (ix2 j n)) (fun j n => O (ix2 j n)) (fun j => z (ix1 j))

variable (m : (ℓ : Loc nD τ sig) → Buf (Elt Ideal) ℓ) (c : Dev nD)

abbrev sA : Vec Ideal S16384x1024 .f32 := m ((c : Thread nD τ).loc main_arg0)
abbrev yA : Vec Ideal S16384x1024 .bf16 := m ((c : Thread nD τ).loc main_arg1)
abbrev hA : Vec Ideal S16384x2048 .f32 := m ((c : Thread nD τ).loc main_arg2)
abbrev kvA : Vec Ideal S8x256x1024 .bf16 := m ((c : Thread nD τ).loc main_arg3)
abbrev gA : Vec Ideal S1024 .f32 := m ((c : Thread nD τ).loc main_arg4)
abbrev outA : Vec Ideal S2048x2048 .bf16 := m ((c : Thread nD τ).loc main_arg5)
abbrev pA : Vec Ideal S2048 .f32 := m ((c : Thread nD τ).loc main_arg6)
abbrev wA : Vec Ideal S2048 .f32 := m ((c : Thread nD τ).loc main_arg7)
abbrev qA : Vec Ideal S2048x512 .bf16 := m ((c : Thread nD τ).loc main_arg8)
abbrev oA : Vec Ideal S512x2048 .bf16 := m ((c : Thread nD τ).loc main_arg9)
abbrev zA : Vec Ideal S2048 .f32 := m ((c : Thread nD τ).loc main_arg10)

theorem entry4 (j : Fin 1024) : (V m c main_v0 (ix2 0 j) : EReal) = gA m c (ix1 j) := by
  unfold V
  after_reads_at
theorem entry7 (j : Fin 2048) : (V m c main_v1 (ix2 0 j) : EReal) = pA m c (ix1 j) := by
  unfold V
  after_reads_at
theorem entry8 (j : Fin 2048) : (V m c main_v2 (ix2 0 j) : EReal) = wA m c (ix1 j) := by
  unfold V
  after_reads_at
theorem entry11 (j : Fin 2048) : (V m c main_v3 (ix2 0 j) : EReal) = zA m c (ix1 j) := by
  unfold V
  after_reads_at

/-- Where the windows stand at a grid point. -/
theorem idx : ∀ t : Fin cfg0.N,
    win0_0.index t = ![t.val, 0] ∧ win0_1.index t = ![t.val, 0] ∧ win0_2.index t = ![t.val, 0] ∧ win0_3.index t = ![t.val / 4, 0, 0]
      ∧ win0_4.index t = ![0, 0] ∧ win0_5.index t = ![0, 0] ∧ win0_6.index t = ![1, 0] ∧ win0_7.index t = ![0, 0] ∧ win0_8.index t = ![0, 0]
      ∧ win0_9.index t = ![0, 0] ∧ win0_10.index t = ![0, 0] ∧ win0_11.index t = ![0, 0] ∧ win0_12.index t = ![t.val, 0] := by
  decide +kernel

theorem points (t : Fin cfg0.N) : t.val < 32 := t.isLt

/-- The row of the array that is row `r` of a point's block. -/
def rowAt (t : Fin cfg0.N) (r : Fin 512) : Fin 16384 := ⟨512 * t.val + r.val, by have := points t; omega⟩
def seqAt (t : Fin cfg0.N) : Fin 8 := ⟨t.val / 4, by have := points t; omega⟩

theorem seq_of (t : Fin cfg0.N) (r : Fin 512) (h : (rowAt t r).val / 2048 < 8) : (⟨(rowAt t r).val / 2048, h⟩ : Fin 8) = seqAt t :=
  Fin.ext (by show (512 * t.val + r.val) / 2048 = t.val / 4; omega)

variable (t : Fin cfg0.N)

theorem s_apply (r : Fin 512) (k : Fin 1024) : (iblk m c 0 t (ix2 r k) : EReal) = sA m c (ix2 (rowAt t r) k) := by
  have := points t
  blk_ext [iblk, V_main_arg0, idx t, rowAt]
theorem y_apply (r : Fin 512) (k : Fin 1024) : (iblk m c 1 t (ix2 r k) : EReal) = yA m c (ix2 (rowAt t r) k) := by
  have := points t
  blk_ext [iblk, V_main_arg1, idx t, rowAt]
theorem h_apply (r : Fin 512) (k : Fin 2048) : (iblk m c 2 t (ix2 r k) : EReal) = hA m c (ix2 (rowAt t r) k) := by
  have := points t
  blk_ext [iblk, V_main_arg2, idx t, rowAt]
theorem kv_apply (i : Fin 256) (k : Fin 1024) : (iblk m c 3 t (ix3 0 i k) : EReal) = kvA m c (ix3 (seqAt t) i k) := by
  have := points t
  blk_ext [iblk, V_main_arg3, idx t, seqAt]
theorem g_apply (k : Fin 1024) : (iblk m c 4 t (ix2 0 k) : EReal) = gA m c (ix1 k) := by
  rw [← entry4]
  blk_ext [iblk, idx t]
theorem a_apply (j : Fin 1024) (k : Fin 2048) : (iblk m c 5 t (ix2 j k) : EReal) = outA m c (ix2 ⟨j.val, by omega⟩ k) := by
  blk_ext [iblk, V_main_arg5, idx t]
theorem b_apply (j : Fin 1024) (k : Fin 2048) : (iblk m c 6 t (ix2 j k) : EReal) = outA m c (ix2 ⟨1024 + j.val, by omega⟩ k) := by
  blk_ext [iblk, V_main_arg5, idx t]
theorem p_apply (k : Fin 2048) : (iblk m c 7 t (ix2 0 k) : EReal) = pA m c (ix1 k) := by
  rw [← entry7]
  blk_ext [iblk, idx t]
theorem w_apply (k : Fin 2048) : (iblk m c 8 t (ix2 0 k) : EReal) = wA m c (ix1 k) := by
  rw [← entry8]
  blk_ext [iblk, idx t]
theorem q_apply (j : Fin 2048) (k : Fin 512) : (iblk m c 9 t (ix2 j k) : EReal) = qA m c (ix2 j k) := by
  blk_ext [iblk, V_main_arg8, idx t]
theorem o_apply (j : Fin 512) (k : Fin 2048) : (iblk m c 10 t (ix2 j k) : EReal) = oA m c (ix2 j k) := by
  blk_ext [iblk, V_main_arg9, idx t]
theorem z_apply (k : Fin 2048) : (iblk m c 11 t (ix2 0 k) : EReal) = zA m c (ix1 k) := by
  rw [← entry11]
  blk_ext [iblk, idx t]

theorem block_eq (r : Fin 512) :
    blockRow (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) r
      = mixed_mem (sA m c) (yA m c) (hA m c) (kvA m c) (gA m c) (outA m c) (pA m c) (wA m c) (qA m c) (oA m c) (zA m c) (rowAt t r) := by
  unfold blockRow mixed_mem
  rw [seq_of]
  simp only [s_apply, y_apply, h_apply, kv_apply, g_apply, a_apply, b_apply, p_apply, w_apply, q_apply, o_apply, z_apply]

/-- The result: each row of the stream after the mixer's output and the memory. -/
def result : Vec Ideal S16384x2048 .f32 := fun y =>
  mixed_mem (sA m c) (yA m c) (hA m c) (kvA m c) (gA m c) (outA m c) (pA m c) (wA m c) (qA m c) (oA m c) (zA m c) (y 0) (y 1)

theorem arr12 : (dats m 0 c).arrAt 12 cfg0.N = result m c := by
  refine (dats m 0 c).arrAt_eq_of_covers 12 _ (by decide +kernel) fun t _ y => ?_
  have := points t
  blk_simp
  rw [after0_12]
  idx_vars y
  refine (out_apply _ _ _ _ _ _ _ _ _ _ _ _ y0 y1).trans ?_
  rw [block_eq]
  show result m c (ix2 (rowAt t y0) y1) = _
  blk_ext [idx t, rowAt]

end Cert.MixIdeal.Rows

end
-- ==== Proof.MixReference.lean ====
/- The mixer's output call's reference over the extended reals: the same rows, with the head groups side by side and every
   head of every sequence at once. -/
module

public import proofs.«01_k».proof.Proof.MixArray
public import proofs.«01_k».proof.Proof.Gen.MixRefIdeal.Run
public import Idealize.ShloMosaic.Lib.Pointwise
public import Idealize.ShloMosaic.Lib.KernelVsHost

@[expose] public section

set_option maxRecDepth 16384

noncomputable section

namespace Cert.MixRefIdeal.Rows

open Idealize.ShloMosaic Idealize.ShloMosaic.TcCoe Cert.MixRefIdeal Cert.MixRefIdeal.Gen Cert.MixRow

section Stages

variable (S : FVec Ideal S16384x1024 .f32) (Y : FVec Ideal S16384x1024 .bf16) (H X : FVec Ideal S16384x2048 .f32) (M : FVec Ideal S8x256x1024 .bf16)
  (g : FVec Ideal S1024 .f32) (A : FVec Ideal S2048x2048 .bf16) (p w : FVec Ideal S2048 .f32) (Q : FVec Ideal S2048x512 .bf16) (O : FVec Ideal S512x2048 .bf16)
  (z : FVec Ideal S2048 .f32)
  (q : FVec Ideal S8x2048x4x128 .f32) (k v : FVec Ideal S8x256x4x128 .f32) (s e : FVec Ideal S8x4x2048x256 .f32) (t : FVec Ideal S8x4x2048 .f32)

/-! ## The reference, a stage at a time -/

/-- The stick-breaking heads over their root mean squares, times the weights, -/
def left : FVec Ideal S16384x1024 .f32 :=
  mulf (mulf S (broadcastInDim S16384x1024 ![0, 1] bcast_S16384x1_S16384x1024_0_1 (Host.rsqrt (addf (Host.divf
    (broadcastInDim S16384x1 ![0] bcast_S16384_S16384x1_0 (Host.reduceAdd (mulf S S) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- beside the other group, -/
def both : FVec Ideal S16384x2048 .f32 :=
  concatenate S16384x2048 1 [⟨S16384x1024, left S g⟩, ⟨S16384x1024, extf .f32 Y bitsLt_bf16_f32⟩] concatenates_S16384x1024_S16384x1024_S16384x2048_d1

/-- against the output weights; -/
def outward (X : FVec Ideal S16384x2048 .f32) : FVec Ideal S16384x2048 .f32 :=
  Host.dotGeneral dot_S16384x2048_S2048x2048_S16384x2048_1_0_0_1_n_n none X (extf .f32 A bitsLt_bf16_f32)

/-- the stream's rows over their root mean squares, times the weights, -/
def normed : FVec Ideal S16384x2048 .f32 :=
  mulf (mulf X (broadcastInDim S16384x2048 ![0, 1] bcast_S16384x1_S16384x2048_0_1 (Host.rsqrt (addf (Host.divf
    (broadcastInDim S16384x1 ![0] bcast_S16384_S16384x1_0 (Host.reduceAdd (mulf X X) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 p))

/-- added to the stream; -/
def stream : FVec Ideal S16384x2048 .f32 := addf H (normed X p)

/-- the queries by head, -/
def queries : FVec Ideal S8x2048x4x128 .f32 :=
  shapeCast _ (Host.dotGeneral dot_S16384x2048_S2048x512_S16384x512_1_0_0_1_n_n none X (extf .f32 Q bitsLt_bf16_f32)) shapeCasts_S16384x512_S8x2048x4x128

/-- the memory by keys and values and by head, -/
def memory : FVec Ideal S8x256x2x4x128 .f32 := shapeCast _ (extf .f32 M bitsLt_bf16_f32) shapeCasts_S8x256x1024_S8x256x2x4x128
def keys : FVec Ideal S8x256x4x128 .f32 :=
  shapeCast _ (extractStridedSlice S8x256x1x4x128 ![0, 0, 0, 0, 0] (memory M) slices_S8x256x2x4x128_S8x256x1x4x128_0_0_0_0_0) shapeCasts_S8x256x1x4x128_S8x256x4x128
def vals : FVec Ideal S8x256x4x128 .f32 :=
  shapeCast _ (extractStridedSlice S8x256x1x4x128 ![0, 0, 1, 0, 0] (memory M) slices_S8x256x2x4x128_S8x256x1x4x128_0_0_1_0_0) shapeCasts_S8x256x1x4x128_S8x256x4x128

/-- the scaled scores, -/
def scores : FVec Ideal S8x4x2048x256 .f32 :=
  mulf (Host.dotGeneral dot_S8x2048x4x128_S8x256x4x128_S8x4x2048x256_3_3_1_1_02_02 none q k)
    (broadcastInDim S8x4x2048x256 ![] bcast_S_S8x4x2048x256 (constant S_ .f32 0x3DB504F3#32))

/-- the largest of each row, -/
def tops : FVec Ideal S8x4x2048 .f32 :=
  Host.reduce FloatOps.maximumf s (constant S_ .f32 0xFF800000#32) reducesTo_S8x4x2048x256_S8x4x2048_d3 h_S_

/-- the exponentials off it, -/
def expos : FVec Ideal S8x4x2048x256 .f32 :=
  Host.exp (subf s (broadcastInDim S8x4x2048x256 ![0, 1, 2, 3] bcast_S8x4x2048x1_S8x4x2048x256_0_1_2_3 (broadcastInDim S8x4x2048x1 ![0, 1, 2]
    bcast_S8x4x2048_S8x4x2048x1_0_1_2 (maximumf (broadcastInDim S8x4x2048 ![] bcast_S_S8x4x2048 (constant S_ .f32 0xFF800000#32)) t))))

/-- the weights, -/
def weights : FVec Ideal S8x4x2048x256 .f32 :=
  Host.divf e (broadcastInDim S8x4x2048x256 ![0, 1, 2, 3] bcast_S8x4x2048x1_S8x4x2048x256_0_1_2_3 (broadcastInDim S8x4x2048x1 ![0, 1, 2]
    bcast_S8x4x2048_S8x4x2048x1_0_1_2 (Host.reduceAdd e (constant S_ .f32 0x00000000#32) reducesTo_S8x4x2048x256_S8x4x2048_d3 h_S_)))

/-- the values under them, -/
def under : FVec Ideal S16384x512 .f32 :=
  shapeCast _ (transpose S8x2048x4x128 [0, 3, 1, 2] (Host.dotGeneral dot_S8x256x4x128_S8x4x2048x256_S8x4x128x2048_1_3_3_2_02_01 none v e)
    transposes_S8x4x128x2048_S8x2048x4x128_0_3_1_2) shapeCasts_S8x2048x4x128_S16384x512

/-- and what the memory adds. -/
def recalled (u : FVec Ideal S16384x512 .f32) : FVec Ideal S16384x2048 .f32 :=
  Host.dotGeneral dot_S16384x512_S512x2048_S16384x2048_1_0_0_1_n_n none u (extf .f32 O bitsLt_bf16_f32)

/-! ## The stages at an index -/

theorem left_apply (R : Fin 16384) (j : Fin 1024) :
    (left S g (ix2 R j) : EReal) = scaled 0x44800000#32 (fun j => S (ix2 R j)) (fun j => g (ix1 j)) j := by
  unfold left scaled
  pointwise

theorem both_apply (R : Fin 16384) (j : Fin 2048) :
    (both S Y g (ix2 R j) : EReal) = if h : j.val < 1024 then left S g (ix2 R ⟨j.val, h⟩) else Y (ix2 R ⟨j.val - 1024, by omega⟩) := by
  unfold both
  pointwise

theorem outward_apply (R : Fin 16384) (n : Fin 2048) : (outward A X (ix2 R n) : EReal) = ∑ j, X (ix2 R j) * A (ix2 j n) := by
  unfold outward
  pointwise

theorem normed_apply (R : Fin 16384) (j : Fin 2048) :
    (normed X p (ix2 R j) : EReal) = scaled 0x45000000#32 (fun j => X (ix2 R j)) (fun j => p (ix1 j)) j := by
  unfold normed scaled
  pointwise

theorem stream_apply (R : Fin 16384) (j : Fin 2048) :
    (stream H X p (ix2 R j) : EReal) = added (fun j => H (ix2 R j)) (fun j => X (ix2 R j)) (fun j => p (ix1 j)) j := by
  unfold stream added
  rw [← normed_apply]
  rfl

theorem queries_apply (b : Fin 8) (r : Fin 2048) (h : Fin 4) (i : Fin 128) :
    (queries X Q (ix4 b r h i) : EReal) = ∑ j, X (ix2 ⟨2048 * b.val + r.val, by omega⟩ j) * Q (ix2 j ⟨128 * h.val + i.val, by omega⟩) := by
  unfold queries
  pointwise
  simp only [Nat.mul_comm]

theorem keys_apply (b : Fin 8) (m : Fin 256) (h : Fin 4) (i : Fin 128) : (keys M (ix4 b m h i) : EReal) = M (ix3 b m ⟨128 * h.val + i.val, by omega⟩) := by
  unfold keys memory
  pointwise
  simp only [Nat.mul_comm]

theorem vals_apply (b : Fin 8) (m : Fin 256) (h : Fin 4) (i : Fin 128) : (vals M (ix4 b m h i) : EReal) = M (ix3 b m ⟨512 + 128 * h.val + i.val, by omega⟩) := by
  unfold vals memory
  pointwise
  simp only [Nat.mul_comm]

theorem scores_apply (b : Fin 8) (h : Fin 4) (r : Fin 2048) (m : Fin 256) :
    (scores q k (ix4 b h r m) : EReal) = score (fun i => q (ix4 b r h i)) (fun m i => k (ix4 b m h i)) m := by
  unfold scores score
  pointwise

theorem tops_apply (b : Fin 8) (h : Fin 4) (r : Fin 2048) : (tops s (ix3 b h r) : EReal) = top fun m => s (ix4 b h r m) := by
  unfold tops top
  pointwise

theorem expos_apply (b : Fin 8) (h : Fin 4) (r : Fin 2048) (m : Fin 256) :
    (expos s t (ix4 b h r m) : EReal) = Ideal.exp (s (ix4 b h r m) - max (Ideal.ofBits .f32 0xFF800000#32) (t (ix3 b h r))) := by
  unfold expos
  pointwise

theorem weights_apply (b : Fin 8) (h : Fin 4) (r : Fin 2048) (m : Fin 256) :
    (weights e (ix4 b h r m) : EReal) = Ideal.div (e (ix4 b h r m)) (∑ i, e (ix4 b h r i)) := by
  unfold weights
  pointwise

theorem under_apply (R : Fin 16384) (n : Fin 512) :
    (under v e (ix2 R n) : EReal) = ∑ m, v (ix4 ⟨R.val / 2048, by omega⟩ m ⟨n.val / 128, by omega⟩ ⟨n.val % 128, Nat.mod_lt _ (by decide)⟩)
      * e (ix4 ⟨R.val / 2048, by omega⟩ ⟨n.val / 128, by omega⟩ ⟨R.val % 2048, Nat.mod_lt _ (by decide)⟩ m) := by
  unfold under
  pointwise

theorem recalled_apply (u : FVec Ideal S16384x512 .f32) (R : Fin 16384) (n : Fin 2048) : (recalled O u (ix2 R n) : EReal) = ∑ j, u (ix2 R j) * O (ix2 j n) := by
  unfold recalled
  pointwise

/-- Both groups against the weights are each group against its half. -/
theorem outward_row (R : Fin 16384) (n : Fin 2048) :
    (outward A (both S Y g) (ix2 R n) : EReal) = mixed (fun j => S (ix2 R j)) (fun j => Y (ix2 R j)) (fun j => g (ix1 j))
      (fun j n => A (ix2 ⟨j.val, by omega⟩ n)) (fun j n => A (ix2 ⟨1024 + j.val, by omega⟩ n)) n := by
  rw [outward_apply]
  refine (Fin.sum_univ_add (a := 1024) (b := 1024) fun j : Fin 2048 => (both S Y g (ix2 R j) * A (ix2 j n) : EReal)).trans ?_
  refine congrArg₂ (· + ·) (Finset.sum_congr rfl fun j _ => ?_) (Finset.sum_congr rfl fun j _ => ?_)
  · have e : (both S Y g (ix2 R (Fin.castAdd 1024 j : Fin 2048)) : EReal) = scaled 0x44800000#32 (fun j => S (ix2 R j)) (fun j => g (ix1 j)) j := by
      rw [both_apply, dif_pos (by exact j.isLt)]
      exact left_apply S g R j
    exact congrArg (· * (A (ix2 ⟨j.val, by omega⟩ n) : EReal)) e
  · have e : (both S Y g (ix2 R (Fin.natAdd 1024 j : Fin 2048)) : EReal) = Y (ix2 R j) := by
      rw [both_apply, dif_neg (by show ¬ 1024 + j.val < 1024; omega)]
      exact congrArg (fun i => (Y (ix2 R i) : EReal)) (Fin.ext (by show 1024 + j.val - 1024 = j.val; omega))
    exact congrArg (· * (A (ix2 ⟨1024 + j.val, by omega⟩ n) : EReal)) e

/-- The weights of a row of scores. -/
theorem soft_apply (b : Fin 8) (h : Fin 4) (r : Fin 2048) (m : Fin 256) :
    (weights (expos s (tops s)) (ix4 b h r m) : EReal) = weight (fun m => s (ix4 b h r m)) m := by
  rw [weights_apply]
  simp only [expos_apply, tops_apply, max_top]
  rfl

/-- The queries of a row of the stream, by head. -/
theorem query_row (R : Fin 16384) (h : Fin 4) (i : Fin 128) :
    (queries (normed X w) Q (ix4 ⟨R.val / 2048, by omega⟩ ⟨R.val % 2048, Nat.mod_lt _ (by decide)⟩ h i) : EReal)
      = query (fun j => X (ix2 R j)) (fun j => w (ix1 j)) (fun j n => Q (ix2 j n)) ⟨128 * h.val + i.val, by omega⟩ := by
  rw [queries_apply]
  unfold query
  have e : (⟨2048 * (R.val / 2048) + R.val % 2048, by omega⟩ : Fin 16384) = R := Fin.ext (Nat.div_add_mod _ _)
  simp only [e, normed_apply]

/-- The values under the weights are the row's heads. -/
theorem under_row (R : Fin 16384) (n : Fin 512) :
    (under (vals M) (weights (expos (scores (queries (normed X w) Q) (keys M)) (tops (scores (queries (normed X w) Q) (keys M))))) (ix2 R n) : EReal)
      = heads (query (fun j => X (ix2 R j)) (fun j => w (ix1 j)) fun j n => Q (ix2 j n)) (fun m i => M (ix3 ⟨R.val / 2048, by omega⟩ m i)) n := by
  rw [under_apply]
  unfold heads head attend
  refine Finset.sum_congr rfl fun m _ => ?_
  rw [mul_comm, soft_apply, vals_apply]
  simp only [scores_apply, query_row, keys_apply]

/-- The whole of the reference, -/
def whole : FVec Ideal S16384x2048 .f32 :=
  stream (stream H (outward A (both S Y g)) p) (recalled O (under (vals M) (weights (expos
    (scores (queries (normed (stream H (outward A (both S Y g)) p) w) Q) (keys M))
    (tops (scores (queries (normed (stream H (outward A (both S Y g)) p) w) Q) (keys M))))))) z

/-- row by row. -/
theorem whole_apply (R : Fin 16384) (n : Fin 2048) :
    (whole S Y H M g A p w Q O z (ix2 R n) : EReal) = Cert.MixIdeal.Rows.mixed_mem S Y H M g A p w Q O z R n := by
  unfold whole
  rw [stream_apply]
  simp only [recalled_apply, under_row]
  simp only [stream_apply, outward_row]
  rfl

end Stages

/-! ## What the reference returns -/

section Named

variable (U : Valuation τ sig (Elt Ideal))

theorem v19_eq : Value.res_main_v19 (F := Ideal) U = outward (U (Proc.devRef .tc main_arg5)) (both (U (Proc.devRef .tc main_arg0)) (U (Proc.devRef .tc main_arg1)) (U (Proc.devRef .tc main_arg4))) := rfl
theorem v33_eq : Value.res_main_v33 (F := Ideal) U = stream (U (Proc.devRef .tc main_arg2)) (Value.res_main_v19 U) (U (Proc.devRef .tc main_arg6)) := rfl
theorem v56_eq : Value.res_main_v56 (F := Ideal) U
    = scores (queries (normed (Value.res_main_v33 U) (U (Proc.devRef .tc main_arg7))) (U (Proc.devRef .tc main_arg8))) (keys (U (Proc.devRef .tc main_arg3))) := rfl
theorem v63_eq : Value.res_main_v63 (F := Ideal) U = expos (Value.res_main_v56 U) (tops (Value.res_main_v56 U)) := rfl
theorem v71_eq : Value.res_main_v71 (F := Ideal) U
    = recalled (U (Proc.devRef .tc main_arg9)) (under (vals (U (Proc.devRef .tc main_arg3))) (weights (Value.res_main_v63 U))) := rfl

theorem res_eq : stream (Value.res_main_v33 (F := Ideal) U) (Value.res_main_v71 U) (U (Proc.devRef .tc main_arg10))
    = whole (U (Proc.devRef .tc main_arg0)) (U (Proc.devRef .tc main_arg1)) (U (Proc.devRef .tc main_arg2)) (U (Proc.devRef .tc main_arg3))
        (U (Proc.devRef .tc main_arg4)) (U (Proc.devRef .tc main_arg5)) (U (Proc.devRef .tc main_arg6)) (U (Proc.devRef .tc main_arg7))
        (U (Proc.devRef .tc main_arg8)) (U (Proc.devRef .tc main_arg9)) (U (Proc.devRef .tc main_arg10)) := by
  rw [v71_eq, v63_eq, v56_eq, v33_eq, v19_eq]
  rfl

end Named

end Cert.MixRefIdeal.Rows

end
-- ==== Proof.MixClaims.lean ====
/- The mixer's output call's claims: the frames, and the equality of its result. -/
module

public import proofs.«01_k».proof.Defs
public import proofs.«01_k».proof.Proof.Gen.Mix.Frame
public import proofs.«01_k».proof.Proof.MixReference

@[expose] public section

set_option maxRecDepth 16384

noncomputable section

namespace Cert.Proof.MixClaims

open Idealize.ShloMosaic Idealize.ShloMosaic.TcCoe Idealize.SL.Sem

theorem frame_p : Cert.quiescent_Mix (hMix := Cert.Mix.Gen.facts) := fun m g _ => Cert.Mix.Gen.frame m g
theorem frame_pi : Cert.quiescent_MixIdeal (hMixIdeal := Cert.MixIdeal.Gen.facts) := fun m g _ => Cert.MixIdeal.Gen.frame m g
theorem frame_ri : Cert.quiescent_MixRefIdeal (hMixRefIdeal := Cert.MixRefIdeal.Gen.facts) := fun m g _ =>
  (θ_run Cert.MixRefIdeal.defs _ _).mono (fun r h => ⟨fun c => (h c).2, sem_eq_zero_of_no_sems (by decide) r.2⟩)
    (Cert.MixRefIdeal.Value.run (F := Ideal) m g)

theorem preserves : Cert.preserves_Mix_MixIdeal := trivial

/-- The reference's result as a whole array. -/
theorem whole_eq (S Y H M g A p w Q O z) : Cert.MixRefIdeal.Rows.whole S Y H M g A p w Q O z
    = fun y : Cert.MixIdeal.S16384x2048.Idx => Cert.MixIdeal.Rows.mixed_mem S Y H M g A p w Q O z (y 0) (y 1) := by
  funext y
  idx_vars y
  exact Cert.MixRefIdeal.Rows.whole_apply S Y H M g A p w Q O z y0 y1

theorem algebraic : Cert.algebraic_MixIdeal_MixRefIdeal (hMixIdeal := Cert.MixIdeal.Gen.facts) (hMixRefIdeal := Cert.MixRefIdeal.Gen.facts) := by
  intro m g m' g' _ hargs
  refine ⟨fun c => Cert.MixIdeal.Rows.result m c, ?_, ?_⟩
  · refine (θ_run Cert.MixIdeal.defs _ _).mono (fun r h c => ?_) (Cert.MixIdeal.Value.run_blocks (F := Ideal) m g)
    obtain ⟨h0, hk⟩ := h c
    exact ⟨h0.trans (Cert.MixIdeal.Rows.arr12 m c), hk⟩
  · refine (θ_run Cert.MixRefIdeal.defs _ _).mono (fun r h c => ?_) (Cert.MixRefIdeal.Value.run (F := Ideal) m' g')
    obtain ⟨h0, hk⟩ := h c
    obtain ⟨e0, e1, e2, e3, e4, e5, e6, e7, e8, e9, e10⟩ := hargs c
    have h1 := h0.trans (Cert.MixRefIdeal.Rows.res_eq _)
    refine ⟨h1.trans ?_, hk⟩
    rw [whole_eq]
    unfold Cert.MixIdeal.Rows.result
    show (fun y : Cert.MixIdeal.S16384x2048.Idx => Cert.MixIdeal.Rows.mixed_mem
      (m' ((c : Thread Cert.MixRefIdeal.nD Cert.MixRefIdeal.τ).loc Cert.MixRefIdeal.main_arg0)) (m' ((c : Thread Cert.MixRefIdeal.nD Cert.MixRefIdeal.τ).loc Cert.MixRefIdeal.main_arg1))
      (m' ((c : Thread Cert.MixRefIdeal.nD Cert.MixRefIdeal.τ).loc Cert.MixRefIdeal.main_arg2)) (m' ((c : Thread Cert.MixRefIdeal.nD Cert.MixRefIdeal.τ).loc Cert.MixRefIdeal.main_arg3))
      (m' ((c : Thread Cert.MixRefIdeal.nD Cert.MixRefIdeal.τ).loc Cert.MixRefIdeal.main_arg4)) (m' ((c : Thread Cert.MixRefIdeal.nD Cert.MixRefIdeal.τ).loc Cert.MixRefIdeal.main_arg5))
      (m' ((c : Thread Cert.MixRefIdeal.nD Cert.MixRefIdeal.τ).loc Cert.MixRefIdeal.main_arg6)) (m' ((c : Thread Cert.MixRefIdeal.nD Cert.MixRefIdeal.τ).loc Cert.MixRefIdeal.main_arg7))
      (m' ((c : Thread Cert.MixRefIdeal.nD Cert.MixRefIdeal.τ).loc Cert.MixRefIdeal.main_arg8)) (m' ((c : Thread Cert.MixRefIdeal.nD Cert.MixRefIdeal.τ).loc Cert.MixRefIdeal.main_arg9))
      (m' ((c : Thread Cert.MixRefIdeal.nD Cert.MixRefIdeal.τ).loc Cert.MixRefIdeal.main_arg10)) (y 0) (y 1)) = _
    rw [e0, e1, e2, e3, e4, e5, e6, e7, e8, e9, e10]

end Cert.Proof.MixClaims

end
-- ==== Proof.SsdClaims.lean ====
/- The scan's claims: the frames. -/
module

public import proofs.«01_k».proof.Defs
public import proofs.«01_k».proof.Proof.Gen.Ssd.Frame
public import proofs.«01_k».proof.Proof.Gen.SsdIdeal.Frame

@[expose] public section

noncomputable section

namespace Cert.Proof.SsdClaims

open Idealize.ShloMosaic Idealize.ShloMosaic.TcCoe

theorem frame_p : Cert.quiescent_Ssd (hSsd := Cert.Ssd.Gen.facts) := fun m g _ => Cert.Ssd.Gen.frame m g
theorem frame_pi : Cert.quiescent_SsdIdeal (hSsdIdeal := Cert.SsdIdeal.Gen.facts) := fun m g _ => Cert.SsdIdeal.Gen.frame m g

theorem preserves : Cert.preserves_Ssd_SsdIdeal := trivial

end Cert.Proof.SsdClaims

end
-- ==== Proof.lean ====
module

public import proofs.«01_k».proof.Defs
public import proofs.«01_k».proof.Proof.Gen.Sb
public import proofs.«01_k».proof.Proof.Gen.Sb.Skeleton
public import proofs.«01_k».proof.Proof.Gen.Sb.Launch
public import proofs.«01_k».proof.Proof.Gen.Sb.Points
public import proofs.«01_k».proof.Proof.Gen.Sb.Frame
public import proofs.«01_k».proof.Proof.Gen.SbIdeal
public import proofs.«01_k».proof.Proof.Gen.SbIdeal.Skeleton
public import proofs.«01_k».proof.Proof.Gen.SbIdeal.Launch
public import proofs.«01_k».proof.Proof.Gen.SbIdeal.Points
public import proofs.«01_k».proof.Proof.Gen.SbIdeal.Frame
public import proofs.«01_k».proof.Proof.Gen.SbRefIdeal
public import proofs.«01_k».proof.Proof.Gen.SbIdeal.Value
public import proofs.«01_k».proof.Proof.Gen.SbRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Proj
public import proofs.«01_k».proof.Proof.Gen.ProjIdeal
public import proofs.«01_k».proof.Proof.Gen.ProjIdeal.Skeleton
public import proofs.«01_k».proof.Proof.Gen.ProjRefIdeal
public import proofs.«01_k».proof.Proof.Gen.Proj.Frame
public import proofs.«01_k».proof.Proof.Gen.ProjIdeal.Frame
public import proofs.«01_k».proof.Proof.Gen.ProjRefIdeal.Run
public import proofs.«01_k».proof.Proof.Gen.Kv
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Ssd
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Frame
public import proofs.«01_k».proof.Proof.SbClaims
public import proofs.«01_k».proof.Proof.FfnClaims
public import proofs.«01_k».proof.Proof.ProjClaims
public import proofs.«01_k».proof.Proof.KvClaims
public import proofs.«01_k».proof.Proof.MixClaims
public import proofs.«01_k».proof.Proof.SsdClaims
public import Idealize.ShloMosaic.Adequacy
public import Idealize.ShloMosaic.Init

@[expose] public section

noncomputable section

namespace Cert.Proof

open Idealize.ShloMosaic Idealize.SL.Sem Cert.Sb

theorem claim : Cert.Claim :=
  ⟨Cert.Sb.Gen.facts, Cert.SbIdeal.Gen.facts, Cert.SbRefIdeal.Gen.facts, Cert.Ffn.Gen.facts, Cert.FfnIdeal.Gen.facts, Cert.FfnRefIdeal.Gen.facts,
    Cert.Proj.Gen.facts, Cert.ProjIdeal.Gen.facts, Cert.ProjRefIdeal.Gen.facts,
    Cert.Kv.Gen.facts, Cert.KvIdeal.Gen.facts, Cert.KvRefIdeal.Gen.facts, Cert.Mix.Gen.facts, Cert.MixIdeal.Gen.facts, Cert.MixRefIdeal.Gen.facts,
    Cert.Ssd.Gen.facts, Cert.SsdIdeal.Gen.facts, SbClaims.preFacts,
    SbClaims.frame_p, SbClaims.frame_pi, SbClaims.frame_pi_pre, SbClaims.frame_ri, SbClaims.frame_ri_pre,
    FfnClaims.frame_p, FfnClaims.frame_pi, FfnClaims.frame_ri, ProjClaims.frame_p, ProjClaims.frame_pi, ProjClaims.frame_ri,
    KvClaims.frame_p, KvClaims.frame_pi, KvClaims.frame_ri, MixClaims.frame_p, MixClaims.frame_pi, MixClaims.frame_ri, SsdClaims.frame_p, SsdClaims.frame_pi,
    SbClaims.preserves, SbClaims.algebraic, FfnClaims.preserves, FfnClaims.algebraic,
    ProjClaims.preserves, ProjClaims.algebraic, KvClaims.preserves, KvClaims.algebraic, MixClaims.preserves, MixClaims.algebraic,
    SsdClaims.preserves⟩

end Cert.Proof

end
